-- ==== Defs.lean ====
def Pre_KernelF (m : (ℓ : Loc Cert.KernelF.nD Cert.KernelF.τ Cert.KernelF.sig) → Buf (Elt Bits) ℓ) : Prop :=
  True

def Pre_KernelFIdeal (m : (ℓ : Loc Cert.KernelFIdeal.nD Cert.KernelFIdeal.τ Cert.KernelFIdeal.sig) → Buf (Elt Ideal) ℓ) : Prop :=
  True

def Pre_RefFIdeal (m : (ℓ : Loc Cert.RefFIdeal.nD Cert.RefFIdeal.τ Cert.RefFIdeal.sig) → Buf (Elt Ideal) ℓ) : Prop :=
  True

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_RefBIdeal (m : (ℓ : Loc Cert.RefBIdeal.nD Cert.RefBIdeal.τ Cert.RefBIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_ffn [hPre_finite_ffn : Cert.Pre_finite_ffn.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5)) (m ((c.tc : Thread Cert.KernelFfnIdeal.nD Cert.KernelFfnIdeal.τ).loc Cert.KernelFfnIdeal.main_arg6))) = (fun _ => 1#1)

def Pre_RefFfnIdeal (m : (ℓ : Loc Cert.RefFfnIdeal.nD Cert.RefFfnIdeal.τ Cert.RefFfnIdeal.sig) → Buf (Elt Ideal) ℓ) : Prop :=
  True

def Pre_RefFfnIdeal_finite_ffn [hPre_finite_ffn : Cert.Pre_finite_ffn.Facts] (m : (ℓ : Loc Cert.RefFfnIdeal.nD Cert.RefFfnIdeal.τ Cert.RefFfnIdeal.sig) → Buf (Elt Ideal) ℓ) : Prop :=
  ∀ c : Dev Cert.RefFfnIdeal.nD,
    (Cert.Pre_finite_ffn.fn (F := Ideal) (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4)) (m ((c.tc : Thread Cert.RefFfnIdeal.nD Cert.RefFfnIdeal.τ).loc Cert.RefFfnIdeal.main_arg5)) (m ((c.tc : Thread Cert.RefFfnIdeal.nD Cert.RefFfnIdeal.τ).loc Cert.RefFfnIdeal.main_arg6))) = (fun _ => 1#1)

def Pre_KernelW (m : (ℓ : Loc Cert.KernelW.nD Cert.KernelW.τ Cert.KernelW.sig) → Buf (Elt Bits) ℓ) : Prop :=
  True

def Pre_KernelWIdeal (m : (ℓ : Loc Cert.KernelWIdeal.nD Cert.KernelWIdeal.τ Cert.KernelWIdeal.sig) → Buf (Elt Ideal) ℓ) : Prop :=
  True

def Pre_RefWIdeal (m : (ℓ : Loc Cert.RefWIdeal.nD Cert.RefWIdeal.τ Cert.RefWIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_RefInIdeal (m : (ℓ : Loc Cert.RefInIdeal.nD Cert.RefInIdeal.τ Cert.RefInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_RefOutIdeal (m : (ℓ : Loc Cert.RefOutIdeal.nD Cert.RefOutIdeal.τ Cert.RefOutIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_RefMixIdeal (m : (ℓ : Loc Cert.RefMixIdeal.nD Cert.RefMixIdeal.τ Cert.RefMixIdeal.sig) → Buf (Elt Ideal) ℓ) : Prop :=
  True

def Pre_KernelProjB (m : (ℓ : Loc Cert.KernelProjB.nD Cert.KernelProjB.τ Cert.KernelProjB.sig) → Buf (Elt Bits) ℓ) : Prop :=
  True

def Pre_KernelProjBIdeal (m : (ℓ : Loc Cert.KernelProjBIdeal.nD Cert.KernelProjBIdeal.τ Cert.KernelProjBIdeal.sig) → Buf (Elt Ideal) ℓ) : Prop :=
  True

def Pre_RefProjBIdeal (m : (ℓ : Loc Cert.RefProjBIdeal.nD Cert.RefProjBIdeal.τ Cert.RefProjBIdeal.sig) → Buf (Elt Ideal) ℓ) : Prop :=
  True

def Pre_KernelMixB (m : (ℓ : Loc Cert.KernelMixB.nD Cert.KernelMixB.τ Cert.KernelMixB.sig) → Buf (Elt Bits) ℓ) : Prop :=
  True

def Pre_KernelMixBIdeal (m : (ℓ : Loc Cert.KernelMixBIdeal.nD Cert.KernelMixBIdeal.τ Cert.KernelMixBIdeal.sig) → Buf (Elt Ideal) ℓ) : Prop :=
  True

def Pre_RefMixBIdeal (m : (ℓ : Loc Cert.RefMixBIdeal.nD Cert.RefMixBIdeal.τ Cert.RefMixBIdeal.sig) → Buf (Elt Ideal) ℓ) : Prop :=
  True

def quiescent_KernelF [hKernelF : Cert.KernelF.Facts] : Prop :=
  ∀ (m : (ℓ : Loc Cert.KernelF.nD Cert.KernelF.τ Cert.KernelF.sig) → Buf (Elt Bits) ℓ) (g : Dev Cert.KernelF.nD → PrngReg), Pre_KernelF m →
    θ_run (Cert.KernelF.defs (F := Bits)) (onTc (τ := Cert.KernelF.τ) (Cert.KernelF.main (F := Bits))) ⟨m, fun _ => 0, g⟩ (fun r => (∀ c : Dev Cert.KernelF.nD,
      r.2.mem ((c.tc : Thread Cert.KernelF.nD Cert.KernelF.τ).loc Cert.KernelF.main_arg0) = m ((c.tc : Thread Cert.KernelF.nD Cert.KernelF.τ).loc Cert.KernelF.main_arg0)
      ∧ r.2.mem ((c.tc : Thread Cert.KernelF.nD Cert.KernelF.τ).loc Cert.KernelF.main_arg1) = m ((c.tc : Thread Cert.KernelF.nD Cert.KernelF.τ).loc Cert.KernelF.main_arg1)
      ∧ r.2.mem ((c.tc : Thread Cert.KernelF.nD Cert.KernelF.τ).loc Cert.KernelF.main_arg2) = m ((c.tc : Thread Cert.KernelF.nD Cert.KernelF.τ).loc Cert.KernelF.main_arg2)
      ∧ r.2.mem ((c.tc : Thread Cert.KernelF.nD Cert.KernelF.τ).loc Cert.KernelF.main_arg3) = m ((c.tc : Thread Cert.KernelF.nD Cert.KernelF.τ).loc Cert.KernelF.main_arg3)
      ∧ r.2.mem ((c.tc : Thread Cert.KernelF.nD Cert.KernelF.τ).loc Cert.KernelF.main_arg4) = m ((c.tc : Thread Cert.KernelF.nD Cert.KernelF.τ).loc Cert.KernelF.main_arg4)
      ∧ r.2.mem ((c.tc : Thread Cert.KernelF.nD Cert.KernelF.τ).loc Cert.KernelF.main_arg5) = m ((c.tc : Thread Cert.KernelF.nD Cert.KernelF.τ).loc Cert.KernelF.main_arg5)
      ∧ r.2.mem ((c.tc : Thread Cert.KernelF.nD Cert.KernelF.τ).loc Cert.KernelF.main_arg6) = m ((c.tc : Thread Cert.KernelF.nD Cert.KernelF.τ).loc Cert.KernelF.main_arg6)
      ∧ r.2.mem ((c.tc : Thread Cert.KernelF.nD Cert.KernelF.τ).loc Cert.KernelF.main_arg7) = m ((c.tc : Thread Cert.KernelF.nD Cert.KernelF.τ).loc Cert.KernelF.main_arg7))
      ∧ r.2.sem = fun _ => 0)

def quiescent_KernelFIdeal [hKernelFIdeal : Cert.KernelFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg), Pre_KernelFIdeal m →
    θ_run (Cert.KernelFIdeal.defs (F := Ideal)) (onTc (τ := Cert.KernelFIdeal.τ) (Cert.KernelFIdeal.main (F := Ideal))) ⟨m, fun _ => 0, g⟩ (fun r => (∀ c : Dev Cert.KernelFIdeal.nD,
      r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
      ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
      ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
      ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
      ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4)
      ∧ r.2.mem ((c.tc : Thread Cert.KernelFIdeal.nD Cert.KernelFIdeal.τ).loc Cert.KernelFIdeal.main_arg5) = m ((c.tc : Thread Cert.KernelFIdeal.nD Cert.KernelFIdeal.τ).loc Cert.KernelFIdeal.main_arg5)
      ∧ r.2.mem ((c.tc : Thread Cert.KernelFIdeal.nD Cert.KernelFIdeal.τ).loc Cert.KernelFIdeal.main_arg6) = m ((c.tc : Thread Cert.KernelFIdeal.nD Cert.KernelFIdeal.τ).loc Cert.KernelFIdeal.main_arg6)
      ∧ r.2.mem ((c.tc : Thread Cert.KernelFIdeal.nD Cert.KernelFIdeal.τ).loc Cert.KernelFIdeal.main_arg7) = m ((c.tc : Thread Cert.KernelFIdeal.nD Cert.KernelFIdeal.τ).loc Cert.KernelFIdeal.main_arg7))
      ∧ r.2.sem = fun _ => 0)

def quiescent_RefFIdeal [hRefFIdeal : Cert.RefFIdeal.Facts] : Prop :=
  ∀ (m : (ℓ : Loc Cert.RefFIdeal.nD Cert.RefFIdeal.τ Cert.RefFIdeal.sig) → Buf (Elt Ideal) ℓ) (g : Dev Cert.RefFIdeal.nD → PrngReg), Pre_RefFIdeal m →
    θ_run (Cert.RefFIdeal.defs (F := Ideal)) (onTc (τ := Cert.RefFIdeal.τ) (Cert.RefFIdeal.main (F := Ideal))) ⟨m, fun _ => 0, g⟩ (fun r => (∀ c : Dev Cert.RefFIdeal.nD,
      r.2.mem ((c.tc : Thread Cert.RefFIdeal.nD Cert.RefFIdeal.τ).loc Cert.RefFIdeal.main_arg0) = m ((c.tc : Thread Cert.RefFIdeal.nD Cert.RefFIdeal.τ).loc Cert.RefFIdeal.main_arg0)
      ∧ r.2.mem ((c.tc : Thread Cert.RefFIdeal.nD Cert.RefFIdeal.τ).loc Cert.RefFIdeal.main_arg1) = m ((c.tc : Thread Cert.RefFIdeal.nD Cert.RefFIdeal.τ).loc Cert.RefFIdeal.main_arg1)
      ∧ r.2.mem ((c.tc : Thread Cert.RefFIdeal.nD Cert.RefFIdeal.τ).loc Cert.RefFIdeal.main_arg2) = m ((c.tc : Thread Cert.RefFIdeal.nD Cert.RefFIdeal.τ).loc Cert.RefFIdeal.main_arg2)
      ∧ r.2.mem ((c.tc : Thread Cert.RefFIdeal.nD Cert.RefFIdeal.τ).loc Cert.RefFIdeal.main_arg3) = m ((c.tc : Thread Cert.RefFIdeal.nD Cert.RefFIdeal.τ).loc Cert.RefFIdeal.main_arg3)
      ∧ r.2.mem ((c.tc : Thread Cert.RefFIdeal.nD Cert.RefFIdeal.τ).loc Cert.RefFIdeal.main_arg4) = m ((c.tc : Thread Cert.RefFIdeal.nD Cert.RefFIdeal.τ).loc Cert.RefFIdeal.main_arg4)
      ∧ r.2.mem ((c.tc : Thread Cert.RefFIdeal.nD Cert.RefFIdeal.τ).loc Cert.RefFIdeal.main_arg5) = m ((c.tc : Thread Cert.RefFIdeal.nD Cert.RefFIdeal.τ).loc Cert.RefFIdeal.main_arg5)
      ∧ r.2.mem ((c.tc : Thread Cert.RefFIdeal.nD Cert.RefFIdeal.τ).loc Cert.RefFIdeal.main_arg6) = m ((c.tc : Thread Cert.RefFIdeal.nD Cert.RefFIdeal.τ).loc Cert.RefFIdeal.main_arg6)
      ∧ r.2.mem ((c.tc : Thread Cert.RefFIdeal.nD Cert.RefFIdeal.τ).loc Cert.RefFIdeal.main_arg7) = m ((c.tc : Thread Cert.RefFIdeal.nD Cert.RefFIdeal.τ).loc Cert.RefFIdeal.main_arg7))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2)
      ∧ r.2.mem ((c.tc : Thread Cert.KernelB.nD Cert.KernelB.τ).loc Cert.KernelB.main_arg3) = m ((c.tc : Thread Cert.KernelB.nD Cert.KernelB.τ).loc Cert.KernelB.main_arg3)
      ∧ r.2.mem ((c.tc : Thread Cert.KernelB.nD Cert.KernelB.τ).loc Cert.KernelB.main_arg4) = m ((c.tc : Thread Cert.KernelB.nD Cert.KernelB.τ).loc Cert.KernelB.main_arg4)
      ∧ r.2.mem ((c.tc : Thread Cert.KernelB.nD Cert.KernelB.τ).loc Cert.KernelB.main_arg5) = m ((c.tc : Thread Cert.KernelB.nD Cert.KernelB.τ).loc Cert.KernelB.main_arg5)
      ∧ r.2.mem ((c.tc : Thread Cert.KernelB.nD Cert.KernelB.τ).loc Cert.KernelB.main_arg6) = m ((c.tc : Thread Cert.KernelB.nD Cert.KernelB.τ).loc Cert.KernelB.main_arg6)
      ∧ r.2.mem ((c.tc : Thread Cert.KernelB.nD Cert.KernelB.τ).loc Cert.KernelB.main_arg7) = m ((c.tc : Thread Cert.KernelB.nD Cert.KernelB.τ).loc Cert.KernelB.main_arg7)
      ∧ r.2.mem ((c.tc : Thread Cert.KernelB.nD Cert.KernelB.τ).loc Cert.KernelB.main_arg8) = m ((c.tc : Thread Cert.KernelB.nD Cert.KernelB.τ).loc Cert.KernelB.main_arg8)
      ∧ r.2.mem ((c.tc : Thread Cert.KernelB.nD Cert.KernelB.τ).loc Cert.KernelB.main_arg9) = m ((c.tc : Thread Cert.KernelB.nD Cert.KernelB.τ).loc Cert.KernelB.main_arg9)
      ∧ r.2.mem ((c.tc : Thread Cert.KernelB.nD Cert.KernelB.τ).loc Cert.KernelB.main_arg10) = m ((c.tc : Thread Cert.KernelB.nD Cert.KernelB.τ).loc Cert.KernelB.main_arg10))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
      ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
      ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
      ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7)
      ∧ r.2.mem ((c.tc : Thread Cert.KernelBIdeal.nD Cert.KernelBIdeal.τ).loc Cert.KernelBIdeal.main_arg8) = m ((c.tc : Thread Cert.KernelBIdeal.nD Cert.KernelBIdeal.τ).loc Cert.KernelBIdeal.main_arg8)
      ∧ r.2.mem ((c.tc : Thread Cert.KernelBIdeal.nD Cert.KernelBIdeal.τ).loc Cert.KernelBIdeal.main_arg9) = m ((c.tc : Thread Cert.KernelBIdeal.nD Cert.KernelBIdeal.τ).loc Cert.KernelBIdeal.main_arg9)
      ∧ r.2.mem ((c.tc : Thread Cert.KernelBIdeal.nD Cert.KernelBIdeal.τ).loc Cert.KernelBIdeal.main_arg10) = m ((c.tc : Thread Cert.KernelBIdeal.nD Cert.KernelBIdeal.τ).loc Cert.KernelBIdeal.main_arg10))
      ∧ r.2.sem = fun _ => 0)

def quiescent_RefBIdeal [hRefBIdeal : Cert.RefBIdeal.Facts] : Prop :=
  ∀ (m : (ℓ : Loc Cert.RefBIdeal.nD Cert.RefBIdeal.τ Cert.RefBIdeal.sig) → Buf (Elt Ideal) ℓ) (g : Dev Cert.RefBIdeal.nD → PrngReg), Pre_RefBIdeal m →
    θ_run (Cert.RefBIdeal.defs (F := Ideal)) (onTc (τ := Cert.RefBIdeal.τ) (Cert.RefBIdeal.main (F := Ideal))) ⟨m, fun _ => 0, g⟩ (fun r => (∀ c : Dev Cert.RefBIdeal.nD,
      r.2.mem ((c.tc : Thread Cert.RefBIdeal.nD Cert.RefBIdeal.τ).loc Cert.RefBIdeal.main_arg0) = m ((c.tc : Thread Cert.RefBIdeal.nD Cert.RefBIdeal.τ).loc Cert.RefBIdeal.main_arg0)
      ∧ r.2.mem ((c.tc : Thread Cert.RefBIdeal.nD Cert.RefBIdeal.τ).loc Cert.RefBIdeal.main_arg1) = m ((c.tc : Thread Cert.RefBIdeal.nD Cert.RefBIdeal.τ).loc Cert.RefBIdeal.main_arg1)
      ∧ r.2.mem ((c.tc : Thread Cert.RefBIdeal.nD Cert.RefBIdeal.τ).loc Cert.RefBIdeal.main_arg2) = m ((c.tc : Thread Cert.RefBIdeal.nD Cert.RefBIdeal.τ).loc Cert.RefBIdeal.main_arg2)
      ∧ r.2.mem ((c.tc : Thread Cert.RefBIdeal.nD Cert.RefBIdeal.τ).loc Cert.RefBIdeal.main_arg3) = m ((c.tc : Thread Cert.RefBIdeal.nD Cert.RefBIdeal.τ).loc Cert.RefBIdeal.main_arg3)
      ∧ r.2.mem ((c.tc : Thread Cert.RefBIdeal.nD Cert.RefBIdeal.τ).loc Cert.RefBIdeal.main_arg4) = m ((c.tc : Thread Cert.RefBIdeal.nD Cert.RefBIdeal.τ).loc Cert.RefBIdeal.main_arg4)
      ∧ r.2.mem ((c.tc : Thread Cert.RefBIdeal.nD Cert.RefBIdeal.τ).loc Cert.RefBIdeal.main_arg5) = m ((c.tc : Thread Cert.RefBIdeal.nD Cert.RefBIdeal.τ).loc Cert.RefBIdeal.main_arg5)
      ∧ r.2.mem ((c.tc : Thread Cert.RefBIdeal.nD Cert.RefBIdeal.τ).loc Cert.RefBIdeal.main_arg6) = m ((c.tc : Thread Cert.RefBIdeal.nD Cert.RefBIdeal.τ).loc Cert.RefBIdeal.main_arg6)
      ∧ r.2.mem ((c.tc : Thread Cert.RefBIdeal.nD Cert.RefBIdeal.τ).loc Cert.RefBIdeal.main_arg7) = m ((c.tc : Thread Cert.RefBIdeal.nD Cert.RefBIdeal.τ).loc Cert.RefBIdeal.main_arg7)
      ∧ r.2.mem ((c.tc : Thread Cert.RefBIdeal.nD Cert.RefBIdeal.τ).loc Cert.RefBIdeal.main_arg8) = m ((c.tc : Thread Cert.RefBIdeal.nD Cert.RefBIdeal.τ).loc Cert.RefBIdeal.main_arg8)
      ∧ r.2.mem ((c.tc : Thread Cert.RefBIdeal.nD Cert.RefBIdeal.τ).loc Cert.RefBIdeal.main_arg9) = m ((c.tc : Thread Cert.RefBIdeal.nD Cert.RefBIdeal.τ).loc Cert.RefBIdeal.main_arg9)
      ∧ r.2.mem ((c.tc : Thread Cert.RefBIdeal.nD Cert.RefBIdeal.τ).loc Cert.RefBIdeal.main_arg10) = m ((c.tc : Thread Cert.RefBIdeal.nD Cert.RefBIdeal.τ).loc Cert.RefBIdeal.main_arg10))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5)
      ∧ r.2.mem ((c.tc : Thread Cert.KernelFfn.nD Cert.KernelFfn.τ).loc Cert.KernelFfn.main_arg6) = m ((c.tc : Thread Cert.KernelFfn.nD Cert.KernelFfn.τ).loc Cert.KernelFfn.main_arg6))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ r.2.sem = fun _ => 0)

def quiescent_KernelFfnIdeal_pre_finite_ffn [hKernelFfnIdeal : Cert.KernelFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_ffn m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
      ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4)
      ∧ r.2.mem ((c.tc : Thread Cert.RefFfnIdeal.nD Cert.RefFfnIdeal.τ).loc Cert.RefFfnIdeal.main_arg5) = m ((c.tc : Thread Cert.RefFfnIdeal.nD Cert.RefFfnIdeal.τ).loc Cert.RefFfnIdeal.main_arg5)
      ∧ r.2.mem ((c.tc : Thread Cert.RefFfnIdeal.nD Cert.RefFfnIdeal.τ).loc Cert.RefFfnIdeal.main_arg6) = m ((c.tc : Thread Cert.RefFfnIdeal.nD Cert.RefFfnIdeal.τ).loc Cert.RefFfnIdeal.main_arg6))
      ∧ r.2.sem = fun _ => 0)

def quiescent_RefFfnIdeal_pre_finite_ffn [hRefFfnIdeal : Cert.RefFfnIdeal.Facts] [hPre_finite_ffn : Cert.Pre_finite_ffn.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal_finite_ffn m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4)
      ∧ r.2.mem ((c.tc : Thread Cert.RefFfnIdeal.nD Cert.RefFfnIdeal.τ).loc Cert.RefFfnIdeal.main_arg5) = m ((c.tc : Thread Cert.RefFfnIdeal.nD Cert.RefFfnIdeal.τ).loc Cert.RefFfnIdeal.main_arg5)
      ∧ r.2.mem ((c.tc : Thread Cert.RefFfnIdeal.nD Cert.RefFfnIdeal.τ).loc Cert.RefFfnIdeal.main_arg6) = m ((c.tc : Thread Cert.RefFfnIdeal.nD Cert.RefFfnIdeal.τ).loc Cert.RefFfnIdeal.main_arg6))
      ∧ r.2.sem = fun _ => 0)

def quiescent_KernelW [hKernelW : Cert.KernelW.Facts] : Prop :=
  ∀ (m : (ℓ : Loc Cert.KernelW.nD Cert.KernelW.τ Cert.KernelW.sig) → Buf (Elt Bits) ℓ) (g : Dev Cert.KernelW.nD → PrngReg), Pre_KernelW m →
    θ_run (Cert.KernelW.defs (F := Bits)) (onTc (τ := Cert.KernelW.τ) (Cert.KernelW.main (F := Bits))) ⟨m, fun _ => 0, g⟩ (fun r => (∀ c : Dev Cert.KernelW.nD,
      r.2.mem ((c.tc : Thread Cert.KernelW.nD Cert.KernelW.τ).loc Cert.KernelW.main_arg0) = m ((c.tc : Thread Cert.KernelW.nD Cert.KernelW.τ).loc Cert.KernelW.main_arg0)
      ∧ r.2.mem ((c.tc : Thread Cert.KernelW.nD Cert.KernelW.τ).loc Cert.KernelW.main_arg1) = m ((c.tc : Thread Cert.KernelW.nD Cert.KernelW.τ).loc Cert.KernelW.main_arg1))
      ∧ r.2.sem = fun _ => 0)

def quiescent_KernelWIdeal [hKernelWIdeal : Cert.KernelWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg), Pre_KernelWIdeal m →
    θ_run (Cert.KernelWIdeal.defs (F := Ideal)) (onTc (τ := Cert.KernelWIdeal.τ) (Cert.KernelWIdeal.main (F := Ideal))) ⟨m, fun _ => 0, g⟩ (fun r => (∀ c : Dev Cert.KernelWIdeal.nD,
      r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
      ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1))
      ∧ r.2.sem = fun _ => 0)

def quiescent_RefWIdeal [hRefWIdeal : Cert.RefWIdeal.Facts] : Prop :=
  ∀ (m : (ℓ : Loc Cert.RefWIdeal.nD Cert.RefWIdeal.τ Cert.RefWIdeal.sig) → Buf (Elt Ideal) ℓ) (g : Dev Cert.RefWIdeal.nD → PrngReg), Pre_RefWIdeal m →
    θ_run (Cert.RefWIdeal.defs (F := Ideal)) (onTc (τ := Cert.RefWIdeal.τ) (Cert.RefWIdeal.main (F := Ideal))) ⟨m, fun _ => 0, g⟩ (fun r => (∀ c : Dev Cert.RefWIdeal.nD,
      r.2.mem ((c.tc : Thread Cert.RefWIdeal.nD Cert.RefWIdeal.τ).loc Cert.RefWIdeal.main_arg0) = m ((c.tc : Thread Cert.RefWIdeal.nD Cert.RefWIdeal.τ).loc Cert.RefWIdeal.main_arg0)
      ∧ r.2.mem ((c.tc : Thread Cert.RefWIdeal.nD Cert.RefWIdeal.τ).loc Cert.RefWIdeal.main_arg1) = m ((c.tc : Thread Cert.RefWIdeal.nD Cert.RefWIdeal.τ).loc Cert.RefWIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5)
      ∧ r.2.mem ((c.tc : Thread Cert.KernelIn.nD Cert.KernelIn.τ).loc Cert.KernelIn.main_arg6) = m ((c.tc : Thread Cert.KernelIn.nD Cert.KernelIn.τ).loc Cert.KernelIn.main_arg6))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6))
      ∧ r.2.sem = fun _ => 0)

def quiescent_RefInIdeal [hRefInIdeal : Cert.RefInIdeal.Facts] : Prop :=
  ∀ (m : (ℓ : Loc Cert.RefInIdeal.nD Cert.RefInIdeal.τ Cert.RefInIdeal.sig) → Buf (Elt Ideal) ℓ) (g : Dev Cert.RefInIdeal.nD → PrngReg), Pre_RefInIdeal m →
    θ_run (Cert.RefInIdeal.defs (F := Ideal)) (onTc (τ := Cert.RefInIdeal.τ) (Cert.RefInIdeal.main (F := Ideal))) ⟨m, fun _ => 0, g⟩ (fun r => (∀ c : Dev Cert.RefInIdeal.nD,
      r.2.mem ((c.tc : Thread Cert.RefInIdeal.nD Cert.RefInIdeal.τ).loc Cert.RefInIdeal.main_arg0) = m ((c.tc : Thread Cert.RefInIdeal.nD Cert.RefInIdeal.τ).loc Cert.RefInIdeal.main_arg0)
      ∧ r.2.mem ((c.tc : Thread Cert.RefInIdeal.nD Cert.RefInIdeal.τ).loc Cert.RefInIdeal.main_arg1) = m ((c.tc : Thread Cert.RefInIdeal.nD Cert.RefInIdeal.τ).loc Cert.RefInIdeal.main_arg1)
      ∧ r.2.mem ((c.tc : Thread Cert.RefInIdeal.nD Cert.RefInIdeal.τ).loc Cert.RefInIdeal.main_arg2) = m ((c.tc : Thread Cert.RefInIdeal.nD Cert.RefInIdeal.τ).loc Cert.RefInIdeal.main_arg2)
      ∧ r.2.mem ((c.tc : Thread Cert.RefInIdeal.nD Cert.RefInIdeal.τ).loc Cert.RefInIdeal.main_arg3) = m ((c.tc : Thread Cert.RefInIdeal.nD Cert.RefInIdeal.τ).loc Cert.RefInIdeal.main_arg3)
      ∧ r.2.mem ((c.tc : Thread Cert.RefInIdeal.nD Cert.RefInIdeal.τ).loc Cert.RefInIdeal.main_arg4) = m ((c.tc : Thread Cert.RefInIdeal.nD Cert.RefInIdeal.τ).loc Cert.RefInIdeal.main_arg4)
      ∧ r.2.mem ((c.tc : Thread Cert.RefInIdeal.nD Cert.RefInIdeal.τ).loc Cert.RefInIdeal.main_arg5) = m ((c.tc : Thread Cert.RefInIdeal.nD Cert.RefInIdeal.τ).loc Cert.RefInIdeal.main_arg5)
      ∧ r.2.mem ((c.tc : Thread Cert.RefInIdeal.nD Cert.RefInIdeal.τ).loc Cert.RefInIdeal.main_arg6) = m ((c.tc : Thread Cert.RefInIdeal.nD Cert.RefInIdeal.τ).loc Cert.RefInIdeal.main_arg6))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_RefOutIdeal [hRefOutIdeal : Cert.RefOutIdeal.Facts] : Prop :=
  ∀ (m : (ℓ : Loc Cert.RefOutIdeal.nD Cert.RefOutIdeal.τ Cert.RefOutIdeal.sig) → Buf (Elt Ideal) ℓ) (g : Dev Cert.RefOutIdeal.nD → PrngReg), Pre_RefOutIdeal m →
    θ_run (Cert.RefOutIdeal.defs (F := Ideal)) (onTc (τ := Cert.RefOutIdeal.τ) (Cert.RefOutIdeal.main (F := Ideal))) ⟨m, fun _ => 0, g⟩ (fun r => (∀ c : Dev Cert.RefOutIdeal.nD,
      r.2.mem ((c.tc : Thread Cert.RefOutIdeal.nD Cert.RefOutIdeal.τ).loc Cert.RefOutIdeal.main_arg0) = m ((c.tc : Thread Cert.RefOutIdeal.nD Cert.RefOutIdeal.τ).loc Cert.RefOutIdeal.main_arg0)
      ∧ r.2.mem ((c.tc : Thread Cert.RefOutIdeal.nD Cert.RefOutIdeal.τ).loc Cert.RefOutIdeal.main_arg1) = m ((c.tc : Thread Cert.RefOutIdeal.nD Cert.RefOutIdeal.τ).loc Cert.RefOutIdeal.main_arg1)
      ∧ r.2.mem ((c.tc : Thread Cert.RefOutIdeal.nD Cert.RefOutIdeal.τ).loc Cert.RefOutIdeal.main_arg2) = m ((c.tc : Thread Cert.RefOutIdeal.nD Cert.RefOutIdeal.τ).loc Cert.RefOutIdeal.main_arg2))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1)
      ∧ r.2.mem ((c.tc : Thread Cert.RefProjIdeal.nD Cert.RefProjIdeal.τ).loc Cert.RefProjIdeal.main_arg2) = m ((c.tc : Thread Cert.RefProjIdeal.nD Cert.RefProjIdeal.τ).loc Cert.RefProjIdeal.main_arg2)
      ∧ r.2.mem ((c.tc : Thread Cert.RefProjIdeal.nD Cert.RefProjIdeal.τ).loc Cert.RefProjIdeal.main_arg3) = m ((c.tc : Thread Cert.RefProjIdeal.nD Cert.RefProjIdeal.τ).loc Cert.RefProjIdeal.main_arg3))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ r.2.sem = fun _ => 0)

def quiescent_RefMixIdeal [hRefMixIdeal : Cert.RefMixIdeal.Facts] : Prop :=
  ∀ (m : (ℓ : Loc Cert.RefMixIdeal.nD Cert.RefMixIdeal.τ Cert.RefMixIdeal.sig) → Buf (Elt Ideal) ℓ) (g : Dev Cert.RefMixIdeal.nD → PrngReg), Pre_RefMixIdeal m →
    θ_run (Cert.RefMixIdeal.defs (F := Ideal)) (onTc (τ := Cert.RefMixIdeal.τ) (Cert.RefMixIdeal.main (F := Ideal))) ⟨m, fun _ => 0, g⟩ (fun r => (∀ c : Dev Cert.RefMixIdeal.nD,
      r.2.mem ((c.tc : Thread Cert.RefMixIdeal.nD Cert.RefMixIdeal.τ).loc Cert.RefMixIdeal.main_arg0) = m ((c.tc : Thread Cert.RefMixIdeal.nD Cert.RefMixIdeal.τ).loc Cert.RefMixIdeal.main_arg0)
      ∧ r.2.mem ((c.tc : Thread Cert.RefMixIdeal.nD Cert.RefMixIdeal.τ).loc Cert.RefMixIdeal.main_arg1) = m ((c.tc : Thread Cert.RefMixIdeal.nD Cert.RefMixIdeal.τ).loc Cert.RefMixIdeal.main_arg1)
      ∧ r.2.mem ((c.tc : Thread Cert.RefMixIdeal.nD Cert.RefMixIdeal.τ).loc Cert.RefMixIdeal.main_arg2) = m ((c.tc : Thread Cert.RefMixIdeal.nD Cert.RefMixIdeal.τ).loc Cert.RefMixIdeal.main_arg2)
      ∧ r.2.mem ((c.tc : Thread Cert.RefMixIdeal.nD Cert.RefMixIdeal.τ).loc Cert.RefMixIdeal.main_arg3) = m ((c.tc : Thread Cert.RefMixIdeal.nD Cert.RefMixIdeal.τ).loc Cert.RefMixIdeal.main_arg3)
      ∧ r.2.mem ((c.tc : Thread Cert.RefMixIdeal.nD Cert.RefMixIdeal.τ).loc Cert.RefMixIdeal.main_arg4) = m ((c.tc : Thread Cert.RefMixIdeal.nD Cert.RefMixIdeal.τ).loc Cert.RefMixIdeal.main_arg4))
      ∧ r.2.sem = fun _ => 0)

def quiescent_KernelProjB [hKernelProjB : Cert.KernelProjB.Facts] : Prop :=
  ∀ (m : (ℓ : Loc Cert.KernelProjB.nD Cert.KernelProjB.τ Cert.KernelProjB.sig) → Buf (Elt Bits) ℓ) (g : Dev Cert.KernelProjB.nD → PrngReg), Pre_KernelProjB m →
    θ_run (Cert.KernelProjB.defs (F := Bits)) (onTc (τ := Cert.KernelProjB.τ) (Cert.KernelProjB.main (F := Bits))) ⟨m, fun _ => 0, g⟩ (fun r => (∀ c : Dev Cert.KernelProjB.nD,
      r.2.mem ((c.tc : Thread Cert.KernelProjB.nD Cert.KernelProjB.τ).loc Cert.KernelProjB.main_arg0) = m ((c.tc : Thread Cert.KernelProjB.nD Cert.KernelProjB.τ).loc Cert.KernelProjB.main_arg0)
      ∧ r.2.mem ((c.tc : Thread Cert.KernelProjB.nD Cert.KernelProjB.τ).loc Cert.KernelProjB.main_arg1) = m ((c.tc : Thread Cert.KernelProjB.nD Cert.KernelProjB.τ).loc Cert.KernelProjB.main_arg1)
      ∧ r.2.mem ((c.tc : Thread Cert.KernelProjB.nD Cert.KernelProjB.τ).loc Cert.KernelProjB.main_arg2) = m ((c.tc : Thread Cert.KernelProjB.nD Cert.KernelProjB.τ).loc Cert.KernelProjB.main_arg2)
      ∧ r.2.mem ((c.tc : Thread Cert.KernelProjB.nD Cert.KernelProjB.τ).loc Cert.KernelProjB.main_arg3) = m ((c.tc : Thread Cert.KernelProjB.nD Cert.KernelProjB.τ).loc Cert.KernelProjB.main_arg3)
      ∧ r.2.mem ((c.tc : Thread Cert.KernelProjB.nD Cert.KernelProjB.τ).loc Cert.KernelProjB.main_arg4) = m ((c.tc : Thread Cert.KernelProjB.nD Cert.KernelProjB.τ).loc Cert.KernelProjB.main_arg4)
      ∧ r.2.mem ((c.tc : Thread Cert.KernelProjB.nD Cert.KernelProjB.τ).loc Cert.KernelProjB.main_arg5) = m ((c.tc : Thread Cert.KernelProjB.nD Cert.KernelProjB.τ).loc Cert.KernelProjB.main_arg5)
      ∧ r.2.mem ((c.tc : Thread Cert.KernelProjB.nD Cert.KernelProjB.τ).loc Cert.KernelProjB.main_arg6) = m ((c.tc : Thread Cert.KernelProjB.nD Cert.KernelProjB.τ).loc Cert.KernelProjB.main_arg6)
      ∧ r.2.mem ((c.tc : Thread Cert.KernelProjB.nD Cert.KernelProjB.τ).loc Cert.KernelProjB.main_arg7) = m ((c.tc : Thread Cert.KernelProjB.nD Cert.KernelProjB.τ).loc Cert.KernelProjB.main_arg7)
      ∧ r.2.mem ((c.tc : Thread Cert.KernelProjB.nD Cert.KernelProjB.τ).loc Cert.KernelProjB.main_arg8) = m ((c.tc : Thread Cert.KernelProjB.nD Cert.KernelProjB.τ).loc Cert.KernelProjB.main_arg8)
      ∧ r.2.mem ((c.tc : Thread Cert.KernelProjB.nD Cert.KernelProjB.τ).loc Cert.KernelProjB.main_arg9) = m ((c.tc : Thread Cert.KernelProjB.nD Cert.KernelProjB.τ).loc Cert.KernelProjB.main_arg9)
      ∧ r.2.mem ((c.tc : Thread Cert.KernelProjB.nD Cert.KernelProjB.τ).loc Cert.KernelProjB.main_arg10) = m ((c.tc : Thread Cert.KernelProjB.nD Cert.KernelProjB.τ).loc Cert.KernelProjB.main_arg10))
      ∧ r.2.sem = fun _ => 0)

def quiescent_KernelProjBIdeal [hKernelProjBIdeal : Cert.KernelProjBIdeal.Facts] : Prop :=
  ∀ (m : (ℓ : Loc Cert.KernelProjBIdeal.nD Cert.KernelProjBIdeal.τ Cert.KernelProjBIdeal.sig) → Buf (Elt Ideal) ℓ) (g : Dev Cert.KernelProjBIdeal.nD → PrngReg), Pre_KernelProjBIdeal m →
    θ_run (Cert.KernelProjBIdeal.defs (F := Ideal)) (onTc (τ := Cert.KernelProjBIdeal.τ) (Cert.KernelProjBIdeal.main (F := Ideal))) ⟨m, fun _ => 0, g⟩ (fun r => (∀ c : Dev Cert.KernelProjBIdeal.nD,
      r.2.mem ((c.tc : Thread Cert.KernelProjBIdeal.nD Cert.KernelProjBIdeal.τ).loc Cert.KernelProjBIdeal.main_arg0) = m ((c.tc : Thread Cert.KernelProjBIdeal.nD Cert.KernelProjBIdeal.τ).loc Cert.KernelProjBIdeal.main_arg0)
      ∧ r.2.mem ((c.tc : Thread Cert.KernelProjBIdeal.nD Cert.KernelProjBIdeal.τ).loc Cert.KernelProjBIdeal.main_arg1) = m ((c.tc : Thread Cert.KernelProjBIdeal.nD Cert.KernelProjBIdeal.τ).loc Cert.KernelProjBIdeal.main_arg1)
      ∧ r.2.mem ((c.tc : Thread Cert.KernelProjBIdeal.nD Cert.KernelProjBIdeal.τ).loc Cert.KernelProjBIdeal.main_arg2) = m ((c.tc : Thread Cert.KernelProjBIdeal.nD Cert.KernelProjBIdeal.τ).loc Cert.KernelProjBIdeal.main_arg2)
      ∧ r.2.mem ((c.tc : Thread Cert.KernelProjBIdeal.nD Cert.KernelProjBIdeal.τ).loc Cert.KernelProjBIdeal.main_arg3) = m ((c.tc : Thread Cert.KernelProjBIdeal.nD Cert.KernelProjBIdeal.τ).loc Cert.KernelProjBIdeal.main_arg3)
      ∧ r.2.mem ((c.tc : Thread Cert.KernelProjBIdeal.nD Cert.KernelProjBIdeal.τ).loc Cert.KernelProjBIdeal.main_arg4) = m ((c.tc : Thread Cert.KernelProjBIdeal.nD Cert.KernelProjBIdeal.τ).loc Cert.KernelProjBIdeal.main_arg4)
      ∧ r.2.mem ((c.tc : Thread Cert.KernelProjBIdeal.nD Cert.KernelProjBIdeal.τ).loc Cert.KernelProjBIdeal.main_arg5) = m ((c.tc : Thread Cert.KernelProjBIdeal.nD Cert.KernelProjBIdeal.τ).loc Cert.KernelProjBIdeal.main_arg5)
      ∧ r.2.mem ((c.tc : Thread Cert.KernelProjBIdeal.nD Cert.KernelProjBIdeal.τ).loc Cert.KernelProjBIdeal.main_arg6) = m ((c.tc : Thread Cert.KernelProjBIdeal.nD Cert.KernelProjBIdeal.τ).loc Cert.KernelProjBIdeal.main_arg6)
      ∧ r.2.mem ((c.tc : Thread Cert.KernelProjBIdeal.nD Cert.KernelProjBIdeal.τ).loc Cert.KernelProjBIdeal.main_arg7) = m ((c.tc : Thread Cert.KernelProjBIdeal.nD Cert.KernelProjBIdeal.τ).loc Cert.KernelProjBIdeal.main_arg7)
      ∧ r.2.mem ((c.tc : Thread Cert.KernelProjBIdeal.nD Cert.KernelProjBIdeal.τ).loc Cert.KernelProjBIdeal.main_arg8) = m ((c.tc : Thread Cert.KernelProjBIdeal.nD Cert.KernelProjBIdeal.τ).loc Cert.KernelProjBIdeal.main_arg8)
      ∧ r.2.mem ((c.tc : Thread Cert.KernelProjBIdeal.nD Cert.KernelProjBIdeal.τ).loc Cert.KernelProjBIdeal.main_arg9) = m ((c.tc : Thread Cert.KernelProjBIdeal.nD Cert.KernelProjBIdeal.τ).loc Cert.KernelProjBIdeal.main_arg9)
      ∧ r.2.mem ((c.tc : Thread Cert.KernelProjBIdeal.nD Cert.KernelProjBIdeal.τ).loc Cert.KernelProjBIdeal.main_arg10) = m ((c.tc : Thread Cert.KernelProjBIdeal.nD Cert.KernelProjBIdeal.τ).loc Cert.KernelProjBIdeal.main_arg10))
      ∧ r.2.sem = fun _ => 0)

def quiescent_RefProjBIdeal [hRefProjBIdeal : Cert.RefProjBIdeal.Facts] : Prop :=
  ∀ (m : (ℓ : Loc Cert.RefProjBIdeal.nD Cert.RefProjBIdeal.τ Cert.RefProjBIdeal.sig) → Buf (Elt Ideal) ℓ) (g : Dev Cert.RefProjBIdeal.nD → PrngReg), Pre_RefProjBIdeal m →
    θ_run (Cert.RefProjBIdeal.defs (F := Ideal)) (onTc (τ := Cert.RefProjBIdeal.τ) (Cert.RefProjBIdeal.main (F := Ideal))) ⟨m, fun _ => 0, g⟩ (fun r => (∀ c : Dev Cert.RefProjBIdeal.nD,
      r.2.mem ((c.tc : Thread Cert.RefProjBIdeal.nD Cert.RefProjBIdeal.τ).loc Cert.RefProjBIdeal.main_arg0) = m ((c.tc : Thread Cert.RefProjBIdeal.nD Cert.RefProjBIdeal.τ).loc Cert.RefProjBIdeal.main_arg0)
      ∧ r.2.mem ((c.tc : Thread Cert.RefProjBIdeal.nD Cert.RefProjBIdeal.τ).loc Cert.RefProjBIdeal.main_arg1) = m ((c.tc : Thread Cert.RefProjBIdeal.nD Cert.RefProjBIdeal.τ).loc Cert.RefProjBIdeal.main_arg1)
      ∧ r.2.mem ((c.tc : Thread Cert.RefProjBIdeal.nD Cert.RefProjBIdeal.τ).loc Cert.RefProjBIdeal.main_arg2) = m ((c.tc : Thread Cert.RefProjBIdeal.nD Cert.RefProjBIdeal.τ).loc Cert.RefProjBIdeal.main_arg2)
      ∧ r.2.mem ((c.tc : Thread Cert.RefProjBIdeal.nD Cert.RefProjBIdeal.τ).loc Cert.RefProjBIdeal.main_arg3) = m ((c.tc : Thread Cert.RefProjBIdeal.nD Cert.RefProjBIdeal.τ).loc Cert.RefProjBIdeal.main_arg3)
      ∧ r.2.mem ((c.tc : Thread Cert.RefProjBIdeal.nD Cert.RefProjBIdeal.τ).loc Cert.RefProjBIdeal.main_arg4) = m ((c.tc : Thread Cert.RefProjBIdeal.nD Cert.RefProjBIdeal.τ).loc Cert.RefProjBIdeal.main_arg4)
      ∧ r.2.mem ((c.tc : Thread Cert.RefProjBIdeal.nD Cert.RefProjBIdeal.τ).loc Cert.RefProjBIdeal.main_arg5) = m ((c.tc : Thread Cert.RefProjBIdeal.nD Cert.RefProjBIdeal.τ).loc Cert.RefProjBIdeal.main_arg5)
      ∧ r.2.mem ((c.tc : Thread Cert.RefProjBIdeal.nD Cert.RefProjBIdeal.τ).loc Cert.RefProjBIdeal.main_arg6) = m ((c.tc : Thread Cert.RefProjBIdeal.nD Cert.RefProjBIdeal.τ).loc Cert.RefProjBIdeal.main_arg6)
      ∧ r.2.mem ((c.tc : Thread Cert.RefProjBIdeal.nD Cert.RefProjBIdeal.τ).loc Cert.RefProjBIdeal.main_arg7) = m ((c.tc : Thread Cert.RefProjBIdeal.nD Cert.RefProjBIdeal.τ).loc Cert.RefProjBIdeal.main_arg7)
      ∧ r.2.mem ((c.tc : Thread Cert.RefProjBIdeal.nD Cert.RefProjBIdeal.τ).loc Cert.RefProjBIdeal.main_arg8) = m ((c.tc : Thread Cert.RefProjBIdeal.nD Cert.RefProjBIdeal.τ).loc Cert.RefProjBIdeal.main_arg8)
      ∧ r.2.mem ((c.tc : Thread Cert.RefProjBIdeal.nD Cert.RefProjBIdeal.τ).loc Cert.RefProjBIdeal.main_arg9) = m ((c.tc : Thread Cert.RefProjBIdeal.nD Cert.RefProjBIdeal.τ).loc Cert.RefProjBIdeal.main_arg9)
      ∧ r.2.mem ((c.tc : Thread Cert.RefProjBIdeal.nD Cert.RefProjBIdeal.τ).loc Cert.RefProjBIdeal.main_arg10) = m ((c.tc : Thread Cert.RefProjBIdeal.nD Cert.RefProjBIdeal.τ).loc Cert.RefProjBIdeal.main_arg10))
      ∧ r.2.sem = fun _ => 0)

def quiescent_KernelMixB [hKernelMixB : Cert.KernelMixB.Facts] : Prop :=
  ∀ (m : (ℓ : Loc Cert.KernelMixB.nD Cert.KernelMixB.τ Cert.KernelMixB.sig) → Buf (Elt Bits) ℓ) (g : Dev Cert.KernelMixB.nD → PrngReg), Pre_KernelMixB m →
    θ_run (Cert.KernelMixB.defs (F := Bits)) (onTc (τ := Cert.KernelMixB.τ) (Cert.KernelMixB.main (F := Bits))) ⟨m, fun _ => 0, g⟩ (fun r => (∀ c : Dev Cert.KernelMixB.nD,
      r.2.mem ((c.tc : Thread Cert.KernelMixB.nD Cert.KernelMixB.τ).loc Cert.KernelMixB.main_arg0) = m ((c.tc : Thread Cert.KernelMixB.nD Cert.KernelMixB.τ).loc Cert.KernelMixB.main_arg0)
      ∧ r.2.mem ((c.tc : Thread Cert.KernelMixB.nD Cert.KernelMixB.τ).loc Cert.KernelMixB.main_arg1) = m ((c.tc : Thread Cert.KernelMixB.nD Cert.KernelMixB.τ).loc Cert.KernelMixB.main_arg1)
      ∧ r.2.mem ((c.tc : Thread Cert.KernelMixB.nD Cert.KernelMixB.τ).loc Cert.KernelMixB.main_arg2) = m ((c.tc : Thread Cert.KernelMixB.nD Cert.KernelMixB.τ).loc Cert.KernelMixB.main_arg2)
      ∧ r.2.mem ((c.tc : Thread Cert.KernelMixB.nD Cert.KernelMixB.τ).loc Cert.KernelMixB.main_arg3) = m ((c.tc : Thread Cert.KernelMixB.nD Cert.KernelMixB.τ).loc Cert.KernelMixB.main_arg3)
      ∧ r.2.mem ((c.tc : Thread Cert.KernelMixB.nD Cert.KernelMixB.τ).loc Cert.KernelMixB.main_arg4) = m ((c.tc : Thread Cert.KernelMixB.nD Cert.KernelMixB.τ).loc Cert.KernelMixB.main_arg4))
      ∧ r.2.sem = fun _ => 0)

def quiescent_KernelMixBIdeal [hKernelMixBIdeal : Cert.KernelMixBIdeal.Facts] : Prop :=
  ∀ (m : (ℓ : Loc Cert.KernelMixBIdeal.nD Cert.KernelMixBIdeal.τ Cert.KernelMixBIdeal.sig) → Buf (Elt Ideal) ℓ) (g : Dev Cert.KernelMixBIdeal.nD → PrngReg), Pre_KernelMixBIdeal m →
    θ_run (Cert.KernelMixBIdeal.defs (F := Ideal)) (onTc (τ := Cert.KernelMixBIdeal.τ) (Cert.KernelMixBIdeal.main (F := Ideal))) ⟨m, fun _ => 0, g⟩ (fun r => (∀ c : Dev Cert.KernelMixBIdeal.nD,
      r.2.mem ((c.tc : Thread Cert.KernelMixBIdeal.nD Cert.KernelMixBIdeal.τ).loc Cert.KernelMixBIdeal.main_arg0) = m ((c.tc : Thread Cert.KernelMixBIdeal.nD Cert.KernelMixBIdeal.τ).loc Cert.KernelMixBIdeal.main_arg0)
      ∧ r.2.mem ((c.tc : Thread Cert.KernelMixBIdeal.nD Cert.KernelMixBIdeal.τ).loc Cert.KernelMixBIdeal.main_arg1) = m ((c.tc : Thread Cert.KernelMixBIdeal.nD Cert.KernelMixBIdeal.τ).loc Cert.KernelMixBIdeal.main_arg1)
      ∧ r.2.mem ((c.tc : Thread Cert.KernelMixBIdeal.nD Cert.KernelMixBIdeal.τ).loc Cert.KernelMixBIdeal.main_arg2) = m ((c.tc : Thread Cert.KernelMixBIdeal.nD Cert.KernelMixBIdeal.τ).loc Cert.KernelMixBIdeal.main_arg2)
      ∧ r.2.mem ((c.tc : Thread Cert.KernelMixBIdeal.nD Cert.KernelMixBIdeal.τ).loc Cert.KernelMixBIdeal.main_arg3) = m ((c.tc : Thread Cert.KernelMixBIdeal.nD Cert.KernelMixBIdeal.τ).loc Cert.KernelMixBIdeal.main_arg3)
      ∧ r.2.mem ((c.tc : Thread Cert.KernelMixBIdeal.nD Cert.KernelMixBIdeal.τ).loc Cert.KernelMixBIdeal.main_arg4) = m ((c.tc : Thread Cert.KernelMixBIdeal.nD Cert.KernelMixBIdeal.τ).loc Cert.KernelMixBIdeal.main_arg4))
      ∧ r.2.sem = fun _ => 0)

def quiescent_RefMixBIdeal [hRefMixBIdeal : Cert.RefMixBIdeal.Facts] : Prop :=
  ∀ (m : (ℓ : Loc Cert.RefMixBIdeal.nD Cert.RefMixBIdeal.τ Cert.RefMixBIdeal.sig) → Buf (Elt Ideal) ℓ) (g : Dev Cert.RefMixBIdeal.nD → PrngReg), Pre_RefMixBIdeal m →
    θ_run (Cert.RefMixBIdeal.defs (F := Ideal)) (onTc (τ := Cert.RefMixBIdeal.τ) (Cert.RefMixBIdeal.main (F := Ideal))) ⟨m, fun _ => 0, g⟩ (fun r => (∀ c : Dev Cert.RefMixBIdeal.nD,
      r.2.mem ((c.tc : Thread Cert.RefMixBIdeal.nD Cert.RefMixBIdeal.τ).loc Cert.RefMixBIdeal.main_arg0) = m ((c.tc : Thread Cert.RefMixBIdeal.nD Cert.RefMixBIdeal.τ).loc Cert.RefMixBIdeal.main_arg0)
      ∧ r.2.mem ((c.tc : Thread Cert.RefMixBIdeal.nD Cert.RefMixBIdeal.τ).loc Cert.RefMixBIdeal.main_arg1) = m ((c.tc : Thread Cert.RefMixBIdeal.nD Cert.RefMixBIdeal.τ).loc Cert.RefMixBIdeal.main_arg1)
      ∧ r.2.mem ((c.tc : Thread Cert.RefMixBIdeal.nD Cert.RefMixBIdeal.τ).loc Cert.RefMixBIdeal.main_arg2) = m ((c.tc : Thread Cert.RefMixBIdeal.nD Cert.RefMixBIdeal.τ).loc Cert.RefMixBIdeal.main_arg2)
      ∧ r.2.mem ((c.tc : Thread Cert.RefMixBIdeal.nD Cert.RefMixBIdeal.τ).loc Cert.RefMixBIdeal.main_arg3) = m ((c.tc : Thread Cert.RefMixBIdeal.nD Cert.RefMixBIdeal.τ).loc Cert.RefMixBIdeal.main_arg3)
      ∧ r.2.mem ((c.tc : Thread Cert.RefMixBIdeal.nD Cert.RefMixBIdeal.τ).loc Cert.RefMixBIdeal.main_arg4) = m ((c.tc : Thread Cert.RefMixBIdeal.nD Cert.RefMixBIdeal.τ).loc Cert.RefMixBIdeal.main_arg4))
      ∧ r.2.sem = fun _ => 0)

def preserves_KernelF_KernelFIdeal : Prop :=
  True

def algebraic_KernelFIdeal_RefFIdeal [hKernelFIdeal : Cert.KernelFIdeal.Facts] [hRefFIdeal : Cert.RefFIdeal.Facts] : Prop :=
  ∀ (m : (ℓ : Loc Cert.KernelFIdeal.nD Cert.KernelFIdeal.τ Cert.KernelFIdeal.sig) → Buf (Elt Ideal) ℓ) (g : Dev Cert.KernelFIdeal.nD → PrngReg)
    (m' : (ℓ : Loc Cert.RefFIdeal.nD Cert.RefFIdeal.τ Cert.RefFIdeal.sig) → Buf (Elt Ideal) ℓ) (g' : Dev Cert.RefFIdeal.nD → PrngReg), Pre_KernelFIdeal m →
    (∀ c : Dev Cert.KernelFIdeal.nD,
      m' ((c.tc : Thread Cert.RefFIdeal.nD Cert.RefFIdeal.τ).loc Cert.RefFIdeal.main_arg0) = m ((c.tc : Thread Cert.KernelFIdeal.nD Cert.KernelFIdeal.τ).loc Cert.KernelFIdeal.main_arg0)
      ∧ m' ((c.tc : Thread Cert.RefFIdeal.nD Cert.RefFIdeal.τ).loc Cert.RefFIdeal.main_arg1) = m ((c.tc : Thread Cert.KernelFIdeal.nD Cert.KernelFIdeal.τ).loc Cert.KernelFIdeal.main_arg1)
      ∧ m' ((c.tc : Thread Cert.RefFIdeal.nD Cert.RefFIdeal.τ).loc Cert.RefFIdeal.main_arg2) = m ((c.tc : Thread Cert.KernelFIdeal.nD Cert.KernelFIdeal.τ).loc Cert.KernelFIdeal.main_arg2)
      ∧ m' ((c.tc : Thread Cert.RefFIdeal.nD Cert.RefFIdeal.τ).loc Cert.RefFIdeal.main_arg3) = m ((c.tc : Thread Cert.KernelFIdeal.nD Cert.KernelFIdeal.τ).loc Cert.KernelFIdeal.main_arg3)
      ∧ m' ((c.tc : Thread Cert.RefFIdeal.nD Cert.RefFIdeal.τ).loc Cert.RefFIdeal.main_arg4) = m ((c.tc : Thread Cert.KernelFIdeal.nD Cert.KernelFIdeal.τ).loc Cert.KernelFIdeal.main_arg4)
      ∧ m' ((c.tc : Thread Cert.RefFIdeal.nD Cert.RefFIdeal.τ).loc Cert.RefFIdeal.main_arg5) = m ((c.tc : Thread Cert.KernelFIdeal.nD Cert.KernelFIdeal.τ).loc Cert.KernelFIdeal.main_arg5)
      ∧ m' ((c.tc : Thread Cert.RefFIdeal.nD Cert.RefFIdeal.τ).loc Cert.RefFIdeal.main_arg6) = m ((c.tc : Thread Cert.KernelFIdeal.nD Cert.KernelFIdeal.τ).loc Cert.KernelFIdeal.main_arg6)
      ∧ m' ((c.tc : Thread Cert.RefFIdeal.nD Cert.RefFIdeal.τ).loc Cert.RefFIdeal.main_arg7) = m ((c.tc : Thread Cert.KernelFIdeal.nD Cert.KernelFIdeal.τ).loc Cert.KernelFIdeal.main_arg7)) →
    ∃ (v0 : (c : Dev Cert.KernelFIdeal.nD) → Buf (Elt Ideal) ((c.tc : Thread Cert.KernelFIdeal.nD Cert.KernelFIdeal.τ).loc Cert.KernelFIdeal.main_v7_0)) (v1 : (c : Dev Cert.KernelFIdeal.nD) → Buf (Elt Ideal) ((c.tc : Thread Cert.KernelFIdeal.nD Cert.KernelFIdeal.τ).loc Cert.KernelFIdeal.main_v7_1)),
      θ_run (Cert.KernelFIdeal.defs (F := Ideal)) (onTc (τ := Cert.KernelFIdeal.τ) (Cert.KernelFIdeal.main (F := Ideal))) ⟨m, fun _ => 0, g⟩ (fun r => ∀ c : Dev Cert.KernelFIdeal.nD,
          r.2.mem ((c.tc : Thread Cert.KernelFIdeal.nD Cert.KernelFIdeal.τ).loc Cert.KernelFIdeal.main_v7_0) = v0 c
          ∧ r.2.mem ((c.tc : Thread Cert.KernelFIdeal.nD Cert.KernelFIdeal.τ).loc Cert.KernelFIdeal.main_v7_1) = v1 c
          ∧ r.2.mem ((c.tc : Thread Cert.KernelFIdeal.nD Cert.KernelFIdeal.τ).loc Cert.KernelFIdeal.main_arg0) = m ((c.tc : Thread Cert.KernelFIdeal.nD Cert.KernelFIdeal.τ).loc Cert.KernelFIdeal.main_arg0)
          ∧ r.2.mem ((c.tc : Thread Cert.KernelFIdeal.nD Cert.KernelFIdeal.τ).loc Cert.KernelFIdeal.main_arg1) = m ((c.tc : Thread Cert.KernelFIdeal.nD Cert.KernelFIdeal.τ).loc Cert.KernelFIdeal.main_arg1)
          ∧ r.2.mem ((c.tc : Thread Cert.KernelFIdeal.nD Cert.KernelFIdeal.τ).loc Cert.KernelFIdeal.main_arg2) = m ((c.tc : Thread Cert.KernelFIdeal.nD Cert.KernelFIdeal.τ).loc Cert.KernelFIdeal.main_arg2)
          ∧ r.2.mem ((c.tc : Thread Cert.KernelFIdeal.nD Cert.KernelFIdeal.τ).loc Cert.KernelFIdeal.main_arg3) = m ((c.tc : Thread Cert.KernelFIdeal.nD Cert.KernelFIdeal.τ).loc Cert.KernelFIdeal.main_arg3)
          ∧ r.2.mem ((c.tc : Thread Cert.KernelFIdeal.nD Cert.KernelFIdeal.τ).loc Cert.KernelFIdeal.main_arg4) = m ((c.tc : Thread Cert.KernelFIdeal.nD Cert.KernelFIdeal.τ).loc Cert.KernelFIdeal.main_arg4)
          ∧ r.2.mem ((c.tc : Thread Cert.KernelFIdeal.nD Cert.KernelFIdeal.τ).loc Cert.KernelFIdeal.main_arg5) = m ((c.tc : Thread Cert.KernelFIdeal.nD Cert.KernelFIdeal.τ).loc Cert.KernelFIdeal.main_arg5)
          ∧ r.2.mem ((c.tc : Thread Cert.KernelFIdeal.nD Cert.KernelFIdeal.τ).loc Cert.KernelFIdeal.main_arg6) = m ((c.tc : Thread Cert.KernelFIdeal.nD Cert.KernelFIdeal.τ).loc Cert.KernelFIdeal.main_arg6)
          ∧ r.2.mem ((c.tc : Thread Cert.KernelFIdeal.nD Cert.KernelFIdeal.τ).loc Cert.KernelFIdeal.main_arg7) = m ((c.tc : Thread Cert.KernelFIdeal.nD Cert.KernelFIdeal.τ).loc Cert.KernelFIdeal.main_arg7))
      ∧ θ_run (Cert.RefFIdeal.defs (F := Ideal)) (onTc (τ := Cert.RefFIdeal.τ) (Cert.RefFIdeal.main (F := Ideal))) ⟨m', fun _ => 0, g'⟩ (fun r => ∀ c : Dev Cert.RefFIdeal.nD,
          r.2.mem ((c.tc : Thread Cert.RefFIdeal.nD Cert.RefFIdeal.τ).loc Cert.RefFIdeal.main_v12) = v0 c
          ∧ r.2.mem ((c.tc : Thread Cert.RefFIdeal.nD Cert.RefFIdeal.τ).loc Cert.RefFIdeal.main_v13) = v1 c
          ∧ r.2.mem ((c.tc : Thread Cert.RefFIdeal.nD Cert.RefFIdeal.τ).loc Cert.RefFIdeal.main_arg0) = m' ((c.tc : Thread Cert.RefFIdeal.nD Cert.RefFIdeal.τ).loc Cert.RefFIdeal.main_arg0)
          ∧ r.2.mem ((c.tc : Thread Cert.RefFIdeal.nD Cert.RefFIdeal.τ).loc Cert.RefFIdeal.main_arg1) = m' ((c.tc : Thread Cert.RefFIdeal.nD Cert.RefFIdeal.τ).loc Cert.RefFIdeal.main_arg1)
          ∧ r.2.mem ((c.tc : Thread Cert.RefFIdeal.nD Cert.RefFIdeal.τ).loc Cert.RefFIdeal.main_arg2) = m' ((c.tc : Thread Cert.RefFIdeal.nD Cert.RefFIdeal.τ).loc Cert.RefFIdeal.main_arg2)
          ∧ r.2.mem ((c.tc : Thread Cert.RefFIdeal.nD Cert.RefFIdeal.τ).loc Cert.RefFIdeal.main_arg3) = m' ((c.tc : Thread Cert.RefFIdeal.nD Cert.RefFIdeal.τ).loc Cert.RefFIdeal.main_arg3)
          ∧ r.2.mem ((c.tc : Thread Cert.RefFIdeal.nD Cert.RefFIdeal.τ).loc Cert.RefFIdeal.main_arg4) = m' ((c.tc : Thread Cert.RefFIdeal.nD Cert.RefFIdeal.τ).loc Cert.RefFIdeal.main_arg4)
          ∧ r.2.mem ((c.tc : Thread Cert.RefFIdeal.nD Cert.RefFIdeal.τ).loc Cert.RefFIdeal.main_arg5) = m' ((c.tc : Thread Cert.RefFIdeal.nD Cert.RefFIdeal.τ).loc Cert.RefFIdeal.main_arg5)
          ∧ r.2.mem ((c.tc : Thread Cert.RefFIdeal.nD Cert.RefFIdeal.τ).loc Cert.RefFIdeal.main_arg6) = m' ((c.tc : Thread Cert.RefFIdeal.nD Cert.RefFIdeal.τ).loc Cert.RefFIdeal.main_arg6)
          ∧ r.2.mem ((c.tc : Thread Cert.RefFIdeal.nD Cert.RefFIdeal.τ).loc Cert.RefFIdeal.main_arg7) = m' ((c.tc : Thread Cert.RefFIdeal.nD Cert.RefFIdeal.τ).loc Cert.RefFIdeal.main_arg7))

def preserves_KernelB_KernelBIdeal : Prop :=
  True

def preserves_KernelFfn_KernelFfnIdeal : Prop :=
  True

def algebraic_KernelFfnIdeal_RefFfnIdeal_pre_finite_ffn [hKernelFfnIdeal : Cert.KernelFfnIdeal.Facts] [hRefFfnIdeal : Cert.RefFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_KernelFfnIdeal_finite_ffn m →
    (∀ c : Dev Cert.KernelFfnIdeal.nD,
      m' ((c.tc : Thread Cert.RefFfnIdeal.nD Cert.RefFfnIdeal.τ).loc Cert.RefFfnIdeal.main_arg0) = m ((c.tc : Thread Cert.KernelFfnIdeal.nD Cert.KernelFfnIdeal.τ).loc Cert.KernelFfnIdeal.main_arg0)
      ∧ m' ((c.tc : Thread Cert.RefFfnIdeal.nD Cert.RefFfnIdeal.τ).loc Cert.RefFfnIdeal.main_arg1) = m ((c.tc : Thread Cert.KernelFfnIdeal.nD Cert.KernelFfnIdeal.τ).loc Cert.KernelFfnIdeal.main_arg1)
      ∧ m' ((c.tc : Thread Cert.RefFfnIdeal.nD Cert.RefFfnIdeal.τ).loc Cert.RefFfnIdeal.main_arg2) = m ((c.tc : Thread Cert.KernelFfnIdeal.nD Cert.KernelFfnIdeal.τ).loc Cert.KernelFfnIdeal.main_arg2)
      ∧ m' ((c.tc : Thread Cert.RefFfnIdeal.nD Cert.RefFfnIdeal.τ).loc Cert.RefFfnIdeal.main_arg3) = m ((c.tc : Thread Cert.KernelFfnIdeal.nD Cert.KernelFfnIdeal.τ).loc Cert.KernelFfnIdeal.main_arg3)
      ∧ m' ((c.tc : Thread Cert.RefFfnIdeal.nD Cert.RefFfnIdeal.τ).loc Cert.RefFfnIdeal.main_arg4) = m ((c.tc : Thread Cert.KernelFfnIdeal.nD Cert.KernelFfnIdeal.τ).loc Cert.KernelFfnIdeal.main_arg4)
      ∧ m' ((c.tc : Thread Cert.RefFfnIdeal.nD Cert.RefFfnIdeal.τ).loc Cert.RefFfnIdeal.main_arg5) = m ((c.tc : Thread Cert.KernelFfnIdeal.nD Cert.KernelFfnIdeal.τ).loc Cert.KernelFfnIdeal.main_arg5)
      ∧ m' ((c.tc : Thread Cert.RefFfnIdeal.nD Cert.RefFfnIdeal.τ).loc Cert.RefFfnIdeal.main_arg6) = m ((c.tc : Thread Cert.KernelFfnIdeal.nD Cert.KernelFfnIdeal.τ).loc Cert.KernelFfnIdeal.main_arg6)) →
    ∃ (v0 : (c : Dev Cert.KernelFfnIdeal.nD) → Buf (Elt Ideal) ((c.tc : Thread Cert.KernelFfnIdeal.nD Cert.KernelFfnIdeal.τ).loc Cert.KernelFfnIdeal.main_v5_0)) (v1 : (c : Dev Cert.KernelFfnIdeal.nD) → Buf (Elt Ideal) ((c.tc : Thread Cert.KernelFfnIdeal.nD Cert.KernelFfnIdeal.τ).loc Cert.KernelFfnIdeal.main_v5_1)) (v2 : (c : Dev Cert.KernelFfnIdeal.nD) → Buf (Elt Ideal) ((c.tc : Thread Cert.KernelFfnIdeal.nD Cert.KernelFfnIdeal.τ).loc Cert.KernelFfnIdeal.main_v5_2)) (v3 : (c : Dev Cert.KernelFfnIdeal.nD) → Buf (Elt Ideal) ((c.tc : Thread Cert.KernelFfnIdeal.nD Cert.KernelFfnIdeal.τ).loc Cert.KernelFfnIdeal.main_v5_3)) (v4 : (c : Dev Cert.KernelFfnIdeal.nD) → Buf (Elt Ideal) ((c.tc : Thread Cert.KernelFfnIdeal.nD Cert.KernelFfnIdeal.τ).loc Cert.KernelFfnIdeal.main_v5_4)) (v5 : (c : Dev Cert.KernelFfnIdeal.nD) → Buf (Elt Ideal) ((c.tc : Thread Cert.KernelFfnIdeal.nD Cert.KernelFfnIdeal.τ).loc Cert.KernelFfnIdeal.main_v5_5)) (v6 : (c : Dev Cert.KernelFfnIdeal.nD) → Buf (Elt Ideal) ((c.tc : Thread Cert.KernelFfnIdeal.nD Cert.KernelFfnIdeal.τ).loc Cert.KernelFfnIdeal.main_v5_6)) (v7 : (c : Dev Cert.KernelFfnIdeal.nD) → Buf (Elt Ideal) ((c.tc : Thread Cert.KernelFfnIdeal.nD Cert.KernelFfnIdeal.τ).loc Cert.KernelFfnIdeal.main_v5_7)) (v8 : (c : Dev Cert.KernelFfnIdeal.nD) → Buf (Elt Ideal) ((c.tc : Thread Cert.KernelFfnIdeal.nD Cert.KernelFfnIdeal.τ).loc Cert.KernelFfnIdeal.main_v5_8)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v5_0) = v0 c
          ∧ r.2.mem ((c.tc : Thread Cert.KernelFfnIdeal.nD Cert.KernelFfnIdeal.τ).loc Cert.KernelFfnIdeal.main_v5_1) = v1 c
          ∧ r.2.mem ((c.tc : Thread Cert.KernelFfnIdeal.nD Cert.KernelFfnIdeal.τ).loc Cert.KernelFfnIdeal.main_v5_2) = v2 c
          ∧ r.2.mem ((c.tc : Thread Cert.KernelFfnIdeal.nD Cert.KernelFfnIdeal.τ).loc Cert.KernelFfnIdeal.main_v5_3) = v3 c
          ∧ r.2.mem ((c.tc : Thread Cert.KernelFfnIdeal.nD Cert.KernelFfnIdeal.τ).loc Cert.KernelFfnIdeal.main_v5_4) = v4 c
          ∧ r.2.mem ((c.tc : Thread Cert.KernelFfnIdeal.nD Cert.KernelFfnIdeal.τ).loc Cert.KernelFfnIdeal.main_v5_5) = v5 c
          ∧ r.2.mem ((c.tc : Thread Cert.KernelFfnIdeal.nD Cert.KernelFfnIdeal.τ).loc Cert.KernelFfnIdeal.main_v5_6) = v6 c
          ∧ r.2.mem ((c.tc : Thread Cert.KernelFfnIdeal.nD Cert.KernelFfnIdeal.τ).loc Cert.KernelFfnIdeal.main_v5_7) = v7 c
          ∧ r.2.mem ((c.tc : Thread Cert.KernelFfnIdeal.nD Cert.KernelFfnIdeal.τ).loc Cert.KernelFfnIdeal.main_v5_8) = v8 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5)
          ∧ r.2.mem ((c.tc : Thread Cert.KernelFfnIdeal.nD Cert.KernelFfnIdeal.τ).loc Cert.KernelFfnIdeal.main_arg6) = m ((c.tc : Thread Cert.KernelFfnIdeal.nD Cert.KernelFfnIdeal.τ).loc Cert.KernelFfnIdeal.main_arg6))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v102) = v0 c
          ∧ r.2.mem ((c.tc : Thread Cert.RefFfnIdeal.nD Cert.RefFfnIdeal.τ).loc Cert.RefFfnIdeal.main_v103) = v1 c
          ∧ r.2.mem ((c.tc : Thread Cert.RefFfnIdeal.nD Cert.RefFfnIdeal.τ).loc Cert.RefFfnIdeal.main_v104) = v2 c
          ∧ r.2.mem ((c.tc : Thread Cert.RefFfnIdeal.nD Cert.RefFfnIdeal.τ).loc Cert.RefFfnIdeal.main_v105) = v3 c
          ∧ r.2.mem ((c.tc : Thread Cert.RefFfnIdeal.nD Cert.RefFfnIdeal.τ).loc Cert.RefFfnIdeal.main_v106) = v4 c
          ∧ r.2.mem ((c.tc : Thread Cert.RefFfnIdeal.nD Cert.RefFfnIdeal.τ).loc Cert.RefFfnIdeal.main_v107) = v5 c
          ∧ r.2.mem ((c.tc : Thread Cert.RefFfnIdeal.nD Cert.RefFfnIdeal.τ).loc Cert.RefFfnIdeal.main_v108) = v6 c
          ∧ r.2.mem ((c.tc : Thread Cert.RefFfnIdeal.nD Cert.RefFfnIdeal.τ).loc Cert.RefFfnIdeal.main_v109) = v7 c
          ∧ r.2.mem ((c.tc : Thread Cert.RefFfnIdeal.nD Cert.RefFfnIdeal.τ).loc Cert.RefFfnIdeal.main_v110) = v8 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4)
          ∧ r.2.mem ((c.tc : Thread Cert.RefFfnIdeal.nD Cert.RefFfnIdeal.τ).loc Cert.RefFfnIdeal.main_arg5) = m' ((c.tc : Thread Cert.RefFfnIdeal.nD Cert.RefFfnIdeal.τ).loc Cert.RefFfnIdeal.main_arg5)
          ∧ r.2.mem ((c.tc : Thread Cert.RefFfnIdeal.nD Cert.RefFfnIdeal.τ).loc Cert.RefFfnIdeal.main_arg6) = m' ((c.tc : Thread Cert.RefFfnIdeal.nD Cert.RefFfnIdeal.τ).loc Cert.RefFfnIdeal.main_arg6))

def preserves_KernelW_KernelWIdeal : Prop :=
  True

def algebraic_KernelWIdeal_RefWIdeal [hKernelWIdeal : Cert.KernelWIdeal.Facts] [hRefWIdeal : Cert.RefWIdeal.Facts] : Prop :=
  ∀ (m : (ℓ : Loc Cert.KernelWIdeal.nD Cert.KernelWIdeal.τ Cert.KernelWIdeal.sig) → Buf (Elt Ideal) ℓ) (g : Dev Cert.KernelWIdeal.nD → PrngReg)
    (m' : (ℓ : Loc Cert.RefWIdeal.nD Cert.RefWIdeal.τ Cert.RefWIdeal.sig) → Buf (Elt Ideal) ℓ) (g' : Dev Cert.RefWIdeal.nD → PrngReg), Pre_KernelWIdeal m →
    (∀ c : Dev Cert.KernelWIdeal.nD,
      m' ((c.tc : Thread Cert.RefWIdeal.nD Cert.RefWIdeal.τ).loc Cert.RefWIdeal.main_arg0) = m ((c.tc : Thread Cert.KernelWIdeal.nD Cert.KernelWIdeal.τ).loc Cert.KernelWIdeal.main_arg0)
      ∧ m' ((c.tc : Thread Cert.RefWIdeal.nD Cert.RefWIdeal.τ).loc Cert.RefWIdeal.main_arg1) = m ((c.tc : Thread Cert.KernelWIdeal.nD Cert.KernelWIdeal.τ).loc Cert.KernelWIdeal.main_arg1)) →
    ∃ (v0 : (c : Dev Cert.KernelWIdeal.nD) → Buf (Elt Ideal) ((c.tc : Thread Cert.KernelWIdeal.nD Cert.KernelWIdeal.τ).loc Cert.KernelWIdeal.main_v2)),
      θ_run (Cert.KernelWIdeal.defs (F := Ideal)) (onTc (τ := Cert.KernelWIdeal.τ) (Cert.KernelWIdeal.main (F := Ideal))) ⟨m, fun _ => 0, g⟩ (fun r => ∀ c : Dev Cert.KernelWIdeal.nD,
          r.2.mem ((c.tc : Thread Cert.KernelWIdeal.nD Cert.KernelWIdeal.τ).loc Cert.KernelWIdeal.main_v2) = v0 c
          ∧ r.2.mem ((c.tc : Thread Cert.KernelWIdeal.nD Cert.KernelWIdeal.τ).loc Cert.KernelWIdeal.main_arg0) = m ((c.tc : Thread Cert.KernelWIdeal.nD Cert.KernelWIdeal.τ).loc Cert.KernelWIdeal.main_arg0)
          ∧ r.2.mem ((c.tc : Thread Cert.KernelWIdeal.nD Cert.KernelWIdeal.τ).loc Cert.KernelWIdeal.main_arg1) = m ((c.tc : Thread Cert.KernelWIdeal.nD Cert.KernelWIdeal.τ).loc Cert.KernelWIdeal.main_arg1))
      ∧ θ_run (Cert.RefWIdeal.defs (F := Ideal)) (onTc (τ := Cert.RefWIdeal.τ) (Cert.RefWIdeal.main (F := Ideal))) ⟨m', fun _ => 0, g'⟩ (fun r => ∀ c : Dev Cert.RefWIdeal.nD,
          r.2.mem ((c.tc : Thread Cert.RefWIdeal.nD Cert.RefWIdeal.τ).loc Cert.RefWIdeal.main_v5) = v0 c
          ∧ r.2.mem ((c.tc : Thread Cert.RefWIdeal.nD Cert.RefWIdeal.τ).loc Cert.RefWIdeal.main_arg0) = m' ((c.tc : Thread Cert.RefWIdeal.nD Cert.RefWIdeal.τ).loc Cert.RefWIdeal.main_arg0)
          ∧ r.2.mem ((c.tc : Thread Cert.RefWIdeal.nD Cert.RefWIdeal.τ).loc Cert.RefWIdeal.main_arg1) = m' ((c.tc : Thread Cert.RefWIdeal.nD Cert.RefWIdeal.τ).loc Cert.RefWIdeal.main_arg1))

def preserves_KernelIn_KernelInIdeal : Prop :=
  True

def algebraic_KernelInIdeal_RefInIdeal [hKernelInIdeal : Cert.KernelInIdeal.Facts] [hRefInIdeal : Cert.RefInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.RefInIdeal.nD Cert.RefInIdeal.τ Cert.RefInIdeal.sig) → Buf (Elt Ideal) ℓ) (g' : Dev Cert.RefInIdeal.nD → PrngReg), Pre_KernelInIdeal m →
    (∀ c : Dev Cert.KernelInIdeal.nD,
      m' ((c.tc : Thread Cert.RefInIdeal.nD Cert.RefInIdeal.τ).loc Cert.RefInIdeal.main_arg0) = m ((c.tc : Thread Cert.KernelInIdeal.nD Cert.KernelInIdeal.τ).loc Cert.KernelInIdeal.main_arg0)
      ∧ m' ((c.tc : Thread Cert.RefInIdeal.nD Cert.RefInIdeal.τ).loc Cert.RefInIdeal.main_arg1) = m ((c.tc : Thread Cert.KernelInIdeal.nD Cert.KernelInIdeal.τ).loc Cert.KernelInIdeal.main_arg1)
      ∧ m' ((c.tc : Thread Cert.RefInIdeal.nD Cert.RefInIdeal.τ).loc Cert.RefInIdeal.main_arg2) = m ((c.tc : Thread Cert.KernelInIdeal.nD Cert.KernelInIdeal.τ).loc Cert.KernelInIdeal.main_arg2)
      ∧ m' ((c.tc : Thread Cert.RefInIdeal.nD Cert.RefInIdeal.τ).loc Cert.RefInIdeal.main_arg3) = m ((c.tc : Thread Cert.KernelInIdeal.nD Cert.KernelInIdeal.τ).loc Cert.KernelInIdeal.main_arg3)
      ∧ m' ((c.tc : Thread Cert.RefInIdeal.nD Cert.RefInIdeal.τ).loc Cert.RefInIdeal.main_arg4) = m ((c.tc : Thread Cert.KernelInIdeal.nD Cert.KernelInIdeal.τ).loc Cert.KernelInIdeal.main_arg4)
      ∧ m' ((c.tc : Thread Cert.RefInIdeal.nD Cert.RefInIdeal.τ).loc Cert.RefInIdeal.main_arg5) = m ((c.tc : Thread Cert.KernelInIdeal.nD Cert.KernelInIdeal.τ).loc Cert.KernelInIdeal.main_arg5)
      ∧ m' ((c.tc : Thread Cert.RefInIdeal.nD Cert.RefInIdeal.τ).loc Cert.RefInIdeal.main_arg6) = m ((c.tc : Thread Cert.KernelInIdeal.nD Cert.KernelInIdeal.τ).loc Cert.KernelInIdeal.main_arg6)) →
    ∃ (v0 : (c : Dev Cert.KernelInIdeal.nD) → Buf (Elt Ideal) ((c.tc : Thread Cert.KernelInIdeal.nD Cert.KernelInIdeal.τ).loc Cert.KernelInIdeal.main_v7)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v7) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
          ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6))
      ∧ θ_run (Cert.RefInIdeal.defs (F := Ideal)) (onTc (τ := Cert.RefInIdeal.τ) (Cert.RefInIdeal.main (F := Ideal))) ⟨m', fun _ => 0, g'⟩ (fun r => ∀ c : Dev Cert.RefInIdeal.nD,
          r.2.mem ((c.tc : Thread Cert.RefInIdeal.nD Cert.RefInIdeal.τ).loc Cert.RefInIdeal.main_v8) = v0 c
          ∧ r.2.mem ((c.tc : Thread Cert.RefInIdeal.nD Cert.RefInIdeal.τ).loc Cert.RefInIdeal.main_arg0) = m' ((c.tc : Thread Cert.RefInIdeal.nD Cert.RefInIdeal.τ).loc Cert.RefInIdeal.main_arg0)
          ∧ r.2.mem ((c.tc : Thread Cert.RefInIdeal.nD Cert.RefInIdeal.τ).loc Cert.RefInIdeal.main_arg1) = m' ((c.tc : Thread Cert.RefInIdeal.nD Cert.RefInIdeal.τ).loc Cert.RefInIdeal.main_arg1)
          ∧ r.2.mem ((c.tc : Thread Cert.RefInIdeal.nD Cert.RefInIdeal.τ).loc Cert.RefInIdeal.main_arg2) = m' ((c.tc : Thread Cert.RefInIdeal.nD Cert.RefInIdeal.τ).loc Cert.RefInIdeal.main_arg2)
          ∧ r.2.mem ((c.tc : Thread Cert.RefInIdeal.nD Cert.RefInIdeal.τ).loc Cert.RefInIdeal.main_arg3) = m' ((c.tc : Thread Cert.RefInIdeal.nD Cert.RefInIdeal.τ).loc Cert.RefInIdeal.main_arg3)
          ∧ r.2.mem ((c.tc : Thread Cert.RefInIdeal.nD Cert.RefInIdeal.τ).loc Cert.RefInIdeal.main_arg4) = m' ((c.tc : Thread Cert.RefInIdeal.nD Cert.RefInIdeal.τ).loc Cert.RefInIdeal.main_arg4)
          ∧ r.2.mem ((c.tc : Thread Cert.RefInIdeal.nD Cert.RefInIdeal.τ).loc Cert.RefInIdeal.main_arg5) = m' ((c.tc : Thread Cert.RefInIdeal.nD Cert.RefInIdeal.τ).loc Cert.RefInIdeal.main_arg5)
          ∧ r.2.mem ((c.tc : Thread Cert.RefInIdeal.nD Cert.RefInIdeal.τ).loc Cert.RefInIdeal.main_arg6) = m' ((c.tc : Thread Cert.RefInIdeal.nD Cert.RefInIdeal.τ).loc Cert.RefInIdeal.main_arg6))

def preserves_KernelOut_KernelOutIdeal : Prop :=
  True

def algebraic_KernelOutIdeal_RefOutIdeal [hKernelOutIdeal : Cert.KernelOutIdeal.Facts] [hRefOutIdeal : Cert.RefOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.RefOutIdeal.nD Cert.RefOutIdeal.τ Cert.RefOutIdeal.sig) → Buf (Elt Ideal) ℓ) (g' : Dev Cert.RefOutIdeal.nD → PrngReg), Pre_KernelOutIdeal m →
    (∀ c : Dev Cert.KernelOutIdeal.nD,
      m' ((c.tc : Thread Cert.RefOutIdeal.nD Cert.RefOutIdeal.τ).loc Cert.RefOutIdeal.main_arg0) = m ((c.tc : Thread Cert.KernelOutIdeal.nD Cert.KernelOutIdeal.τ).loc Cert.KernelOutIdeal.main_arg0)
      ∧ m' ((c.tc : Thread Cert.RefOutIdeal.nD Cert.RefOutIdeal.τ).loc Cert.RefOutIdeal.main_arg1) = m ((c.tc : Thread Cert.KernelOutIdeal.nD Cert.KernelOutIdeal.τ).loc Cert.KernelOutIdeal.main_arg1)
      ∧ m' ((c.tc : Thread Cert.RefOutIdeal.nD Cert.RefOutIdeal.τ).loc Cert.RefOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v1)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v1) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.RefOutIdeal.defs (F := Ideal)) (onTc (τ := Cert.RefOutIdeal.τ) (Cert.RefOutIdeal.main (F := Ideal))) ⟨m', fun _ => 0, g'⟩ (fun r => ∀ c : Dev Cert.RefOutIdeal.nD,
          r.2.mem ((c.tc : Thread Cert.RefOutIdeal.nD Cert.RefOutIdeal.τ).loc Cert.RefOutIdeal.main_v5) = v0 c
          ∧ r.2.mem ((c.tc : Thread Cert.RefOutIdeal.nD Cert.RefOutIdeal.τ).loc Cert.RefOutIdeal.main_arg0) = m' ((c.tc : Thread Cert.RefOutIdeal.nD Cert.RefOutIdeal.τ).loc Cert.RefOutIdeal.main_arg0)
          ∧ r.2.mem ((c.tc : Thread Cert.RefOutIdeal.nD Cert.RefOutIdeal.τ).loc Cert.RefOutIdeal.main_arg1) = m' ((c.tc : Thread Cert.RefOutIdeal.nD Cert.RefOutIdeal.τ).loc Cert.RefOutIdeal.main_arg1)
          ∧ r.2.mem ((c.tc : Thread Cert.RefOutIdeal.nD Cert.RefOutIdeal.τ).loc Cert.RefOutIdeal.main_arg2) = m' ((c.tc : Thread Cert.RefOutIdeal.nD Cert.RefOutIdeal.τ).loc Cert.RefOutIdeal.main_arg2))

def preserves_KernelProj_KernelProjIdeal : Prop :=
  True

def algebraic_KernelProjIdeal_RefProjIdeal [hKernelProjIdeal : Cert.KernelProjIdeal.Facts] [hRefProjIdeal : Cert.RefProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_KernelProjIdeal m →
    (∀ c : Dev Cert.KernelProjIdeal.nD,
      m' ((c.tc : Thread Cert.RefProjIdeal.nD Cert.RefProjIdeal.τ).loc Cert.RefProjIdeal.main_arg0) = m ((c.tc : Thread Cert.KernelProjIdeal.nD Cert.KernelProjIdeal.τ).loc Cert.KernelProjIdeal.main_arg0)
      ∧ m' ((c.tc : Thread Cert.RefProjIdeal.nD Cert.RefProjIdeal.τ).loc Cert.RefProjIdeal.main_arg1) = m ((c.tc : Thread Cert.KernelProjIdeal.nD Cert.KernelProjIdeal.τ).loc Cert.KernelProjIdeal.main_arg1)
      ∧ m' ((c.tc : Thread Cert.RefProjIdeal.nD Cert.RefProjIdeal.τ).loc Cert.RefProjIdeal.main_arg2) = m ((c.tc : Thread Cert.KernelProjIdeal.nD Cert.KernelProjIdeal.τ).loc Cert.KernelProjIdeal.main_arg2)
      ∧ m' ((c.tc : Thread Cert.RefProjIdeal.nD Cert.RefProjIdeal.τ).loc Cert.RefProjIdeal.main_arg3) = m ((c.tc : Thread Cert.KernelProjIdeal.nD Cert.KernelProjIdeal.τ).loc Cert.KernelProjIdeal.main_arg3)) →
    ∃ (v0 : (c : Dev Cert.KernelProjIdeal.nD) → Buf (Elt Ideal) ((c.tc : Thread Cert.KernelProjIdeal.nD Cert.KernelProjIdeal.τ).loc Cert.KernelProjIdeal.main_v1_0)) (v1 : (c : Dev Cert.KernelProjIdeal.nD) → Buf (Elt Ideal) ((c.tc : Thread Cert.KernelProjIdeal.nD Cert.KernelProjIdeal.τ).loc Cert.KernelProjIdeal.main_v1_1)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v1_0) = v0 c
          ∧ r.2.mem ((c.tc : Thread Cert.KernelProjIdeal.nD Cert.KernelProjIdeal.τ).loc Cert.KernelProjIdeal.main_v1_1) = v1 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v14) = v0 c
          ∧ r.2.mem ((c.tc : Thread Cert.RefProjIdeal.nD Cert.RefProjIdeal.τ).loc Cert.RefProjIdeal.main_v15) = v1 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1)
          ∧ r.2.mem ((c.tc : Thread Cert.RefProjIdeal.nD Cert.RefProjIdeal.τ).loc Cert.RefProjIdeal.main_arg2) = m' ((c.tc : Thread Cert.RefProjIdeal.nD Cert.RefProjIdeal.τ).loc Cert.RefProjIdeal.main_arg2)
          ∧ r.2.mem ((c.tc : Thread Cert.RefProjIdeal.nD Cert.RefProjIdeal.τ).loc Cert.RefProjIdeal.main_arg3) = m' ((c.tc : Thread Cert.RefProjIdeal.nD Cert.RefProjIdeal.τ).loc Cert.RefProjIdeal.main_arg3))

def preserves_KernelMix_KernelMixIdeal : Prop :=
  True

def algebraic_KernelMixIdeal_RefMixIdeal [hKernelMixIdeal : Cert.KernelMixIdeal.Facts] [hRefMixIdeal : Cert.RefMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.RefMixIdeal.nD Cert.RefMixIdeal.τ Cert.RefMixIdeal.sig) → Buf (Elt Ideal) ℓ) (g' : Dev Cert.RefMixIdeal.nD → PrngReg), Pre_KernelMixIdeal m →
    (∀ c : Dev Cert.KernelMixIdeal.nD,
      m' ((c.tc : Thread Cert.RefMixIdeal.nD Cert.RefMixIdeal.τ).loc Cert.RefMixIdeal.main_arg0) = m ((c.tc : Thread Cert.KernelMixIdeal.nD Cert.KernelMixIdeal.τ).loc Cert.KernelMixIdeal.main_arg0)
      ∧ m' ((c.tc : Thread Cert.RefMixIdeal.nD Cert.RefMixIdeal.τ).loc Cert.RefMixIdeal.main_arg1) = m ((c.tc : Thread Cert.KernelMixIdeal.nD Cert.KernelMixIdeal.τ).loc Cert.KernelMixIdeal.main_arg1)
      ∧ m' ((c.tc : Thread Cert.RefMixIdeal.nD Cert.RefMixIdeal.τ).loc Cert.RefMixIdeal.main_arg2) = m ((c.tc : Thread Cert.KernelMixIdeal.nD Cert.KernelMixIdeal.τ).loc Cert.KernelMixIdeal.main_arg2)
      ∧ m' ((c.tc : Thread Cert.RefMixIdeal.nD Cert.RefMixIdeal.τ).loc Cert.RefMixIdeal.main_arg3) = m ((c.tc : Thread Cert.KernelMixIdeal.nD Cert.KernelMixIdeal.τ).loc Cert.KernelMixIdeal.main_arg3)
      ∧ m' ((c.tc : Thread Cert.RefMixIdeal.nD Cert.RefMixIdeal.τ).loc Cert.RefMixIdeal.main_arg4) = m ((c.tc : Thread Cert.KernelMixIdeal.nD Cert.KernelMixIdeal.τ).loc Cert.KernelMixIdeal.main_arg4)) →
    ∃ (v0 : (c : Dev Cert.KernelMixIdeal.nD) → Buf (Elt Ideal) ((c.tc : Thread Cert.KernelMixIdeal.nD Cert.KernelMixIdeal.τ).loc Cert.KernelMixIdeal.main_v1_0)) (v1 : (c : Dev Cert.KernelMixIdeal.nD) → Buf (Elt Ideal) ((c.tc : Thread Cert.KernelMixIdeal.nD Cert.KernelMixIdeal.τ).loc Cert.KernelMixIdeal.main_v1_1)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v1_0) = v0 c
          ∧ r.2.mem ((c.tc : Thread Cert.KernelMixIdeal.nD Cert.KernelMixIdeal.τ).loc Cert.KernelMixIdeal.main_v1_1) = v1 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ θ_run (Cert.RefMixIdeal.defs (F := Ideal)) (onTc (τ := Cert.RefMixIdeal.τ) (Cert.RefMixIdeal.main (F := Ideal))) ⟨m', fun _ => 0, g'⟩ (fun r => ∀ c : Dev Cert.RefMixIdeal.nD,
          r.2.mem ((c.tc : Thread Cert.RefMixIdeal.nD Cert.RefMixIdeal.τ).loc Cert.RefMixIdeal.main_v1) = v0 c
          ∧ r.2.mem ((c.tc : Thread Cert.RefMixIdeal.nD Cert.RefMixIdeal.τ).loc Cert.RefMixIdeal.main_v16) = v1 c
          ∧ r.2.mem ((c.tc : Thread Cert.RefMixIdeal.nD Cert.RefMixIdeal.τ).loc Cert.RefMixIdeal.main_arg0) = m' ((c.tc : Thread Cert.RefMixIdeal.nD Cert.RefMixIdeal.τ).loc Cert.RefMixIdeal.main_arg0)
          ∧ r.2.mem ((c.tc : Thread Cert.RefMixIdeal.nD Cert.RefMixIdeal.τ).loc Cert.RefMixIdeal.main_arg1) = m' ((c.tc : Thread Cert.RefMixIdeal.nD Cert.RefMixIdeal.τ).loc Cert.RefMixIdeal.main_arg1)
          ∧ r.2.mem ((c.tc : Thread Cert.RefMixIdeal.nD Cert.RefMixIdeal.τ).loc Cert.RefMixIdeal.main_arg2) = m' ((c.tc : Thread Cert.RefMixIdeal.nD Cert.RefMixIdeal.τ).loc Cert.RefMixIdeal.main_arg2)
          ∧ r.2.mem ((c.tc : Thread Cert.RefMixIdeal.nD Cert.RefMixIdeal.τ).loc Cert.RefMixIdeal.main_arg3) = m' ((c.tc : Thread Cert.RefMixIdeal.nD Cert.RefMixIdeal.τ).loc Cert.RefMixIdeal.main_arg3)
          ∧ r.2.mem ((c.tc : Thread Cert.RefMixIdeal.nD Cert.RefMixIdeal.τ).loc Cert.RefMixIdeal.main_arg4) = m' ((c.tc : Thread Cert.RefMixIdeal.nD Cert.RefMixIdeal.τ).loc Cert.RefMixIdeal.main_arg4))

def preserves_KernelProjB_KernelProjBIdeal : Prop :=
  True

def algebraic_KernelProjBIdeal_RefProjBIdeal [hKernelProjBIdeal : Cert.KernelProjBIdeal.Facts] [hRefProjBIdeal : Cert.RefProjBIdeal.Facts] : Prop :=
  ∀ (m : (ℓ : Loc Cert.KernelProjBIdeal.nD Cert.KernelProjBIdeal.τ Cert.KernelProjBIdeal.sig) → Buf (Elt Ideal) ℓ) (g : Dev Cert.KernelProjBIdeal.nD → PrngReg)
    (m' : (ℓ : Loc Cert.RefProjBIdeal.nD Cert.RefProjBIdeal.τ Cert.RefProjBIdeal.sig) → Buf (Elt Ideal) ℓ) (g' : Dev Cert.RefProjBIdeal.nD → PrngReg), Pre_KernelProjBIdeal m →
    (∀ c : Dev Cert.KernelProjBIdeal.nD,
      m' ((c.tc : Thread Cert.RefProjBIdeal.nD Cert.RefProjBIdeal.τ).loc Cert.RefProjBIdeal.main_arg0) = m ((c.tc : Thread Cert.KernelProjBIdeal.nD Cert.KernelProjBIdeal.τ).loc Cert.KernelProjBIdeal.main_arg0)
      ∧ m' ((c.tc : Thread Cert.RefProjBIdeal.nD Cert.RefProjBIdeal.τ).loc Cert.RefProjBIdeal.main_arg1) = m ((c.tc : Thread Cert.KernelProjBIdeal.nD Cert.KernelProjBIdeal.τ).loc Cert.KernelProjBIdeal.main_arg1)
      ∧ m' ((c.tc : Thread Cert.RefProjBIdeal.nD Cert.RefProjBIdeal.τ).loc Cert.RefProjBIdeal.main_arg2) = m ((c.tc : Thread Cert.KernelProjBIdeal.nD Cert.KernelProjBIdeal.τ).loc Cert.KernelProjBIdeal.main_arg2)
      ∧ m' ((c.tc : Thread Cert.RefProjBIdeal.nD Cert.RefProjBIdeal.τ).loc Cert.RefProjBIdeal.main_arg3) = m ((c.tc : Thread Cert.KernelProjBIdeal.nD Cert.KernelProjBIdeal.τ).loc Cert.KernelProjBIdeal.main_arg3)
      ∧ m' ((c.tc : Thread Cert.RefProjBIdeal.nD Cert.RefProjBIdeal.τ).loc Cert.RefProjBIdeal.main_arg4) = m ((c.tc : Thread Cert.KernelProjBIdeal.nD Cert.KernelProjBIdeal.τ).loc Cert.KernelProjBIdeal.main_arg4)
      ∧ m' ((c.tc : Thread Cert.RefProjBIdeal.nD Cert.RefProjBIdeal.τ).loc Cert.RefProjBIdeal.main_arg5) = m ((c.tc : Thread Cert.KernelProjBIdeal.nD Cert.KernelProjBIdeal.τ).loc Cert.KernelProjBIdeal.main_arg5)
      ∧ m' ((c.tc : Thread Cert.RefProjBIdeal.nD Cert.RefProjBIdeal.τ).loc Cert.RefProjBIdeal.main_arg6) = m ((c.tc : Thread Cert.KernelProjBIdeal.nD Cert.KernelProjBIdeal.τ).loc Cert.KernelProjBIdeal.main_arg6)
      ∧ m' ((c.tc : Thread Cert.RefProjBIdeal.nD Cert.RefProjBIdeal.τ).loc Cert.RefProjBIdeal.main_arg7) = m ((c.tc : Thread Cert.KernelProjBIdeal.nD Cert.KernelProjBIdeal.τ).loc Cert.KernelProjBIdeal.main_arg7)
      ∧ m' ((c.tc : Thread Cert.RefProjBIdeal.nD Cert.RefProjBIdeal.τ).loc Cert.RefProjBIdeal.main_arg8) = m ((c.tc : Thread Cert.KernelProjBIdeal.nD Cert.KernelProjBIdeal.τ).loc Cert.KernelProjBIdeal.main_arg8)
      ∧ m' ((c.tc : Thread Cert.RefProjBIdeal.nD Cert.RefProjBIdeal.τ).loc Cert.RefProjBIdeal.main_arg9) = m ((c.tc : Thread Cert.KernelProjBIdeal.nD Cert.KernelProjBIdeal.τ).loc Cert.KernelProjBIdeal.main_arg9)
      ∧ m' ((c.tc : Thread Cert.RefProjBIdeal.nD Cert.RefProjBIdeal.τ).loc Cert.RefProjBIdeal.main_arg10) = m ((c.tc : Thread Cert.KernelProjBIdeal.nD Cert.KernelProjBIdeal.τ).loc Cert.KernelProjBIdeal.main_arg10)) →
    ∃ (v0 : (c : Dev Cert.KernelProjBIdeal.nD) → Buf (Elt Ideal) ((c.tc : Thread Cert.KernelProjBIdeal.nD Cert.KernelProjBIdeal.τ).loc Cert.KernelProjBIdeal.main_v7_0)) (v1 : (c : Dev Cert.KernelProjBIdeal.nD) → Buf (Elt Ideal) ((c.tc : Thread Cert.KernelProjBIdeal.nD Cert.KernelProjBIdeal.τ).loc Cert.KernelProjBIdeal.main_v7_1)),
      θ_run (Cert.KernelProjBIdeal.defs (F := Ideal)) (onTc (τ := Cert.KernelProjBIdeal.τ) (Cert.KernelProjBIdeal.main (F := Ideal))) ⟨m, fun _ => 0, g⟩ (fun r => ∀ c : Dev Cert.KernelProjBIdeal.nD,
          r.2.mem ((c.tc : Thread Cert.KernelProjBIdeal.nD Cert.KernelProjBIdeal.τ).loc Cert.KernelProjBIdeal.main_v7_0) = v0 c
          ∧ r.2.mem ((c.tc : Thread Cert.KernelProjBIdeal.nD Cert.KernelProjBIdeal.τ).loc Cert.KernelProjBIdeal.main_v7_1) = v1 c
          ∧ r.2.mem ((c.tc : Thread Cert.KernelProjBIdeal.nD Cert.KernelProjBIdeal.τ).loc Cert.KernelProjBIdeal.main_arg0) = m ((c.tc : Thread Cert.KernelProjBIdeal.nD Cert.KernelProjBIdeal.τ).loc Cert.KernelProjBIdeal.main_arg0)
          ∧ r.2.mem ((c.tc : Thread Cert.KernelProjBIdeal.nD Cert.KernelProjBIdeal.τ).loc Cert.KernelProjBIdeal.main_arg1) = m ((c.tc : Thread Cert.KernelProjBIdeal.nD Cert.KernelProjBIdeal.τ).loc Cert.KernelProjBIdeal.main_arg1)
          ∧ r.2.mem ((c.tc : Thread Cert.KernelProjBIdeal.nD Cert.KernelProjBIdeal.τ).loc Cert.KernelProjBIdeal.main_arg2) = m ((c.tc : Thread Cert.KernelProjBIdeal.nD Cert.KernelProjBIdeal.τ).loc Cert.KernelProjBIdeal.main_arg2)
          ∧ r.2.mem ((c.tc : Thread Cert.KernelProjBIdeal.nD Cert.KernelProjBIdeal.τ).loc Cert.KernelProjBIdeal.main_arg3) = m ((c.tc : Thread Cert.KernelProjBIdeal.nD Cert.KernelProjBIdeal.τ).loc Cert.KernelProjBIdeal.main_arg3)
          ∧ r.2.mem ((c.tc : Thread Cert.KernelProjBIdeal.nD Cert.KernelProjBIdeal.τ).loc Cert.KernelProjBIdeal.main_arg4) = m ((c.tc : Thread Cert.KernelProjBIdeal.nD Cert.KernelProjBIdeal.τ).loc Cert.KernelProjBIdeal.main_arg4)
          ∧ r.2.mem ((c.tc : Thread Cert.KernelProjBIdeal.nD Cert.KernelProjBIdeal.τ).loc Cert.KernelProjBIdeal.main_arg5) = m ((c.tc : Thread Cert.KernelProjBIdeal.nD Cert.KernelProjBIdeal.τ).loc Cert.KernelProjBIdeal.main_arg5)
          ∧ r.2.mem ((c.tc : Thread Cert.KernelProjBIdeal.nD Cert.KernelProjBIdeal.τ).loc Cert.KernelProjBIdeal.main_arg6) = m ((c.tc : Thread Cert.KernelProjBIdeal.nD Cert.KernelProjBIdeal.τ).loc Cert.KernelProjBIdeal.main_arg6)
          ∧ r.2.mem ((c.tc : Thread Cert.KernelProjBIdeal.nD Cert.KernelProjBIdeal.τ).loc Cert.KernelProjBIdeal.main_arg7) = m ((c.tc : Thread Cert.KernelProjBIdeal.nD Cert.KernelProjBIdeal.τ).loc Cert.KernelProjBIdeal.main_arg7)
          ∧ r.2.mem ((c.tc : Thread Cert.KernelProjBIdeal.nD Cert.KernelProjBIdeal.τ).loc Cert.KernelProjBIdeal.main_arg8) = m ((c.tc : Thread Cert.KernelProjBIdeal.nD Cert.KernelProjBIdeal.τ).loc Cert.KernelProjBIdeal.main_arg8)
          ∧ r.2.mem ((c.tc : Thread Cert.KernelProjBIdeal.nD Cert.KernelProjBIdeal.τ).loc Cert.KernelProjBIdeal.main_arg9) = m ((c.tc : Thread Cert.KernelProjBIdeal.nD Cert.KernelProjBIdeal.τ).loc Cert.KernelProjBIdeal.main_arg9)
          ∧ r.2.mem ((c.tc : Thread Cert.KernelProjBIdeal.nD Cert.KernelProjBIdeal.τ).loc Cert.KernelProjBIdeal.main_arg10) = m ((c.tc : Thread Cert.KernelProjBIdeal.nD Cert.KernelProjBIdeal.τ).loc Cert.KernelProjBIdeal.main_arg10))
      ∧ θ_run (Cert.RefProjBIdeal.defs (F := Ideal)) (onTc (τ := Cert.RefProjBIdeal.τ) (Cert.RefProjBIdeal.main (F := Ideal))) ⟨m', fun _ => 0, g'⟩ (fun r => ∀ c : Dev Cert.RefProjBIdeal.nD,
          r.2.mem ((c.tc : Thread Cert.RefProjBIdeal.nD Cert.RefProjBIdeal.τ).loc Cert.RefProjBIdeal.main_v40) = v0 c
          ∧ r.2.mem ((c.tc : Thread Cert.RefProjBIdeal.nD Cert.RefProjBIdeal.τ).loc Cert.RefProjBIdeal.main_v41) = v1 c
          ∧ r.2.mem ((c.tc : Thread Cert.RefProjBIdeal.nD Cert.RefProjBIdeal.τ).loc Cert.RefProjBIdeal.main_arg0) = m' ((c.tc : Thread Cert.RefProjBIdeal.nD Cert.RefProjBIdeal.τ).loc Cert.RefProjBIdeal.main_arg0)
          ∧ r.2.mem ((c.tc : Thread Cert.RefProjBIdeal.nD Cert.RefProjBIdeal.τ).loc Cert.RefProjBIdeal.main_arg1) = m' ((c.tc : Thread Cert.RefProjBIdeal.nD Cert.RefProjBIdeal.τ).loc Cert.RefProjBIdeal.main_arg1)
          ∧ r.2.mem ((c.tc : Thread Cert.RefProjBIdeal.nD Cert.RefProjBIdeal.τ).loc Cert.RefProjBIdeal.main_arg2) = m' ((c.tc : Thread Cert.RefProjBIdeal.nD Cert.RefProjBIdeal.τ).loc Cert.RefProjBIdeal.main_arg2)
          ∧ r.2.mem ((c.tc : Thread Cert.RefProjBIdeal.nD Cert.RefProjBIdeal.τ).loc Cert.RefProjBIdeal.main_arg3) = m' ((c.tc : Thread Cert.RefProjBIdeal.nD Cert.RefProjBIdeal.τ).loc Cert.RefProjBIdeal.main_arg3)
          ∧ r.2.mem ((c.tc : Thread Cert.RefProjBIdeal.nD Cert.RefProjBIdeal.τ).loc Cert.RefProjBIdeal.main_arg4) = m' ((c.tc : Thread Cert.RefProjBIdeal.nD Cert.RefProjBIdeal.τ).loc Cert.RefProjBIdeal.main_arg4)
          ∧ r.2.mem ((c.tc : Thread Cert.RefProjBIdeal.nD Cert.RefProjBIdeal.τ).loc Cert.RefProjBIdeal.main_arg5) = m' ((c.tc : Thread Cert.RefProjBIdeal.nD Cert.RefProjBIdeal.τ).loc Cert.RefProjBIdeal.main_arg5)
          ∧ r.2.mem ((c.tc : Thread Cert.RefProjBIdeal.nD Cert.RefProjBIdeal.τ).loc Cert.RefProjBIdeal.main_arg6) = m' ((c.tc : Thread Cert.RefProjBIdeal.nD Cert.RefProjBIdeal.τ).loc Cert.RefProjBIdeal.main_arg6)
          ∧ r.2.mem ((c.tc : Thread Cert.RefProjBIdeal.nD Cert.RefProjBIdeal.τ).loc Cert.RefProjBIdeal.main_arg7) = m' ((c.tc : Thread Cert.RefProjBIdeal.nD Cert.RefProjBIdeal.τ).loc Cert.RefProjBIdeal.main_arg7)
          ∧ r.2.mem ((c.tc : Thread Cert.RefProjBIdeal.nD Cert.RefProjBIdeal.τ).loc Cert.RefProjBIdeal.main_arg8) = m' ((c.tc : Thread Cert.RefProjBIdeal.nD Cert.RefProjBIdeal.τ).loc Cert.RefProjBIdeal.main_arg8)
          ∧ r.2.mem ((c.tc : Thread Cert.RefProjBIdeal.nD Cert.RefProjBIdeal.τ).loc Cert.RefProjBIdeal.main_arg9) = m' ((c.tc : Thread Cert.RefProjBIdeal.nD Cert.RefProjBIdeal.τ).loc Cert.RefProjBIdeal.main_arg9)
          ∧ r.2.mem ((c.tc : Thread Cert.RefProjBIdeal.nD Cert.RefProjBIdeal.τ).loc Cert.RefProjBIdeal.main_arg10) = m' ((c.tc : Thread Cert.RefProjBIdeal.nD Cert.RefProjBIdeal.τ).loc Cert.RefProjBIdeal.main_arg10))

def preserves_KernelMixB_KernelMixBIdeal : Prop :=
  True

def algebraic_KernelMixBIdeal_RefMixBIdeal [hKernelMixBIdeal : Cert.KernelMixBIdeal.Facts] [hRefMixBIdeal : Cert.RefMixBIdeal.Facts] : Prop :=
  ∀ (m : (ℓ : Loc Cert.KernelMixBIdeal.nD Cert.KernelMixBIdeal.τ Cert.KernelMixBIdeal.sig) → Buf (Elt Ideal) ℓ) (g : Dev Cert.KernelMixBIdeal.nD → PrngReg)
    (m' : (ℓ : Loc Cert.RefMixBIdeal.nD Cert.RefMixBIdeal.τ Cert.RefMixBIdeal.sig) → Buf (Elt Ideal) ℓ) (g' : Dev Cert.RefMixBIdeal.nD → PrngReg), Pre_KernelMixBIdeal m →
    (∀ c : Dev Cert.KernelMixBIdeal.nD,
      m' ((c.tc : Thread Cert.RefMixBIdeal.nD Cert.RefMixBIdeal.τ).loc Cert.RefMixBIdeal.main_arg0) = m ((c.tc : Thread Cert.KernelMixBIdeal.nD Cert.KernelMixBIdeal.τ).loc Cert.KernelMixBIdeal.main_arg0)
      ∧ m' ((c.tc : Thread Cert.RefMixBIdeal.nD Cert.RefMixBIdeal.τ).loc Cert.RefMixBIdeal.main_arg1) = m ((c.tc : Thread Cert.KernelMixBIdeal.nD Cert.KernelMixBIdeal.τ).loc Cert.KernelMixBIdeal.main_arg1)
      ∧ m' ((c.tc : Thread Cert.RefMixBIdeal.nD Cert.RefMixBIdeal.τ).loc Cert.RefMixBIdeal.main_arg2) = m ((c.tc : Thread Cert.KernelMixBIdeal.nD Cert.KernelMixBIdeal.τ).loc Cert.KernelMixBIdeal.main_arg2)
      ∧ m' ((c.tc : Thread Cert.RefMixBIdeal.nD Cert.RefMixBIdeal.τ).loc Cert.RefMixBIdeal.main_arg3) = m ((c.tc : Thread Cert.KernelMixBIdeal.nD Cert.KernelMixBIdeal.τ).loc Cert.KernelMixBIdeal.main_arg3)
      ∧ m' ((c.tc : Thread Cert.RefMixBIdeal.nD Cert.RefMixBIdeal.τ).loc Cert.RefMixBIdeal.main_arg4) = m ((c.tc : Thread Cert.KernelMixBIdeal.nD Cert.KernelMixBIdeal.τ).loc Cert.KernelMixBIdeal.main_arg4)) →
    ∃ (v0 : (c : Dev Cert.KernelMixBIdeal.nD) → Buf (Elt Ideal) ((c.tc : Thread Cert.KernelMixBIdeal.nD Cert.KernelMixBIdeal.τ).loc Cert.KernelMixBIdeal.main_v1_0)) (v1 : (c : Dev Cert.KernelMixBIdeal.nD) → Buf (Elt Ideal) ((c.tc : Thread Cert.KernelMixBIdeal.nD Cert.KernelMixBIdeal.τ).loc Cert.KernelMixBIdeal.main_v1_1)) (v2 : (c : Dev Cert.KernelMixBIdeal.nD) → Buf (Elt Ideal) ((c.tc : Thread Cert.KernelMixBIdeal.nD Cert.KernelMixBIdeal.τ).loc Cert.KernelMixBIdeal.main_v1_2)),
      θ_run (Cert.KernelMixBIdeal.defs (F := Ideal)) (onTc (τ := Cert.KernelMixBIdeal.τ) (Cert.KernelMixBIdeal.main (F := Ideal))) ⟨m, fun _ => 0, g⟩ (fun r => ∀ c : Dev Cert.KernelMixBIdeal.nD,
          r.2.mem ((c.tc : Thread Cert.KernelMixBIdeal.nD Cert.KernelMixBIdeal.τ).loc Cert.KernelMixBIdeal.main_v1_0) = v0 c
          ∧ r.2.mem ((c.tc : Thread Cert.KernelMixBIdeal.nD Cert.KernelMixBIdeal.τ).loc Cert.KernelMixBIdeal.main_v1_1) = v1 c
          ∧ r.2.mem ((c.tc : Thread Cert.KernelMixBIdeal.nD Cert.KernelMixBIdeal.τ).loc Cert.KernelMixBIdeal.main_v1_2) = v2 c
          ∧ r.2.mem ((c.tc : Thread Cert.KernelMixBIdeal.nD Cert.KernelMixBIdeal.τ).loc Cert.KernelMixBIdeal.main_arg0) = m ((c.tc : Thread Cert.KernelMixBIdeal.nD Cert.KernelMixBIdeal.τ).loc Cert.KernelMixBIdeal.main_arg0)
          ∧ r.2.mem ((c.tc : Thread Cert.KernelMixBIdeal.nD Cert.KernelMixBIdeal.τ).loc Cert.KernelMixBIdeal.main_arg1) = m ((c.tc : Thread Cert.KernelMixBIdeal.nD Cert.KernelMixBIdeal.τ).loc Cert.KernelMixBIdeal.main_arg1)
          ∧ r.2.mem ((c.tc : Thread Cert.KernelMixBIdeal.nD Cert.KernelMixBIdeal.τ).loc Cert.KernelMixBIdeal.main_arg2) = m ((c.tc : Thread Cert.KernelMixBIdeal.nD Cert.KernelMixBIdeal.τ).loc Cert.KernelMixBIdeal.main_arg2)
          ∧ r.2.mem ((c.tc : Thread Cert.KernelMixBIdeal.nD Cert.KernelMixBIdeal.τ).loc Cert.KernelMixBIdeal.main_arg3) = m ((c.tc : Thread Cert.KernelMixBIdeal.nD Cert.KernelMixBIdeal.τ).loc Cert.KernelMixBIdeal.main_arg3)
          ∧ r.2.mem ((c.tc : Thread Cert.KernelMixBIdeal.nD Cert.KernelMixBIdeal.τ).loc Cert.KernelMixBIdeal.main_arg4) = m ((c.tc : Thread Cert.KernelMixBIdeal.nD Cert.KernelMixBIdeal.τ).loc Cert.KernelMixBIdeal.main_arg4))
      ∧ θ_run (Cert.RefMixBIdeal.defs (F := Ideal)) (onTc (τ := Cert.RefMixBIdeal.τ) (Cert.RefMixBIdeal.main (F := Ideal))) ⟨m', fun _ => 0, g'⟩ (fun r => ∀ c : Dev Cert.RefMixBIdeal.nD,
          r.2.mem ((c.tc : Thread Cert.RefMixBIdeal.nD Cert.RefMixBIdeal.τ).loc Cert.RefMixBIdeal.main_v40) = v0 c
          ∧ r.2.mem ((c.tc : Thread Cert.RefMixBIdeal.nD Cert.RefMixBIdeal.τ).loc Cert.RefMixBIdeal.main_v39) = v1 c
          ∧ r.2.mem ((c.tc : Thread Cert.RefMixBIdeal.nD Cert.RefMixBIdeal.τ).loc Cert.RefMixBIdeal.main_v41) = v2 c
          ∧ r.2.mem ((c.tc : Thread Cert.RefMixBIdeal.nD Cert.RefMixBIdeal.τ).loc Cert.RefMixBIdeal.main_arg0) = m' ((c.tc : Thread Cert.RefMixBIdeal.nD Cert.RefMixBIdeal.τ).loc Cert.RefMixBIdeal.main_arg0)
          ∧ r.2.mem ((c.tc : Thread Cert.RefMixBIdeal.nD Cert.RefMixBIdeal.τ).loc Cert.RefMixBIdeal.main_arg1) = m' ((c.tc : Thread Cert.RefMixBIdeal.nD Cert.RefMixBIdeal.τ).loc Cert.RefMixBIdeal.main_arg1)
          ∧ r.2.mem ((c.tc : Thread Cert.RefMixBIdeal.nD Cert.RefMixBIdeal.τ).loc Cert.RefMixBIdeal.main_arg2) = m' ((c.tc : Thread Cert.RefMixBIdeal.nD Cert.RefMixBIdeal.τ).loc Cert.RefMixBIdeal.main_arg2)
          ∧ r.2.mem ((c.tc : Thread Cert.RefMixBIdeal.nD Cert.RefMixBIdeal.τ).loc Cert.RefMixBIdeal.main_arg3) = m' ((c.tc : Thread Cert.RefMixBIdeal.nD Cert.RefMixBIdeal.τ).loc Cert.RefMixBIdeal.main_arg3)
          ∧ r.2.mem ((c.tc : Thread Cert.RefMixBIdeal.nD Cert.RefMixBIdeal.τ).loc Cert.RefMixBIdeal.main_arg4) = m' ((c.tc : Thread Cert.RefMixBIdeal.nD Cert.RefMixBIdeal.τ).loc Cert.RefMixBIdeal.main_arg4))

def Claim : Prop :=
  ∃ (hKernelF : Cert.KernelF.Facts) (hKernelFIdeal : Cert.KernelFIdeal.Facts) (hRefFIdeal : Cert.RefFIdeal.Facts) (hKernelB : Cert.KernelB.Facts) (hKernelBIdeal : Cert.KernelBIdeal.Facts) (hRefBIdeal : Cert.RefBIdeal.Facts) (hKernelFfn : Cert.KernelFfn.Facts) (hKernelFfnIdeal : Cert.KernelFfnIdeal.Facts) (hRefFfnIdeal : Cert.RefFfnIdeal.Facts) (hKernelW : Cert.KernelW.Facts) (hKernelWIdeal : Cert.KernelWIdeal.Facts) (hRefWIdeal : Cert.RefWIdeal.Facts) (hKernelIn : Cert.KernelIn.Facts) (hKernelInIdeal : Cert.KernelInIdeal.Facts) (hRefInIdeal : Cert.RefInIdeal.Facts) (hKernelOut : Cert.KernelOut.Facts) (hKernelOutIdeal : Cert.KernelOutIdeal.Facts) (hRefOutIdeal : Cert.RefOutIdeal.Facts) (hKernelProj : Cert.KernelProj.Facts) (hKernelProjIdeal : Cert.KernelProjIdeal.Facts) (hRefProjIdeal : Cert.RefProjIdeal.Facts) (hKernelMix : Cert.KernelMix.Facts) (hKernelMixIdeal : Cert.KernelMixIdeal.Facts) (hRefMixIdeal : Cert.RefMixIdeal.Facts) (hKernelProjB : Cert.KernelProjB.Facts) (hKernelProjBIdeal : Cert.KernelProjBIdeal.Facts) (hRefProjBIdeal : Cert.RefProjBIdeal.Facts) (hKernelMixB : Cert.KernelMixB.Facts) (hKernelMixBIdeal : Cert.KernelMixBIdeal.Facts) (hRefMixBIdeal : Cert.RefMixBIdeal.Facts) (hPre_finite_ffn : Cert.Pre_finite_ffn.Facts),
    quiescent_KernelF (hKernelF := hKernelF)
    ∧ quiescent_KernelFIdeal (hKernelFIdeal := hKernelFIdeal)
    ∧ quiescent_RefFIdeal (hRefFIdeal := hRefFIdeal)
    ∧ quiescent_KernelB (hKernelB := hKernelB)
    ∧ quiescent_KernelBIdeal (hKernelBIdeal := hKernelBIdeal)
    ∧ quiescent_RefBIdeal (hRefBIdeal := hRefBIdeal)
    ∧ quiescent_KernelFfn (hKernelFfn := hKernelFfn)
    ∧ quiescent_KernelFfnIdeal (hKernelFfnIdeal := hKernelFfnIdeal)
    ∧ quiescent_KernelFfnIdeal_pre_finite_ffn (hKernelFfnIdeal := hKernelFfnIdeal) (hPre_finite_ffn := hPre_finite_ffn)
    ∧ quiescent_RefFfnIdeal (hRefFfnIdeal := hRefFfnIdeal)
    ∧ quiescent_RefFfnIdeal_pre_finite_ffn (hRefFfnIdeal := hRefFfnIdeal) (hPre_finite_ffn := hPre_finite_ffn)
    ∧ quiescent_KernelW (hKernelW := hKernelW)
    ∧ quiescent_KernelWIdeal (hKernelWIdeal := hKernelWIdeal)
    ∧ quiescent_RefWIdeal (hRefWIdeal := hRefWIdeal)
    ∧ quiescent_KernelIn (hKernelIn := hKernelIn)
    ∧ quiescent_KernelInIdeal (hKernelInIdeal := hKernelInIdeal)
    ∧ quiescent_RefInIdeal (hRefInIdeal := hRefInIdeal)
    ∧ quiescent_KernelOut (hKernelOut := hKernelOut)
    ∧ quiescent_KernelOutIdeal (hKernelOutIdeal := hKernelOutIdeal)
    ∧ quiescent_RefOutIdeal (hRefOutIdeal := hRefOutIdeal)
    ∧ quiescent_KernelProj (hKernelProj := hKernelProj)
    ∧ quiescent_KernelProjIdeal (hKernelProjIdeal := hKernelProjIdeal)
    ∧ quiescent_RefProjIdeal (hRefProjIdeal := hRefProjIdeal)
    ∧ quiescent_KernelMix (hKernelMix := hKernelMix)
    ∧ quiescent_KernelMixIdeal (hKernelMixIdeal := hKernelMixIdeal)
    ∧ quiescent_RefMixIdeal (hRefMixIdeal := hRefMixIdeal)
    ∧ quiescent_KernelProjB (hKernelProjB := hKernelProjB)
    ∧ quiescent_KernelProjBIdeal (hKernelProjBIdeal := hKernelProjBIdeal)
    ∧ quiescent_RefProjBIdeal (hRefProjBIdeal := hRefProjBIdeal)
    ∧ quiescent_KernelMixB (hKernelMixB := hKernelMixB)
    ∧ quiescent_KernelMixBIdeal (hKernelMixBIdeal := hKernelMixBIdeal)
    ∧ quiescent_RefMixBIdeal (hRefMixBIdeal := hRefMixBIdeal)
    ∧ preserves_KernelF_KernelFIdeal
    ∧ algebraic_KernelFIdeal_RefFIdeal (hKernelFIdeal := hKernelFIdeal) (hRefFIdeal := hRefFIdeal)
    ∧ preserves_KernelB_KernelBIdeal
    ∧ preserves_KernelFfn_KernelFfnIdeal
    ∧ algebraic_KernelFfnIdeal_RefFfnIdeal_pre_finite_ffn (hKernelFfnIdeal := hKernelFfnIdeal) (hRefFfnIdeal := hRefFfnIdeal) (hPre_finite_ffn := hPre_finite_ffn)
    ∧ preserves_KernelW_KernelWIdeal
    ∧ algebraic_KernelWIdeal_RefWIdeal (hKernelWIdeal := hKernelWIdeal) (hRefWIdeal := hRefWIdeal)
    ∧ preserves_KernelIn_KernelInIdeal
    ∧ algebraic_KernelInIdeal_RefInIdeal (hKernelInIdeal := hKernelInIdeal) (hRefInIdeal := hRefInIdeal)
    ∧ preserves_KernelOut_KernelOutIdeal
    ∧ algebraic_KernelOutIdeal_RefOutIdeal (hKernelOutIdeal := hKernelOutIdeal) (hRefOutIdeal := hRefOutIdeal)
    ∧ preserves_KernelProj_KernelProjIdeal
    ∧ algebraic_KernelProjIdeal_RefProjIdeal (hKernelProjIdeal := hKernelProjIdeal) (hRefProjIdeal := hRefProjIdeal)
    ∧ preserves_KernelMix_KernelMixIdeal
    ∧ algebraic_KernelMixIdeal_RefMixIdeal (hKernelMixIdeal := hKernelMixIdeal) (hRefMixIdeal := hRefMixIdeal)
    ∧ preserves_KernelProjB_KernelProjBIdeal
    ∧ algebraic_KernelProjBIdeal_RefProjBIdeal (hKernelProjBIdeal := hKernelProjBIdeal) (hRefProjBIdeal := hRefProjBIdeal)
    ∧ preserves_KernelMixB_KernelMixBIdeal
    ∧ algebraic_KernelMixBIdeal_RefMixBIdeal (hKernelMixBIdeal := hKernelMixBIdeal) (hRefMixBIdeal := hRefMixBIdeal)
-- ==== Pre_finite_ffn.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S1024x2816 .f32) (main_arg5 : FVec F S1024x2816 .f32) (main_arg6 : FVec F S2816x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024x2816 .f32 := Host.absf main_arg4
  let main_cst_6 : FVec F S_ .f32 := constant S_ .f32 0x7F800000#32
  let main_v20 : FVec F S1024x2816 .f32 := broadcastInDim S1024x2816 ![] bcast_S_S1024x2816 main_cst_6
  let main_v21 : IVec S1024x2816 1 := cmpf .olt main_v19 main_v20
  let main_c_7 : IVec S_ 1 := constantI S_ 1 1#1
  let main_v22 : IVec S_ 1 := (fun x v => Host.reduce IntOp.andi x v reducesTo_S1024x2816_S_d0_1 h_S_) main_v21 main_c_7
  let main_v23 : IVec S_ 1 := andi main_v18 main_v22
  let main_v24 : FVec F S1024x2816 .f32 := Host.absf main_arg5
  let main_cst_8 : FVec F S_ .f32 := constant S_ .f32 0x7F800000#32
  let main_v25 : FVec F S1024x2816 .f32 := broadcastInDim S1024x2816 ![] bcast_S_S1024x2816 main_cst_8
  let main_v26 : IVec S1024x2816 1 := cmpf .olt main_v24 main_v25
  let main_c_9 : IVec S_ 1 := constantI S_ 1 1#1
  let main_v27 : IVec S_ 1 := (fun x v => Host.reduce IntOp.andi x v reducesTo_S1024x2816_S_d0_1 h_S_) main_v26 main_c_9
  let main_v28 : IVec S_ 1 := andi main_v23 main_v27
  let main_v29 : FVec F S2816x1024 .f32 := Host.absf main_arg6
  let main_cst_10 : FVec F S_ .f32 := constant S_ .f32 0x7F800000#32
  let main_v30 : FVec F S2816x1024 .f32 := broadcastInDim S2816x1024 ![] bcast_S_S2816x1024 main_cst_10
  let main_v31 : IVec S2816x1024 1 := cmpf .olt main_v29 main_v30
  let main_c_11 : IVec S_ 1 := constantI S_ 1 1#1
  let main_v32 : IVec S_ 1 := (fun x v => Host.reduce IntOp.andi x v reducesTo_S2816x1024_S_d0_1 h_S_) main_v31 main_c_11
  let main_v33 : IVec S_ 1 := andi main_v28 main_v32
  main_v33

def fn {F : FTy → Type} [FloatOps F] (main_arg0 : FVec F S4096x1024 .f32) (main_arg1 : FVec F S4096x1024 .f32) (main_arg2 : FVec F S1x1024 .f32) (main_arg3 : FVec F S1x1024 .f32) (main_arg4 : FVec F S1024x2816 .f32) (main_arg5 : FVec F S1024x2816 .f32) (main_arg6 : FVec F S2816x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== KernelF.lean ====
abbrev S256x64x128 : Shape := ⟨3, ![256, 64, 128]⟩
abbrev S256x64x64 : Shape := ⟨3, ![256, 64, 64]⟩
abbrev S256x1x128 : Shape := ⟨3, ![256, 1, 128]⟩
abbrev S4096x3712 : Shape := ⟨2, ![4096, 3712]⟩
abbrev S1x128 : Shape := ⟨2, ![1, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S4096x512 : Shape := ⟨2, ![4096, 512]⟩
abbrev S256x128x128 : Shape := ⟨3, ![256, 128, 128]⟩
abbrev S32x64x128 : Shape := ⟨3, ![32, 64, 128]⟩
abbrev S32x64x64 : Shape := ⟨3, ![32, 64, 64]⟩
abbrev S32x1x128 : Shape := ⟨3, ![32, 1, 128]⟩
abbrev S512x512 : Shape := ⟨2, ![512, 512]⟩
abbrev S32x128x128 : Shape := ⟨3, ![32, 128, 128]⟩
abbrev S4x128x128 : Shape := ⟨3, ![4, 128, 128]⟩
abbrev S4x64x128 : Shape := ⟨3, ![4, 64, 128]⟩
abbrev S4x1x128 : Shape := ⟨3, ![4, 1, 128]⟩
abbrev S4x64x64 : Shape := ⟨3, ![4, 64, 64]⟩
abbrev S1x64x128 : Shape := ⟨3, ![1, 64, 128]⟩
abbrev S64x128 : Shape := ⟨2, ![64, 128]⟩

abbrev nBuf : Space → Nat
  | .hbm => 21
  | .vmem => 20
  | .smem => 0
  | _ => 0

abbrev bufTy : (tb : Table) → Fin (tcTables nBuf tb) → BufTy
  | .hbm, ⟨0, _⟩ => ⟨S256x64x128, .f32⟩
  | .hbm, ⟨1, _⟩ => ⟨S256x64x128, .f32⟩
  | .hbm, ⟨2, _⟩ => ⟨S256x64x64, .f32⟩
  | .hbm, ⟨3, _⟩ => ⟨S256x64x128, .f32⟩
  | .hbm, ⟨4, _⟩ => ⟨S256x64x128, .f32⟩
  | .hbm, ⟨5, _⟩ => ⟨S256x1x128, .f32⟩
  | .hbm, ⟨6, _⟩ => ⟨S4096x3712, .f32⟩
  | .hbm, ⟨7, _⟩ => ⟨S1x128, .f32⟩
  | .hbm, ⟨8, _⟩ => ⟨S64, .i32⟩
  | .hbm, ⟨9, _⟩ => ⟨S64x1, .i32⟩
  | .hbm, ⟨10, _⟩ => ⟨S1x64, .i32⟩
  | .hbm, ⟨11, _⟩ => ⟨S64x64, .i32⟩
  | .hbm, ⟨12, _⟩ => ⟨S64x64, .i32⟩
  | .hbm, ⟨13, _⟩ => ⟨S64x64, .i1⟩
  | .hbm, ⟨14, _⟩ => ⟨S_, .f32⟩
  | .hbm, ⟨15, _⟩ => ⟨S_, .f32⟩
  | .hbm, ⟨16, _⟩ => ⟨S256x64x64, .i1⟩
  | .hbm, ⟨17, _⟩ => ⟨S256x64x64, .f32⟩
  | .hbm, ⟨18, _⟩ => ⟨S256x64x64, .f32⟩
  | .hbm, ⟨19, _⟩ => ⟨S4096x512, .f32⟩
  | .hbm, ⟨20, _⟩ => ⟨S256x128x128, .f32⟩
  | .local _ .vmem, ⟨0, _⟩ => ⟨S32x64x128, .f32⟩
  | .local _ .vmem, ⟨1, _⟩ => ⟨S32x64x128, .f32⟩
  | .local _ .vmem, ⟨2, _⟩ => ⟨S32x64x128, .f32⟩
  | .local _ .vmem, ⟨3, _⟩ => ⟨S32x64x128, .f32⟩
  | .local _ .vmem, ⟨4, _⟩ => ⟨S32x64x64, .f32⟩
  | .local _ .vmem, ⟨5, _⟩ => ⟨S32x64x64, .f32⟩
  | .local _ .vmem, ⟨6, _⟩ => ⟨S32x64x128, .f32⟩
  | .local _ .vmem, ⟨7, _⟩ => ⟨S32x64x128, .f32⟩
  | .local _ .vmem, ⟨8, _⟩ => ⟨S32x64x128, .f32⟩
  | .local _ .vmem, ⟨9, _⟩ => ⟨S32x64x128, .f32⟩
  | .local _ .vmem, ⟨10, _⟩ => ⟨S32x1x128, .f32⟩
  | .local _ .vmem, ⟨11, _⟩ => ⟨S32x1x128, .f32⟩
  | .local _ .vmem, ⟨12, _⟩ => ⟨S512x512, .f32⟩
  | .local _ .vmem, ⟨13, _⟩ => ⟨S512x512, .f32⟩
  | .local _ .vmem, ⟨14, _⟩ => ⟨S1x128, .f32⟩
  | .local _ .vmem, ⟨15, _⟩ => ⟨S512x512, .f32⟩
  | .local _ .vmem, ⟨16, _⟩ => ⟨S512x512, .f32⟩
  | .local _ .vmem, ⟨17, _⟩ => ⟨S32x128x128, .f32⟩
  | .local _ .vmem, ⟨18, _⟩ => ⟨S32x128x128, .f32⟩
  | .local _ .vmem, ⟨19, _⟩ => ⟨S4x128x128, .f32⟩
  | _, _ => ⟨S256x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v6 : Ref sig .tc := ⟨.hbm, 18, rfl⟩
abbrev main_v7_0 : Ref sig .tc := ⟨.hbm, 19, rfl⟩
abbrev main_v7_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefFIdeal.lean ====
abbrev S256x64x128 : Shape := ⟨3, ![256, 64, 128]⟩
abbrev S256x64x64 : Shape := ⟨3, ![256, 64, 64]⟩
abbrev S256x1x128 : Shape := ⟨3, ![256, 1, 128]⟩
abbrev S4096x3712 : Shape := ⟨2, ![4096, 3712]⟩
abbrev S1x128 : Shape := ⟨2, ![1, 128]⟩
abbrev S_ : Shape := ⟨0, ![]⟩
abbrev S4x128x128 : Shape := ⟨3, ![4, 128, 128]⟩
abbrev S64x4x64x128 : Shape := ⟨4, ![64, 4, 64, 128]⟩
abbrev S64x4x64x64 : Shape := ⟨4, ![64, 4, 64, 64]⟩
abbrev S64x4x1x128 : Shape := ⟨4, ![64, 4, 1, 128]⟩
abbrev S4096x512 : Shape := ⟨2, ![4096, 512]⟩
abbrev S64x64x512 : Shape := ⟨3, ![64, 64, 512]⟩
abbrev S64x4x128x128 : Shape := ⟨4, ![64, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S1x4x1x128 : Shape := ⟨4, ![1, 4, 1, 128]⟩
abbrev S4x1x128 : Shape := ⟨3, ![4, 1, 128]⟩
abbrev S1x64x512 : Shape := ⟨3, ![1, 64, 512]⟩
abbrev S64x512 : Shape := ⟨2, ![64, 512]⟩
abbrev S128 : Shape := ⟨1, ![128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x4x128 : Shape := ⟨3, ![64, 4, 128]⟩
abbrev S64x4 : Shape := ⟨2, ![64, 4]⟩
abbrev S64x4x1 : Shape := ⟨3, ![64, 4, 1]⟩
abbrev S1x1x128 : Shape := ⟨3, ![1, 1, 128]⟩
abbrev S1x4x128x128 : Shape := ⟨4, ![1, 4, 128, 128]⟩
abbrev S256x128x128 : Shape := ⟨3, ![256, 128, 128]⟩

abbrev nBuf : Space → Nat
  | .hbm => 134
  | .vmem => 0
  | .smem => 0
  | _ => 0

abbrev hbmTy0_0 (i : Nat) : BufTy := match i % 128 with
  | 0 => ⟨S256x64x128, .f32⟩
  | 1 => ⟨S256x64x128, .f32⟩
  | 2 => ⟨S256x64x64, .f32⟩
  | 3 => ⟨S256x64x128, .f32⟩
  | 4 => ⟨S256x64x128, .f32⟩
  | 5 => ⟨S256x1x128, .f32⟩
  | 6 => ⟨S4096x3712, .f32⟩
  | 7 => ⟨S1x128, .f32⟩
  | 8 => ⟨S_, .f32⟩
  | 9 => ⟨S4x128x128, .f32⟩
  | 10 => ⟨S64x4x64x128, .f32⟩
  | 11 => ⟨S64x4x64x128, .f32⟩
  | 12 => ⟨S64x4x64x64, .f32⟩
  | 13 => ⟨S64x4x64x128, .f32⟩
  | 14 => ⟨S64x4x64x128, .f32⟩
  | 15 => ⟨S64x4x1x128, .f32⟩
  | 16 => ⟨S4096x512, .f32⟩
  | 17 => ⟨S64x64x512, .f32⟩
  | 18 => ⟨S_, .f32⟩
  | 19 => ⟨S64x64x512, .f32⟩
  | 20 => ⟨S_, .f32⟩
  | 21 => ⟨S64x4x128x128, .f32⟩
  | 22 => ⟨S_, .i32⟩
  | 23 => ⟨S64x4x64x128, .f32⟩
  | 24 => ⟨S64x4x64x128, .f32⟩
  | 25 => ⟨S64x4x64x64, .f32⟩
  | 26 => ⟨S64x4x64x128, .f32⟩
  | 27 => ⟨S64x4x64x128, .f32⟩
  | 28 => ⟨S64x4x1x128, .f32⟩
  | 29 => ⟨S64x64x512, .f32⟩
  | 30 => ⟨S1x128, .f32⟩
  | 31 => ⟨S_, .i32⟩
  | 32 => ⟨S4x128x128, .f32⟩
  | 33 => ⟨S64x64x512, .f32⟩
  | 34 => ⟨S64x4x128x128, .f32⟩
  | 35 => ⟨S_, .i32⟩
  | 36 => ⟨S_, .i1⟩
  | 37 => ⟨S_, .i32⟩
  | 38 => ⟨S_, .i32⟩
  | 39 => ⟨S_, .i32⟩
  | 40 => ⟨S1x4x64x128, .f32⟩
  | 41 => ⟨S4x64x128, .f32⟩
  | 42 => ⟨S_, .i32⟩
  | 43 => ⟨S_, .i32⟩
  | 44 => ⟨S_, .i32⟩
  | 45 => ⟨S1x4x64x128, .f32⟩
  | 46 => ⟨S4x64x128, .f32⟩
  | 47 => ⟨S_, .i32⟩
  | 48 => ⟨S_, .i32⟩
  | 49 => ⟨S_, .i32⟩
  | 50 => ⟨S1x4x64x64, .f32⟩
  | 51 => ⟨S4x64x64, .f32⟩
  | 52 => ⟨S_, .i32⟩
  | 53 => ⟨S_, .i32⟩
  | 54 => ⟨S_, .i32⟩
  | 55 => ⟨S1x4x64x128, .f32⟩
  | 56 => ⟨S4x64x128, .f32⟩
  | 57 => ⟨S_, .i32⟩
  | 58 => ⟨S_, .i32⟩
  | 59 => ⟨S_, .i32⟩
  | 60 => ⟨S1x4x64x128, .f32⟩
  | 61 => ⟨S4x64x128, .f32⟩
  | 62 => ⟨S_, .i32⟩
  | 63 => ⟨S_, .i32⟩
  | 64 => ⟨S_, .i32⟩
  | 65 => ⟨S1x4x1x128, .f32⟩
  | 66 => ⟨S4x1x128, .f32⟩
  | 67 => ⟨S_, .i32⟩
  | 68 => ⟨S_, .i32⟩
  | 69 => ⟨S1x64x512, .f32⟩
  | 70 => ⟨S64x512, .f32⟩
  | 71 => ⟨S128, .f32⟩
  | 72 => ⟨S64, .i32⟩
  | 73 => ⟨S64x1, .i32⟩
  | 74 => ⟨S1x64, .i32⟩
  | 75 => ⟨S64x64, .i32⟩
  | 76 => ⟨S64x64, .i32⟩
  | 77 => ⟨S64x64, .i1⟩
  | 78 => ⟨S_, .f32⟩
  | 79 => ⟨S_, .f32⟩
  | 80 => ⟨S4x64x64, .i1⟩
  | 81 => ⟨S4x64x64, .f32⟩
  | 82 => ⟨S4x64x64, .f32⟩
  | 83 => ⟨S4x64x128, .f32⟩
  | 84 => ⟨S4x64x128, .f32⟩
  | 85 => ⟨S4x64x128, .f32⟩
  | 86 => ⟨S4x64x128, .f32⟩
  | 87 => ⟨S4x64x128, .f32⟩
  | 88 => ⟨S4x128x128, .f32⟩
  | 89 => ⟨S4x128x128, .f32⟩
  | 90 => ⟨S4x128x128, .f32⟩
  | 91 => ⟨S4x128x128, .f32⟩
  | 92 => ⟨S64x4x128, .f32⟩
  | 93 => ⟨S64x4x128, .f32⟩
  | 94 => ⟨S_, .f32⟩
  | 95 => ⟨S64x4, .f32⟩
  | 96 => ⟨S64x4x1, .f32⟩
  | 97 => ⟨S_, .f32⟩
  | 98 => ⟨S64x4x1, .f32⟩
  | 99 => ⟨S64x4x1, .f32⟩
  | 100 => ⟨S_, .f32⟩
  | 101 => ⟨S64x4x1, .f32⟩
  | 102 => ⟨S64x4x1, .f32⟩
  | 103 => ⟨S64x4x1, .f32⟩
  | 104 => ⟨S64x4x128, .f32⟩
  | 105 => ⟨S64x4x128, .f32⟩
  | 106 => ⟨S1x1x128, .f32⟩
  | 107 => ⟨S64x4x128, .f32⟩
  | 108 => ⟨S64x4x128, .f32⟩
  | 109 => ⟨S64x4x128, .f32⟩
  | 110 => ⟨S64x4x128, .f32⟩
  | 111 => ⟨S64x4x128, .f32⟩
  | 112 => ⟨S_, .f32⟩
  | 113 => ⟨S64x4x128, .f32⟩
  | 114 => ⟨S64x4x128, .f32⟩
  | 115 => ⟨S_, .f32⟩
  | 116 => ⟨S64x4x128, .f32⟩
  | 117 => ⟨S64x4x128, .f32⟩
  | 118 => ⟨S64x4x128, .f32⟩
  | 119 => ⟨S64x4x128, .f32⟩
  | 120 => ⟨S64x512, .f32⟩
  | 121 => ⟨S1x64x512, .f32⟩
  | 122 => ⟨S_, .i32⟩
  | 123 => ⟨S_, .i32⟩
  | 124 => ⟨S64x64x512, .f32⟩
  | 125 => ⟨S1x4x128x128, .f32⟩
  | 126 => ⟨S_, .i32⟩
  | 127 => ⟨S_, .i32⟩
  | _ => ⟨S256x64x128, .f32⟩

abbrev hbmTy0_1 (i : Nat) : BufTy := match i % 128 with
  | 0 => ⟨S_, .i32⟩
  | 1 => ⟨S64x4x128x128, .f32⟩
  | 2 => ⟨S_, .i32⟩
  | 3 => ⟨S_, .i32⟩
  | 4 => ⟨S4096x512, .f32⟩
  | 5 => ⟨S256x128x128, .f32⟩
  | _ => ⟨S256x64x128, .f32⟩

abbrev hbmTy (i : Nat) : BufTy := match i / 128 with
  | 0 => hbmTy0_0 i
  | 1 => hbmTy0_1 i
  | _ => ⟨S256x64x128, .f32⟩

abbrev bufTy : (tb : Table) → Fin (tcTables nBuf tb) → BufTy
  | .hbm, ⟨i, _⟩ => hbmTy i
  | _, _ => ⟨S256x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_c : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev main_v11_3 : Ref sig .tc := ⟨.hbm, 26, rfl⟩
abbrev main_v11_4 : Ref sig .tc := ⟨.hbm, 27, rfl⟩
abbrev main_v11_5 : Ref sig .tc := ⟨.hbm, 28, rfl⟩
abbrev main_v11_6 : Ref sig .tc := ⟨.hbm, 29, rfl⟩
abbrev main_v11_7 : Ref sig .tc := ⟨.hbm, 30, rfl⟩
abbrev main_v11_8 : Ref sig .tc := ⟨.hbm, 31, rfl⟩
abbrev main_v11_9 : Ref sig .tc := ⟨.hbm, 32, rfl⟩
abbrev main_v11_10 : Ref sig .tc := ⟨.hbm, 33, rfl⟩
abbrev main_v11_11 : Ref sig .tc := ⟨.hbm, 34, rfl⟩
abbrev main_while0c_c_13 : Ref sig .tc := ⟨.hbm, 35, rfl⟩
abbrev main_while0c_v14 : Ref sig .tc := ⟨.hbm, 36, rfl⟩
abbrev main_while0b_call0_c : Ref sig .tc := ⟨.hbm, 37, rfl⟩
abbrev main_while0b_call0_c_0 : Ref sig .tc := ⟨.hbm, 38, rfl⟩
abbrev main_while0b_call0_c_1 : Ref sig .tc := ⟨.hbm, 39, rfl⟩
abbrev main_while0b_call0_v0 : Ref sig .tc := ⟨.hbm, 40, rfl⟩
abbrev main_while0b_v14 : Ref sig .tc := ⟨.hbm, 41, rfl⟩
abbrev main_while0b_call1_c : Ref sig .tc := ⟨.hbm, 42, rfl⟩
abbrev main_while0b_call1_c_0 : Ref sig .tc := ⟨.hbm, 43, rfl⟩
abbrev main_while0b_call1_c_1 : Ref sig .tc := ⟨.hbm, 44, rfl⟩
abbrev main_while0b_call1_v0 : Ref sig .tc := ⟨.hbm, 45, rfl⟩
abbrev main_while0b_v15 : Ref sig .tc := ⟨.hbm, 46, rfl⟩
abbrev main_while0b_call2_c : Ref sig .tc := ⟨.hbm, 47, rfl⟩
abbrev main_while0b_call2_c_0 : Ref sig .tc := ⟨.hbm, 48, rfl⟩
abbrev main_while0b_call2_c_1 : Ref sig .tc := ⟨.hbm, 49, rfl⟩
abbrev main_while0b_call2_v0 : Ref sig .tc := ⟨.hbm, 50, rfl⟩
abbrev main_while0b_v16 : Ref sig .tc := ⟨.hbm, 51, rfl⟩
abbrev main_while0b_call3_c : Ref sig .tc := ⟨.hbm, 52, rfl⟩
abbrev main_while0b_call3_c_0 : Ref sig .tc := ⟨.hbm, 53, rfl⟩
abbrev main_while0b_call3_c_1 : Ref sig .tc := ⟨.hbm, 54, rfl⟩
abbrev main_while0b_call3_v0 : Ref sig .tc := ⟨.hbm, 55, rfl⟩
abbrev main_while0b_v17 : Ref sig .tc := ⟨.hbm, 56, rfl⟩
abbrev main_while0b_call4_c : Ref sig .tc := ⟨.hbm, 57, rfl⟩
abbrev main_while0b_call4_c_0 : Ref sig .tc := ⟨.hbm, 58, rfl⟩
abbrev main_while0b_call4_c_1 : Ref sig .tc := ⟨.hbm, 59, rfl⟩
abbrev main_while0b_call4_v0 : Ref sig .tc := ⟨.hbm, 60, rfl⟩
abbrev main_while0b_v18 : Ref sig .tc := ⟨.hbm, 61, rfl⟩
abbrev main_while0b_call5_c : Ref sig .tc := ⟨.hbm, 62, rfl⟩
abbrev main_while0b_call5_c_0 : Ref sig .tc := ⟨.hbm, 63, rfl⟩
abbrev main_while0b_call5_c_1 : Ref sig .tc := ⟨.hbm, 64, rfl⟩
abbrev main_while0b_call5_v0 : Ref sig .tc := ⟨.hbm, 65, rfl⟩
abbrev main_while0b_v19 : Ref sig .tc := ⟨.hbm, 66, rfl⟩
abbrev main_while0b_call6_c : Ref sig .tc := ⟨.hbm, 67, rfl⟩
abbrev main_while0b_call6_c_0 : Ref sig .tc := ⟨.hbm, 68, rfl⟩
abbrev main_while0b_call6_v0 : Ref sig .tc := ⟨.hbm, 69, rfl⟩
abbrev main_while0b_v20 : Ref sig .tc := ⟨.hbm, 70, rfl⟩
abbrev main_while0b_v21 : Ref sig .tc := ⟨.hbm, 71, rfl⟩
abbrev main_while0b_v22 : Ref sig .tc := ⟨.hbm, 72, rfl⟩
abbrev main_while0b_v23 : Ref sig .tc := ⟨.hbm, 73, rfl⟩
abbrev main_while0b_v24 : Ref sig .tc := ⟨.hbm, 74, rfl⟩
abbrev main_while0b_v25 : Ref sig .tc := ⟨.hbm, 75, rfl⟩
abbrev main_while0b_v26 : Ref sig .tc := ⟨.hbm, 76, rfl⟩
abbrev main_while0b_v27 : Ref sig .tc := ⟨.hbm, 77, rfl⟩
abbrev main_while0b_cst_13 : Ref sig .tc := ⟨.hbm, 78, rfl⟩
abbrev main_while0b_call7_v0 : Ref sig .tc := ⟨.hbm, 79, rfl⟩
abbrev main_while0b_call7_v1 : Ref sig .tc := ⟨.hbm, 80, rfl⟩
abbrev main_while0b_call7_v2 : Ref sig .tc := ⟨.hbm, 81, rfl⟩
abbrev main_while0b_v28 : Ref sig .tc := ⟨.hbm, 82, rfl⟩
abbrev main_while0b_v29 : Ref sig .tc := ⟨.hbm, 83, rfl⟩
abbrev main_while0b_v30 : Ref sig .tc := ⟨.hbm, 84, rfl⟩
abbrev main_while0b_v31 : Ref sig .tc := ⟨.hbm, 85, rfl⟩
abbrev main_while0b_v32 : Ref sig .tc := ⟨.hbm, 86, rfl⟩
abbrev main_while0b_v33 : Ref sig .tc := ⟨.hbm, 87, rfl⟩
abbrev main_while0b_v34 : Ref sig .tc := ⟨.hbm, 88, rfl⟩
abbrev main_while0b_v35 : Ref sig .tc := ⟨.hbm, 89, rfl⟩
abbrev main_while0b_v36 : Ref sig .tc := ⟨.hbm, 90, rfl⟩
abbrev main_while0b_v37 : Ref sig .tc := ⟨.hbm, 91, rfl⟩
abbrev main_while0b_v38 : Ref sig .tc := ⟨.hbm, 92, rfl⟩
abbrev main_while0b_v39 : Ref sig .tc := ⟨.hbm, 93, rfl⟩
abbrev main_while0b_cst_14 : Ref sig .tc := ⟨.hbm, 94, rfl⟩
abbrev main_while0b_v40 : Ref sig .tc := ⟨.hbm, 95, rfl⟩
abbrev main_while0b_v41 : Ref sig .tc := ⟨.hbm, 96, rfl⟩
abbrev main_while0b_cst_15 : Ref sig .tc := ⟨.hbm, 97, rfl⟩
abbrev main_while0b_v42 : Ref sig .tc := ⟨.hbm, 98, rfl⟩
abbrev main_while0b_v43 : Ref sig .tc := ⟨.hbm, 99, rfl⟩
abbrev main_while0b_cst_16 : Ref sig .tc := ⟨.hbm, 100, rfl⟩
abbrev main_while0b_v44 : Ref sig .tc := ⟨.hbm, 101, rfl⟩
abbrev main_while0b_v45 : Ref sig .tc := ⟨.hbm, 102, rfl⟩
abbrev main_while0b_v46 : Ref sig .tc := ⟨.hbm, 103, rfl⟩
abbrev main_while0b_v47 : Ref sig .tc := ⟨.hbm, 104, rfl⟩
abbrev main_while0b_v48 : Ref sig .tc := ⟨.hbm, 105, rfl⟩
abbrev main_while0b_v49 : Ref sig .tc := ⟨.hbm, 106, rfl⟩
abbrev main_while0b_v50 : Ref sig .tc := ⟨.hbm, 107, rfl⟩
abbrev main_while0b_v51 : Ref sig .tc := ⟨.hbm, 108, rfl⟩
abbrev main_while0b_v52 : Ref sig .tc := ⟨.hbm, 109, rfl⟩
abbrev main_while0b_call8_v0 : Ref sig .tc := ⟨.hbm, 110, rfl⟩
abbrev main_while0b_call8_v1 : Ref sig .tc := ⟨.hbm, 111, rfl⟩
abbrev main_while0b_call8_cst : Ref sig .tc := ⟨.hbm, 112, rfl⟩
abbrev main_while0b_call8_v2 : Ref sig .tc := ⟨.hbm, 113, rfl⟩
abbrev main_while0b_call8_v3 : Ref sig .tc := ⟨.hbm, 114, rfl⟩
abbrev main_while0b_call8_cst_0 : Ref sig .tc := ⟨.hbm, 115, rfl⟩
abbrev main_while0b_call8_v4 : Ref sig .tc := ⟨.hbm, 116, rfl⟩
abbrev main_while0b_call8_v5 : Ref sig .tc := ⟨.hbm, 117, rfl⟩
abbrev main_while0b_v53 : Ref sig .tc := ⟨.hbm, 118, rfl⟩
abbrev main_while0b_v54 : Ref sig .tc := ⟨.hbm, 119, rfl⟩
abbrev main_while0b_v55 : Ref sig .tc := ⟨.hbm, 120, rfl⟩
abbrev main_while0b_call9_v0 : Ref sig .tc := ⟨.hbm, 121, rfl⟩
abbrev main_while0b_call9_c : Ref sig .tc := ⟨.hbm, 122, rfl⟩
abbrev main_while0b_call9_c_0 : Ref sig .tc := ⟨.hbm, 123, rfl⟩
abbrev main_while0b_v56 : Ref sig .tc := ⟨.hbm, 124, rfl⟩
abbrev main_while0b_call10_v0 : Ref sig .tc := ⟨.hbm, 125, rfl⟩
abbrev main_while0b_call10_c : Ref sig .tc := ⟨.hbm, 126, rfl⟩
abbrev main_while0b_call10_c_0 : Ref sig .tc := ⟨.hbm, 127, rfl⟩
abbrev main_while0b_call10_c_1 : Ref sig .tc := ⟨.hbm, 128, rfl⟩
abbrev main_while0b_v57 : Ref sig .tc := ⟨.hbm, 129, rfl⟩
abbrev main_while0b_c_17 : Ref sig .tc := ⟨.hbm, 130, rfl⟩
abbrev main_while0b_v58 : Ref sig .tc := ⟨.hbm, 131, rfl⟩
abbrev main_v12 : Ref sig .tc := ⟨.hbm, 132, rfl⟩
abbrev main_v13 : Ref sig .tc := ⟨.hbm, 133, rfl⟩

abbrev nD : Nat := 1
abbrev τ : Topo := Topo.v7x

variable {F : FTy → Type} [FloatOps F]

abbrev main_while0_count : Scf.Loop 32 := ⟨0#32, 64#32, 1#32⟩
-- ==== KernelB.lean ====
abbrev S256x64x128 : Shape := ⟨3, ![256, 64, 128]⟩
abbrev S256x64x64 : Shape := ⟨3, ![256, 64, 64]⟩
abbrev S256x1x128 : Shape := ⟨3, ![256, 1, 128]⟩
abbrev S256x128x128 : Shape := ⟨3, ![256, 128, 128]⟩
abbrev S4096x3712 : Shape := ⟨2, ![4096, 3712]⟩
abbrev S4096x1024 : Shape := ⟨2, ![4096, 1024]⟩
abbrev S1x128 : Shape := ⟨2, ![1, 128]⟩
abbrev S8x128 : Shape := ⟨2, ![8, 128]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S4096x512 : Shape := ⟨2, ![4096, 512]⟩
abbrev S32x64x128 : Shape := ⟨3, ![32, 64, 128]⟩
abbrev S32x64x64 : Shape := ⟨3, ![32, 64, 64]⟩
abbrev S32x1x128 : Shape := ⟨3, ![32, 1, 128]⟩
abbrev S32x128x128 : Shape := ⟨3, ![32, 128, 128]⟩
abbrev S512x512 : Shape := ⟨2, ![512, 512]⟩
abbrev S4x128x128 : Shape := ⟨3, ![4, 128, 128]⟩
abbrev S4x64x128 : Shape := ⟨3, ![4, 64, 128]⟩
abbrev S4x64x64 : Shape := ⟨3, ![4, 64, 64]⟩
abbrev S1x64x128 : Shape := ⟨3, ![1, 64, 128]⟩
abbrev S64x128 : Shape := ⟨2, ![64, 128]⟩
abbrev S128 : Shape := ⟨1, ![128]⟩
abbrev S4x1x128 : Shape := ⟨3, ![4, 1, 128]⟩
abbrev S1x64x64 : Shape := ⟨3, ![1, 64, 64]⟩
abbrev S4x128 : Shape := ⟨2, ![4, 128]⟩

abbrev nBuf : Space → Nat
  | .hbm => 30
  | .vmem => 35
  | .smem => 0
  | _ => 0

abbrev bufTy : (tb : Table) → Fin (tcTables nBuf tb) → BufTy
  | .hbm, ⟨0, _⟩ => ⟨S256x64x128, .f32⟩
  | .hbm, ⟨1, _⟩ => ⟨S256x64x128, .f32⟩
  | .hbm, ⟨2, _⟩ => ⟨S256x64x64, .f32⟩
  | .hbm, ⟨3, _⟩ => ⟨S256x64x128, .f32⟩
  | .hbm, ⟨4, _⟩ => ⟨S256x64x128, .f32⟩
  | .hbm, ⟨5, _⟩ => ⟨S256x1x128, .f32⟩
  | .hbm, ⟨6, _⟩ => ⟨S256x128x128, .f32⟩
  | .hbm, ⟨7, _⟩ => ⟨S4096x3712, .f32⟩
  | .hbm, ⟨8, _⟩ => ⟨S4096x1024, .f32⟩
  | .hbm, ⟨9, _⟩ => ⟨S1x128, .f32⟩
  | .hbm, ⟨10, _⟩ => ⟨S8x128, .f32⟩
  | .hbm, ⟨11, _⟩ => ⟨S64, .i32⟩
  | .hbm, ⟨12, _⟩ => ⟨S64x1, .i32⟩
  | .hbm, ⟨13, _⟩ => ⟨S1x64, .i32⟩
  | .hbm, ⟨14, _⟩ => ⟨S64x64, .i32⟩
  | .hbm, ⟨15, _⟩ => ⟨S64x64, .i32⟩
  | .hbm, ⟨16, _⟩ => ⟨S64x64, .i1⟩
  | .hbm, ⟨17, _⟩ => ⟨S_, .f32⟩
  | .hbm, ⟨18, _⟩ => ⟨S_, .f32⟩
  | .hbm, ⟨19, _⟩ => ⟨S256x64x64, .i1⟩
  | .hbm, ⟨20, _⟩ => ⟨S256x64x64, .f32⟩
  | .hbm, ⟨21, _⟩ => ⟨S256x64x64, .f32⟩
  | .hbm, ⟨22, _⟩ => ⟨S256x64x128, .f32⟩
  | .hbm, ⟨23, _⟩ => ⟨S256x64x128, .f32⟩
  | .hbm, ⟨24, _⟩ => ⟨S256x64x64, .f32⟩
  | .hbm, ⟨25, _⟩ => ⟨S256x64x128, .f32⟩
  | .hbm, ⟨26, _⟩ => ⟨S256x64x128, .f32⟩
  | .hbm, ⟨27, _⟩ => ⟨S256x1x128, .f32⟩
  | .hbm, ⟨28, _⟩ => ⟨S4096x512, .bf16⟩
  | .hbm, ⟨29, _⟩ => ⟨S1x128, .f32⟩
  | .local _ .vmem, ⟨0, _⟩ => ⟨S32x64x128, .f32⟩
  | .local _ .vmem, ⟨1, _⟩ => ⟨S32x64x128, .f32⟩
  | .local _ .vmem, ⟨2, _⟩ => ⟨S32x64x128, .f32⟩
  | .local _ .vmem, ⟨3, _⟩ => ⟨S32x64x128, .f32⟩
  | .local _ .vmem, ⟨4, _⟩ => ⟨S32x64x64, .f32⟩
  | .local _ .vmem, ⟨5, _⟩ => ⟨S32x64x64, .f32⟩
  | .local _ .vmem, ⟨6, _⟩ => ⟨S32x64x128, .f32⟩
  | .local _ .vmem, ⟨7, _⟩ => ⟨S32x64x128, .f32⟩
  | .local _ .vmem, ⟨8, _⟩ => ⟨S32x64x128, .f32⟩
  | .local _ .vmem, ⟨9, _⟩ => ⟨S32x64x128, .f32⟩
  | .local _ .vmem, ⟨10, _⟩ => ⟨S32x1x128, .f32⟩
  | .local _ .vmem, ⟨11, _⟩ => ⟨S32x1x128, .f32⟩
  | .local _ .vmem, ⟨12, _⟩ => ⟨S32x128x128, .f32⟩
  | .local _ .vmem, ⟨13, _⟩ => ⟨S32x128x128, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S1x128, .f32⟩
  | .local _ .vmem, ⟨19, _⟩ => ⟨S32x64x128, .f32⟩
  | .local _ .vmem, ⟨20, _⟩ => ⟨S32x64x128, .f32⟩
  | .local _ .vmem, ⟨21, _⟩ => ⟨S32x64x128, .f32⟩
  | .local _ .vmem, ⟨22, _⟩ => ⟨S32x64x128, .f32⟩
  | .local _ .vmem, ⟨23, _⟩ => ⟨S32x64x64, .f32⟩
  | .local _ .vmem, ⟨24, _⟩ => ⟨S32x64x64, .f32⟩
  | .local _ .vmem, ⟨25, _⟩ => ⟨S32x64x128, .f32⟩
  | .local _ .vmem, ⟨26, _⟩ => ⟨S32x64x128, .f32⟩
  | .local _ .vmem, ⟨27, _⟩ => ⟨S32x64x128, .f32⟩
  | .local _ .vmem, ⟨28, _⟩ => ⟨S32x64x128, .f32⟩
  | .local _ .vmem, ⟨29, _⟩ => ⟨S32x1x128, .f32⟩
  | .local _ .vmem, ⟨30, _⟩ => ⟨S32x1x128, .f32⟩
  | .local _ .vmem, ⟨31, _⟩ => ⟨S512x512, .bf16⟩
  | .local _ .vmem, ⟨32, _⟩ => ⟨S512x512, .bf16⟩
  | .local _ .vmem, ⟨33, _⟩ => ⟨S1x128, .f32⟩
  | .local _ .vmem, ⟨34, _⟩ => ⟨S4x128x128, .f32⟩
  | _, _ => ⟨S256x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v6 : Ref sig .tc := ⟨.hbm, 21, rfl⟩
abbrev main_v7_0 : Ref sig .tc := ⟨.hbm, 22, rfl⟩
abbrev main_v7_1 : Ref sig .tc := ⟨.hbm, 23, rfl⟩
abbrev main_v7_2 : Ref sig .tc := ⟨.hbm, 24, rfl⟩
abbrev main_v7_3 : Ref sig .tc := ⟨.hbm, 25, rfl⟩
abbrev main_v7_4 : Ref sig .tc := ⟨.hbm, 26, rfl⟩
abbrev main_v7_5 : Ref sig .tc := ⟨.hbm, 27, rfl⟩
abbrev main_v7_6 : Ref sig .tc := ⟨.hbm, 28, rfl⟩
abbrev main_v7_7 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c3_i32 : BitVec 32 := 3#32
  let c0_i32 : BitVec 32 := 0#32
  ![v0.toNat, c3_i32.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_12 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_13 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_14 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_15 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_16 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![v0.toNat, c0_i32.toNat, c0_i32_0.toNat]

def cc0_transform_17 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S32x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S32x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x64x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== RefBIdeal.lean ====
abbrev S256x64x128 : Shape := ⟨3, ![256, 64, 128]⟩
abbrev S256x64x64 : Shape := ⟨3, ![256, 64, 64]⟩
abbrev S256x1x128 : Shape := ⟨3, ![256, 1, 128]⟩
abbrev S256x128x128 : Shape := ⟨3, ![256, 128, 128]⟩
abbrev S4096x3712 : Shape := ⟨2, ![4096, 3712]⟩
abbrev S4096x1024 : Shape := ⟨2, ![4096, 1024]⟩
abbrev S1x128 : Shape := ⟨2, ![1, 128]⟩
abbrev S8x128 : Shape := ⟨2, ![8, 128]⟩
abbrev S_ : Shape := ⟨0, ![]⟩
abbrev S4x128x128 : Shape := ⟨3, ![4, 128, 128]⟩
abbrev S128 : Shape := ⟨1, ![128]⟩
abbrev S64x4x64x128 : Shape := ⟨4, ![64, 4, 64, 128]⟩
abbrev S64x4x64x64 : Shape := ⟨4, ![64, 4, 64, 64]⟩
abbrev S64x4x1x128 : Shape := ⟨4, ![64, 4, 1, 128]⟩
abbrev S4096x512 : Shape := ⟨2, ![4096, 512]⟩
abbrev S64x64x512 : Shape := ⟨3, ![64, 64, 512]⟩
abbrev S64x4x128x128 : Shape := ⟨4, ![64, 4, 128, 128]⟩
abbrev S1x4x128x128 : Shape := ⟨4, ![1, 4, 128, 128]⟩
abbrev S1x4x64x128 : Shape := ⟨4, ![1, 4, 64, 128]⟩
abbrev S4x64x128 : Shape := ⟨3, ![4, 64, 128]⟩
abbrev S1x4x64x64 : Shape := ⟨4, ![1, 4, 64, 64]⟩
abbrev S4x64x64 : Shape := ⟨3, ![4, 64, 64]⟩
abbrev S1x4x1x128 : Shape := ⟨4, ![1, 4, 1, 128]⟩
abbrev S4x1x128 : Shape := ⟨3, ![4, 1, 128]⟩
abbrev S1x64x512 : Shape := ⟨3, ![1, 64, 512]⟩
abbrev S64x512 : Shape := ⟨2, ![64, 512]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S64x4x128 : Shape := ⟨3, ![64, 4, 128]⟩
abbrev S64x4 : Shape := ⟨2, ![64, 4]⟩
abbrev S64x4x1 : Shape := ⟨3, ![64, 4, 1]⟩
abbrev S1x1x128 : Shape := ⟨3, ![1, 1, 128]⟩
abbrev S4x128x64 : Shape := ⟨3, ![4, 128, 64]⟩
abbrev S4x128 : Shape := ⟨2, ![4, 128]⟩

abbrev nBuf : Space → Nat
  | .hbm => 276
  | .vmem => 0
  | .smem => 0
  | _ => 0

abbrev hbmTy0_0 (i : Nat) : BufTy := match i % 128 with
  | 0 => ⟨S256x64x128, .f32⟩
  | 1 => ⟨S256x64x128, .f32⟩
  | 2 => ⟨S256x64x64, .f32⟩
  | 3 => ⟨S256x64x128, .f32⟩
  | 4 => ⟨S256x64x128, .f32⟩
  | 5 => ⟨S256x1x128, .f32⟩
  | 6 => ⟨S256x128x128, .f32⟩
  | 7 => ⟨S4096x3712, .f32⟩
  | 8 => ⟨S4096x1024, .f32⟩
  | 9 => ⟨S1x128, .f32⟩
  | 10 => ⟨S8x128, .f32⟩
  | 11 => ⟨S_, .f32⟩
  | 12 => ⟨S4x128x128, .f32⟩
  | 13 => ⟨S_, .f32⟩
  | 14 => ⟨S128, .f32⟩
  | 15 => ⟨S64x4x64x128, .f32⟩
  | 16 => ⟨S64x4x64x128, .f32⟩
  | 17 => ⟨S64x4x64x64, .f32⟩
  | 18 => ⟨S64x4x64x128, .f32⟩
  | 19 => ⟨S64x4x64x128, .f32⟩
  | 20 => ⟨S64x4x1x128, .f32⟩
  | 21 => ⟨S4096x512, .f32⟩
  | 22 => ⟨S64x64x512, .f32⟩
  | 23 => ⟨S64x4x128x128, .f32⟩
  | 24 => ⟨S4096x512, .f32⟩
  | 25 => ⟨S64x64x512, .f32⟩
  | 26 => ⟨S_, .f32⟩
  | 27 => ⟨S64x4x64x128, .f32⟩
  | 28 => ⟨S_, .f32⟩
  | 29 => ⟨S64x4x64x128, .f32⟩
  | 30 => ⟨S_, .f32⟩
  | 31 => ⟨S64x4x64x64, .f32⟩
  | 32 => ⟨S_, .f32⟩
  | 33 => ⟨S64x4x64x128, .f32⟩
  | 34 => ⟨S_, .f32⟩
  | 35 => ⟨S64x4x64x128, .f32⟩
  | 36 => ⟨S_, .f32⟩
  | 37 => ⟨S64x4x1x128, .f32⟩
  | 38 => ⟨S_, .f32⟩
  | 39 => ⟨S64x64x512, .f32⟩
  | 40 => ⟨S_, .i32⟩
  | 41 => ⟨S64x4x128x128, .f32⟩
  | 42 => ⟨S64x4x64x128, .f32⟩
  | 43 => ⟨S64x4x64x128, .f32⟩
  | 44 => ⟨S64x4x64x64, .f32⟩
  | 45 => ⟨S64x4x64x128, .f32⟩
  | 46 => ⟨S64x4x64x128, .f32⟩
  | 47 => ⟨S64x4x1x128, .f32⟩
  | 48 => ⟨S64x64x512, .f32⟩
  | 49 => ⟨S64x64x512, .f32⟩
  | 50 => ⟨S1x128, .f32⟩
  | 51 => ⟨S_, .i32⟩
  | 52 => ⟨S4x128x128, .f32⟩
  | 53 => ⟨S128, .f32⟩
  | 54 => ⟨S64x4x64x128, .f32⟩
  | 55 => ⟨S64x4x64x128, .f32⟩
  | 56 => ⟨S64x4x64x64, .f32⟩
  | 57 => ⟨S64x4x64x128, .f32⟩
  | 58 => ⟨S64x4x64x128, .f32⟩
  | 59 => ⟨S64x4x1x128, .f32⟩
  | 60 => ⟨S64x64x512, .f32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S_, .i32⟩
  | 69 => ⟨S_, .i32⟩
  | 70 => ⟨S1x4x128x128, .f32⟩
  | 71 => ⟨S4x128x128, .f32⟩
  | 72 => ⟨S_, .i32⟩
  | 73 => ⟨S_, .i32⟩
  | 74 => ⟨S_, .i32⟩
  | 75 => ⟨S1x4x64x128, .f32⟩
  | 76 => ⟨S4x64x128, .f32⟩
  | 77 => ⟨S_, .i32⟩
  | 78 => ⟨S_, .i32⟩
  | 79 => ⟨S_, .i32⟩
  | 80 => ⟨S1x4x64x128, .f32⟩
  | 81 => ⟨S4x64x128, .f32⟩
  | 82 => ⟨S_, .i32⟩
  | 83 => ⟨S_, .i32⟩
  | 84 => ⟨S_, .i32⟩
  | 85 => ⟨S1x4x64x64, .f32⟩
  | 86 => ⟨S4x64x64, .f32⟩
  | 87 => ⟨S_, .i32⟩
  | 88 => ⟨S_, .i32⟩
  | 89 => ⟨S_, .i32⟩
  | 90 => ⟨S1x4x64x128, .f32⟩
  | 91 => ⟨S4x64x128, .f32⟩
  | 92 => ⟨S_, .i32⟩
  | 93 => ⟨S_, .i32⟩
  | 94 => ⟨S_, .i32⟩
  | 95 => ⟨S1x4x64x128, .f32⟩
  | 96 => ⟨S4x64x128, .f32⟩
  | 97 => ⟨S_, .i32⟩
  | 98 => ⟨S_, .i32⟩
  | 99 => ⟨S_, .i32⟩
  | 100 => ⟨S1x4x1x128, .f32⟩
  | 101 => ⟨S4x1x128, .f32⟩
  | 102 => ⟨S_, .i32⟩
  | 103 => ⟨S_, .i32⟩
  | 104 => ⟨S1x64x512, .f32⟩
  | 105 => ⟨S64x512, .f32⟩
  | 106 => ⟨S_, .i32⟩
  | 107 => ⟨S_, .i32⟩
  | 108 => ⟨S1x64x512, .f32⟩
  | 109 => ⟨S64x512, .f32⟩
  | 110 => ⟨S128, .f32⟩
  | 111 => ⟨S64, .i32⟩
  | 112 => ⟨S64x1, .i32⟩
  | 113 => ⟨S1x64, .i32⟩
  | 114 => ⟨S64x64, .i32⟩
  | 115 => ⟨S64x64, .i32⟩
  | 116 => ⟨S64x64, .i1⟩
  | 117 => ⟨S_, .f32⟩
  | 118 => ⟨S_, .f32⟩
  | 119 => ⟨S4x64x64, .i1⟩
  | 120 => ⟨S4x64x64, .f32⟩
  | 121 => ⟨S4x64x64, .f32⟩
  | 122 => ⟨S_, .f32⟩
  | 123 => ⟨S4x64x64, .f32⟩
  | 124 => ⟨S4x64x128, .f32⟩
  | 125 => ⟨S4x64x128, .f32⟩
  | 126 => ⟨S4x64x128, .f32⟩
  | 127 => ⟨S4x64x128, .f32⟩
  | _ => ⟨S256x64x128, .f32⟩

abbrev hbmTy0_1 (i : Nat) : BufTy := match i % 128 with
  | 0 => ⟨S4x64x128, .f32⟩
  | 1 => ⟨S4x128x128, .f32⟩
  | 2 => ⟨S4x128x128, .f32⟩
  | 3 => ⟨S4x128x128, .f32⟩
  | 4 => ⟨S4x128x128, .f32⟩
  | 5 => ⟨S64x4x128, .f32⟩
  | 6 => ⟨S64x4x128, .f32⟩
  | 7 => ⟨S_, .f32⟩
  | 8 => ⟨S64x4, .f32⟩
  | 9 => ⟨S64x4x1, .f32⟩
  | 10 => ⟨S_, .f32⟩
  | 11 => ⟨S64x4x1, .f32⟩
  | 12 => ⟨S64x4x1, .f32⟩
  | 13 => ⟨S_, .f32⟩
  | 14 => ⟨S64x4x1, .f32⟩
  | 15 => ⟨S64x4x1, .f32⟩
  | 16 => ⟨S64x4x1, .f32⟩
  | 17 => ⟨S64x4x1, .f32⟩
  | 18 => ⟨S_, .f32⟩
  | 19 => ⟨S64x4x1, .f32⟩
  | 20 => ⟨S64x4x1, .f32⟩
  | 21 => ⟨S64x4x128, .f32⟩
  | 22 => ⟨S64x4x128, .f32⟩
  | 23 => ⟨S1x1x128, .f32⟩
  | 24 => ⟨S64x4x128, .f32⟩
  | 25 => ⟨S64x4x128, .f32⟩
  | 26 => ⟨S64x4x128, .f32⟩
  | 27 => ⟨S64x4x128, .f32⟩
  | 28 => ⟨S64x4x128, .f32⟩
  | 29 => ⟨S_, .f32⟩
  | 30 => ⟨S64x4x128, .f32⟩
  | 31 => ⟨S64x4x128, .f32⟩
  | 32 => ⟨S_, .f32⟩
  | 33 => ⟨S64x4x128, .f32⟩
  | 34 => ⟨S64x4x128, .f32⟩
  | 35 => ⟨S_, .f32⟩
  | 36 => ⟨S64x4x128, .f32⟩
  | 37 => ⟨S64x4x128, .f32⟩
  | 38 => ⟨S64x4x128, .f32⟩
  | 39 => ⟨S64x4x128, .f32⟩
  | 40 => ⟨S64x4x128, .f32⟩
  | 41 => ⟨S64x512, .f32⟩
  | 42 => ⟨S64x4x128, .f32⟩
  | 43 => ⟨S64x4x128, .f32⟩
  | 44 => ⟨S64x4x128, .f32⟩
  | 45 => ⟨S64x4x128, .f32⟩
  | 46 => ⟨S64x4x128, .f32⟩
  | 47 => ⟨S64x4x128, .f32⟩
  | 48 => ⟨S64x4x128, .f32⟩
  | 49 => ⟨S64x512, .f32⟩
  | 50 => ⟨S64x4x128, .f32⟩
  | 51 => ⟨S_, .f32⟩
  | 52 => ⟨S128, .f32⟩
  | 53 => ⟨S1x1x128, .f32⟩
  | 54 => ⟨S64x4x128, .f32⟩
  | 55 => ⟨S64x4x128, .f32⟩
  | 56 => ⟨S_, .f32⟩
  | 57 => ⟨S128, .f32⟩
  | 58 => ⟨S64x4x128, .f32⟩
  | 59 => ⟨S_, .f32⟩
  | 60 => ⟨S64x4, .f32⟩
  | 61 => ⟨S64x4x1, .f32⟩
  | 62 => ⟨S64x4x128, .f32⟩
  | 63 => ⟨S64x4x128, .f32⟩
  | 64 => ⟨S64x4x1, .f32⟩
  | 65 => ⟨S_, .f32⟩
  | 66 => ⟨S64x4x1, .f32⟩
  | 67 => ⟨S64x4x1, .f32⟩
  | 68 => ⟨S_, .f32⟩
  | 69 => ⟨S64x4, .f32⟩
  | 70 => ⟨S64x4x128, .f32⟩
  | 71 => ⟨S64x4x128, .f32⟩
  | 72 => ⟨S64x4x128, .f32⟩
  | 73 => ⟨S64x4x128, .f32⟩
  | 74 => ⟨S64x4x128, .f32⟩
  | 75 => ⟨S4x64x128, .f32⟩
  | 76 => ⟨S4x128x64, .f32⟩
  | 77 => ⟨S4x64x128, .f32⟩
  | 78 => ⟨S4x128x64, .f32⟩
  | 79 => ⟨S4x64x128, .f32⟩
  | 80 => ⟨S4x128x128, .f32⟩
  | 81 => ⟨S_, .f32⟩
  | 82 => ⟨S4x128, .f32⟩
  | 83 => ⟨S4x1x128, .f32⟩
  | 84 => ⟨S4x128x128, .f32⟩
  | 85 => ⟨S4x128x128, .f32⟩
  | 86 => ⟨S4x128x64, .f32⟩
  | 87 => ⟨S4x64x128, .f32⟩
  | 88 => ⟨S4x64x128, .f32⟩
  | 89 => ⟨S4x64x64, .f32⟩
  | 90 => ⟨S4x128x128, .f32⟩
  | 91 => ⟨S4x128x128, .f32⟩
  | 92 => ⟨S4x128x128, .f32⟩
  | 93 => ⟨S4x64x128, .f32⟩
  | 94 => ⟨S4x64x128, .f32⟩
  | 95 => ⟨S4x128x128, .f32⟩
  | 96 => ⟨S4x128x128, .f32⟩
  | 97 => ⟨S4x128x128, .f32⟩
  | 98 => ⟨S4x64x128, .f32⟩
  | 99 => ⟨S_, .f32⟩
  | 100 => ⟨S4x64x64, .f32⟩
  | 101 => ⟨S4x64x64, .f32⟩
  | 102 => ⟨S128, .f32⟩
  | 103 => ⟨S1x4x64x128, .f32⟩
  | 104 => ⟨S_, .i32⟩
  | 105 => ⟨S_, .i32⟩
  | 106 => ⟨S_, .i32⟩
  | 107 => ⟨S64x4x64x128, .f32⟩
  | 108 => ⟨S1x4x64x128, .f32⟩
  | 109 => ⟨S_, .i32⟩
  | 110 => ⟨S_, .i32⟩
  | 111 => ⟨S_, .i32⟩
  | 112 => ⟨S64x4x64x128, .f32⟩
  | 113 => ⟨S1x4x64x64, .f32⟩
  | 114 => ⟨S_, .i32⟩
  | 115 => ⟨S_, .i32⟩
  | 116 => ⟨S_, .i32⟩
  | 117 => ⟨S64x4x64x64, .f32⟩
  | 118 => ⟨S1x4x64x128, .f32⟩
  | 119 => ⟨S_, .i32⟩
  | 120 => ⟨S_, .i32⟩
  | 121 => ⟨S_, .i32⟩
  | 122 => ⟨S64x4x64x128, .f32⟩
  | 123 => ⟨S1x4x64x128, .f32⟩
  | 124 => ⟨S_, .i32⟩
  | 125 => ⟨S_, .i32⟩
  | 126 => ⟨S_, .i32⟩
  | 127 => ⟨S64x4x64x128, .f32⟩
  | _ => ⟨S256x64x128, .f32⟩

abbrev hbmTy0_2 (i : Nat) : BufTy := match i % 128 with
  | 0 => ⟨S1x4x1x128, .f32⟩
  | 1 => ⟨S_, .i32⟩
  | 2 => ⟨S_, .i32⟩
  | 3 => ⟨S_, .i32⟩
  | 4 => ⟨S64x4x1x128, .f32⟩
  | 5 => ⟨S1x64x512, .f32⟩
  | 6 => ⟨S_, .i32⟩
  | 7 => ⟨S_, .i32⟩
  | 8 => ⟨S64x64x512, .f32⟩
  | 9 => ⟨S_, .i32⟩
  | 10 => ⟨S_, .i32⟩
  | 11 => ⟨S256x64x128, .f32⟩
  | 12 => ⟨S256x64x128, .f32⟩
  | 13 => ⟨S256x64x64, .f32⟩
  | 14 => ⟨S256x64x128, .f32⟩
  | 15 => ⟨S256x64x128, .f32⟩
  | 16 => ⟨S256x1x128, .f32⟩
  | 17 => ⟨S4096x512, .f32⟩
  | 18 => ⟨S4096x512, .bf16⟩
  | 19 => ⟨S1x128, .f32⟩
  | _ => ⟨S256x64x128, .f32⟩

abbrev hbmTy (i : Nat) : BufTy := match i / 128 with
  | 0 => hbmTy0_0 i
  | 1 => hbmTy0_1 i
  | 2 => hbmTy0_2 i
  | _ => ⟨S256x64x128, .f32⟩

abbrev bufTy : (tb : Table) → Fin (tcTables nBuf tb) → BufTy
  | .hbm, ⟨i, _⟩ => hbmTy i
  | _, _ => ⟨S256x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_cst_6 : Ref sig .tc := ⟨.hbm, 36, rfl⟩
abbrev main_v18 : Ref sig .tc := ⟨.hbm, 37, rfl⟩
abbrev main_cst_7 : Ref sig .tc := ⟨.hbm, 38, rfl⟩
abbrev main_v19 : Ref sig .tc := ⟨.hbm, 39, rfl⟩
abbrev main_c : Ref sig .tc := ⟨.hbm, 40, rfl⟩
abbrev main_v20_0 : Ref sig .tc := ⟨.hbm, 41, rfl⟩
abbrev main_v20_1 : Ref sig .tc := ⟨.hbm, 42, rfl⟩
abbrev main_v20_2 : Ref sig .tc := ⟨.hbm, 43, rfl⟩
abbrev main_v20_3 : Ref sig .tc := ⟨.hbm, 44, rfl⟩
abbrev main_v20_4 : Ref sig .tc := ⟨.hbm, 45, rfl⟩
abbrev main_v20_5 : Ref sig .tc := ⟨.hbm, 46, rfl⟩
abbrev main_v20_6 : Ref sig .tc := ⟨.hbm, 47, rfl⟩
abbrev main_v20_7 : Ref sig .tc := ⟨.hbm, 48, rfl⟩
abbrev main_v20_8 : Ref sig .tc := ⟨.hbm, 49, rfl⟩
abbrev main_v20_9 : Ref sig .tc := ⟨.hbm, 50, rfl⟩
abbrev main_v20_10 : Ref sig .tc := ⟨.hbm, 51, rfl⟩
abbrev main_v20_11 : Ref sig .tc := ⟨.hbm, 52, rfl⟩
abbrev main_v20_12 : Ref sig .tc := ⟨.hbm, 53, rfl⟩
abbrev main_v20_13 : Ref sig .tc := ⟨.hbm, 54, rfl⟩
abbrev main_v20_14 : Ref sig .tc := ⟨.hbm, 55, rfl⟩
abbrev main_v20_15 : Ref sig .tc := ⟨.hbm, 56, rfl⟩
abbrev main_v20_16 : Ref sig .tc := ⟨.hbm, 57, rfl⟩
abbrev main_v20_17 : Ref sig .tc := ⟨.hbm, 58, rfl⟩
abbrev main_v20_18 : Ref sig .tc := ⟨.hbm, 59, rfl⟩
abbrev main_v20_19 : Ref sig .tc := ⟨.hbm, 60, rfl⟩
abbrev main_while0c_c_27 : Ref sig .tc := ⟨.hbm, 61, rfl⟩
abbrev main_while0c_v30 : Ref sig .tc := ⟨.hbm, 62, rfl⟩
abbrev main_while0b_c_27 : Ref sig .tc := ⟨.hbm, 63, rfl⟩
abbrev main_while0b_v30 : Ref sig .tc := ⟨.hbm, 64, rfl⟩
abbrev main_while0b_c_28 : Ref sig .tc := ⟨.hbm, 65, rfl⟩
abbrev main_while0b_v31 : Ref sig .tc := ⟨.hbm, 66, rfl⟩
abbrev main_while0b_call0_c : Ref sig .tc := ⟨.hbm, 67, rfl⟩
abbrev main_while0b_call0_c_0 : Ref sig .tc := ⟨.hbm, 68, rfl⟩
abbrev main_while0b_call0_c_1 : Ref sig .tc := ⟨.hbm, 69, rfl⟩
abbrev main_while0b_call0_v0 : Ref sig .tc := ⟨.hbm, 70, rfl⟩
abbrev main_while0b_v32 : Ref sig .tc := ⟨.hbm, 71, rfl⟩
abbrev main_while0b_call1_c : Ref sig .tc := ⟨.hbm, 72, rfl⟩
abbrev main_while0b_call1_c_0 : Ref sig .tc := ⟨.hbm, 73, rfl⟩
abbrev main_while0b_call1_c_1 : Ref sig .tc := ⟨.hbm, 74, rfl⟩
abbrev main_while0b_call1_v0 : Ref sig .tc := ⟨.hbm, 75, rfl⟩
abbrev main_while0b_v33 : Ref sig .tc := ⟨.hbm, 76, rfl⟩
abbrev main_while0b_call2_c : Ref sig .tc := ⟨.hbm, 77, rfl⟩
abbrev main_while0b_call2_c_0 : Ref sig .tc := ⟨.hbm, 78, rfl⟩
abbrev main_while0b_call2_c_1 : Ref sig .tc := ⟨.hbm, 79, rfl⟩
abbrev main_while0b_call2_v0 : Ref sig .tc := ⟨.hbm, 80, rfl⟩
abbrev main_while0b_v34 : Ref sig .tc := ⟨.hbm, 81, rfl⟩
abbrev main_while0b_call3_c : Ref sig .tc := ⟨.hbm, 82, rfl⟩
abbrev main_while0b_call3_c_0 : Ref sig .tc := ⟨.hbm, 83, rfl⟩
abbrev main_while0b_call3_c_1 : Ref sig .tc := ⟨.hbm, 84, rfl⟩
abbrev main_while0b_call3_v0 : Ref sig .tc := ⟨.hbm, 85, rfl⟩
abbrev main_while0b_v35 : Ref sig .tc := ⟨.hbm, 86, rfl⟩
abbrev main_while0b_call4_c : Ref sig .tc := ⟨.hbm, 87, rfl⟩
abbrev main_while0b_call4_c_0 : Ref sig .tc := ⟨.hbm, 88, rfl⟩
abbrev main_while0b_call4_c_1 : Ref sig .tc := ⟨.hbm, 89, rfl⟩
abbrev main_while0b_call4_v0 : Ref sig .tc := ⟨.hbm, 90, rfl⟩
abbrev main_while0b_v36 : Ref sig .tc := ⟨.hbm, 91, rfl⟩
abbrev main_while0b_call5_c : Ref sig .tc := ⟨.hbm, 92, rfl⟩
abbrev main_while0b_call5_c_0 : Ref sig .tc := ⟨.hbm, 93, rfl⟩
abbrev main_while0b_call5_c_1 : Ref sig .tc := ⟨.hbm, 94, rfl⟩
abbrev main_while0b_call5_v0 : Ref sig .tc := ⟨.hbm, 95, rfl⟩
abbrev main_while0b_v37 : Ref sig .tc := ⟨.hbm, 96, rfl⟩
abbrev main_while0b_call6_c : Ref sig .tc := ⟨.hbm, 97, rfl⟩
abbrev main_while0b_call6_c_0 : Ref sig .tc := ⟨.hbm, 98, rfl⟩
abbrev main_while0b_call6_c_1 : Ref sig .tc := ⟨.hbm, 99, rfl⟩
abbrev main_while0b_call6_v0 : Ref sig .tc := ⟨.hbm, 100, rfl⟩
abbrev main_while0b_v38 : Ref sig .tc := ⟨.hbm, 101, rfl⟩
abbrev main_while0b_call7_c : Ref sig .tc := ⟨.hbm, 102, rfl⟩
abbrev main_while0b_call7_c_0 : Ref sig .tc := ⟨.hbm, 103, rfl⟩
abbrev main_while0b_call7_v0 : Ref sig .tc := ⟨.hbm, 104, rfl⟩
abbrev main_while0b_v39 : Ref sig .tc := ⟨.hbm, 105, rfl⟩
abbrev main_while0b_call8_c : Ref sig .tc := ⟨.hbm, 106, rfl⟩
abbrev main_while0b_call8_c_0 : Ref sig .tc := ⟨.hbm, 107, rfl⟩
abbrev main_while0b_call8_v0 : Ref sig .tc := ⟨.hbm, 108, rfl⟩
abbrev main_while0b_v40 : Ref sig .tc := ⟨.hbm, 109, rfl⟩
abbrev main_while0b_v41 : Ref sig .tc := ⟨.hbm, 110, rfl⟩
abbrev main_while0b_v42 : Ref sig .tc := ⟨.hbm, 111, rfl⟩
abbrev main_while0b_v43 : Ref sig .tc := ⟨.hbm, 112, rfl⟩
abbrev main_while0b_v44 : Ref sig .tc := ⟨.hbm, 113, rfl⟩
abbrev main_while0b_v45 : Ref sig .tc := ⟨.hbm, 114, rfl⟩
abbrev main_while0b_v46 : Ref sig .tc := ⟨.hbm, 115, rfl⟩
abbrev main_while0b_v47 : Ref sig .tc := ⟨.hbm, 116, rfl⟩
abbrev main_while0b_cst_29 : Ref sig .tc := ⟨.hbm, 117, rfl⟩
abbrev main_while0b_call9_v0 : Ref sig .tc := ⟨.hbm, 118, rfl⟩
abbrev main_while0b_v48_1 : Ref sig .tc := ⟨.hbm, 119, rfl⟩
abbrev main_while0b_call9_v2 : Ref sig .tc := ⟨.hbm, 120, rfl⟩
abbrev main_while0b_v48_0 : Ref sig .tc := ⟨.hbm, 121, rfl⟩
abbrev main_while0b_call9_cst : Ref sig .tc := ⟨.hbm, 122, rfl⟩
abbrev main_while0b_v48_2 : Ref sig .tc := ⟨.hbm, 123, rfl⟩
abbrev main_while0b_v49 : Ref sig .tc := ⟨.hbm, 124, rfl⟩
abbrev main_while0b_v50 : Ref sig .tc := ⟨.hbm, 125, rfl⟩
abbrev main_while0b_v51 : Ref sig .tc := ⟨.hbm, 126, rfl⟩
abbrev main_while0b_v52 : Ref sig .tc := ⟨.hbm, 127, rfl⟩
abbrev main_while0b_v53 : Ref sig .tc := ⟨.hbm, 128, rfl⟩
abbrev main_while0b_v54 : Ref sig .tc := ⟨.hbm, 129, rfl⟩
abbrev main_while0b_v55 : Ref sig .tc := ⟨.hbm, 130, rfl⟩
abbrev main_while0b_v56 : Ref sig .tc := ⟨.hbm, 131, rfl⟩
abbrev main_while0b_v57 : Ref sig .tc := ⟨.hbm, 132, rfl⟩
abbrev main_while0b_v58 : Ref sig .tc := ⟨.hbm, 133, rfl⟩
abbrev main_while0b_v59 : Ref sig .tc := ⟨.hbm, 134, rfl⟩
abbrev main_while0b_cst_30 : Ref sig .tc := ⟨.hbm, 135, rfl⟩
abbrev main_while0b_v60 : Ref sig .tc := ⟨.hbm, 136, rfl⟩
abbrev main_while0b_v61 : Ref sig .tc := ⟨.hbm, 137, rfl⟩
abbrev main_while0b_cst_31 : Ref sig .tc := ⟨.hbm, 138, rfl⟩
abbrev main_while0b_v62 : Ref sig .tc := ⟨.hbm, 139, rfl⟩
abbrev main_while0b_v63 : Ref sig .tc := ⟨.hbm, 140, rfl⟩
abbrev main_while0b_cst_32 : Ref sig .tc := ⟨.hbm, 141, rfl⟩
abbrev main_while0b_v64 : Ref sig .tc := ⟨.hbm, 142, rfl⟩
abbrev main_while0b_v65 : Ref sig .tc := ⟨.hbm, 143, rfl⟩
abbrev main_while0b_v66 : Ref sig .tc := ⟨.hbm, 144, rfl⟩
abbrev main_while0b_v67 : Ref sig .tc := ⟨.hbm, 145, rfl⟩
abbrev main_while0b_cst_33 : Ref sig .tc := ⟨.hbm, 146, rfl⟩
abbrev main_while0b_v68 : Ref sig .tc := ⟨.hbm, 147, rfl⟩
abbrev main_while0b_v69 : Ref sig .tc := ⟨.hbm, 148, rfl⟩
abbrev main_while0b_v70 : Ref sig .tc := ⟨.hbm, 149, rfl⟩
abbrev main_while0b_v71 : Ref sig .tc := ⟨.hbm, 150, rfl⟩
abbrev main_while0b_v72 : Ref sig .tc := ⟨.hbm, 151, rfl⟩
abbrev main_while0b_v73 : Ref sig .tc := ⟨.hbm, 152, rfl⟩
abbrev main_while0b_v74 : Ref sig .tc := ⟨.hbm, 153, rfl⟩
abbrev main_while0b_v75 : Ref sig .tc := ⟨.hbm, 154, rfl⟩
abbrev main_while0b_call10_v0 : Ref sig .tc := ⟨.hbm, 155, rfl⟩
abbrev main_while0b_call10_v1 : Ref sig .tc := ⟨.hbm, 156, rfl⟩
abbrev main_while0b_call10_cst : Ref sig .tc := ⟨.hbm, 157, rfl⟩
abbrev main_while0b_call10_v2 : Ref sig .tc := ⟨.hbm, 158, rfl⟩
abbrev main_while0b_call10_v3 : Ref sig .tc := ⟨.hbm, 159, rfl⟩
abbrev main_while0b_call10_cst_0 : Ref sig .tc := ⟨.hbm, 160, rfl⟩
abbrev main_while0b_call10_v4 : Ref sig .tc := ⟨.hbm, 161, rfl⟩
abbrev main_while0b_v76_2 : Ref sig .tc := ⟨.hbm, 162, rfl⟩
abbrev main_while0b_call10_cst_1 : Ref sig .tc := ⟨.hbm, 163, rfl⟩
abbrev main_while0b_call10_v6 : Ref sig .tc := ⟨.hbm, 164, rfl⟩
abbrev main_while0b_call10_v7 : Ref sig .tc := ⟨.hbm, 165, rfl⟩
abbrev main_while0b_v76_1 : Ref sig .tc := ⟨.hbm, 166, rfl⟩
abbrev main_while0b_v76_0 : Ref sig .tc := ⟨.hbm, 167, rfl⟩
abbrev main_while0b_v77 : Ref sig .tc := ⟨.hbm, 168, rfl⟩
abbrev main_while0b_v78 : Ref sig .tc := ⟨.hbm, 169, rfl⟩
abbrev main_while0b_v79 : Ref sig .tc := ⟨.hbm, 170, rfl⟩
abbrev main_while0b_v80 : Ref sig .tc := ⟨.hbm, 171, rfl⟩
abbrev main_while0b_v81 : Ref sig .tc := ⟨.hbm, 172, rfl⟩
abbrev main_while0b_call11_v0 : Ref sig .tc := ⟨.hbm, 173, rfl⟩
abbrev main_while0b_call11_v1 : Ref sig .tc := ⟨.hbm, 174, rfl⟩
abbrev main_while0b_call11_v2 : Ref sig .tc := ⟨.hbm, 175, rfl⟩
abbrev main_while0b_v82 : Ref sig .tc := ⟨.hbm, 176, rfl⟩
abbrev main_while0b_v83 : Ref sig .tc := ⟨.hbm, 177, rfl⟩
abbrev main_while0b_v84 : Ref sig .tc := ⟨.hbm, 178, rfl⟩
abbrev main_while0b_cst_34 : Ref sig .tc := ⟨.hbm, 179, rfl⟩
abbrev main_while0b_v85 : Ref sig .tc := ⟨.hbm, 180, rfl⟩
abbrev main_while0b_v86 : Ref sig .tc := ⟨.hbm, 181, rfl⟩
abbrev main_while0b_v87 : Ref sig .tc := ⟨.hbm, 182, rfl⟩
abbrev main_while0b_v88 : Ref sig .tc := ⟨.hbm, 183, rfl⟩
abbrev main_while0b_cst_35 : Ref sig .tc := ⟨.hbm, 184, rfl⟩
abbrev main_while0b_v89 : Ref sig .tc := ⟨.hbm, 185, rfl⟩
abbrev main_while0b_v90 : Ref sig .tc := ⟨.hbm, 186, rfl⟩
abbrev main_while0b_cst_36 : Ref sig .tc := ⟨.hbm, 187, rfl⟩
abbrev main_while0b_v91 : Ref sig .tc := ⟨.hbm, 188, rfl⟩
abbrev main_while0b_v92 : Ref sig .tc := ⟨.hbm, 189, rfl⟩
abbrev main_while0b_v93 : Ref sig .tc := ⟨.hbm, 190, rfl⟩
abbrev main_while0b_v94 : Ref sig .tc := ⟨.hbm, 191, rfl⟩
abbrev main_while0b_v95 : Ref sig .tc := ⟨.hbm, 192, rfl⟩
abbrev main_while0b_cst_37 : Ref sig .tc := ⟨.hbm, 193, rfl⟩
abbrev main_while0b_v96 : Ref sig .tc := ⟨.hbm, 194, rfl⟩
abbrev main_while0b_v97 : Ref sig .tc := ⟨.hbm, 195, rfl⟩
abbrev main_while0b_cst_38 : Ref sig .tc := ⟨.hbm, 196, rfl⟩
abbrev main_while0b_v98 : Ref sig .tc := ⟨.hbm, 197, rfl⟩
abbrev main_while0b_v99 : Ref sig .tc := ⟨.hbm, 198, rfl⟩
abbrev main_while0b_v100 : Ref sig .tc := ⟨.hbm, 199, rfl⟩
abbrev main_while0b_v101 : Ref sig .tc := ⟨.hbm, 200, rfl⟩
abbrev main_while0b_v102 : Ref sig .tc := ⟨.hbm, 201, rfl⟩
abbrev main_while0b_v103 : Ref sig .tc := ⟨.hbm, 202, rfl⟩
abbrev main_while0b_v104 : Ref sig .tc := ⟨.hbm, 203, rfl⟩
abbrev main_while0b_v105 : Ref sig .tc := ⟨.hbm, 204, rfl⟩
abbrev main_while0b_v106 : Ref sig .tc := ⟨.hbm, 205, rfl⟩
abbrev main_while0b_v107 : Ref sig .tc := ⟨.hbm, 206, rfl⟩
abbrev main_while0b_v108 : Ref sig .tc := ⟨.hbm, 207, rfl⟩
abbrev main_while0b_v109 : Ref sig .tc := ⟨.hbm, 208, rfl⟩
abbrev main_while0b_cst_39 : Ref sig .tc := ⟨.hbm, 209, rfl⟩
abbrev main_while0b_v110 : Ref sig .tc := ⟨.hbm, 210, rfl⟩
abbrev main_while0b_v111 : Ref sig .tc := ⟨.hbm, 211, rfl⟩
abbrev main_while0b_v112 : Ref sig .tc := ⟨.hbm, 212, rfl⟩
abbrev main_while0b_v113 : Ref sig .tc := ⟨.hbm, 213, rfl⟩
abbrev main_while0b_v114 : Ref sig .tc := ⟨.hbm, 214, rfl⟩
abbrev main_while0b_v115 : Ref sig .tc := ⟨.hbm, 215, rfl⟩
abbrev main_while0b_v116 : Ref sig .tc := ⟨.hbm, 216, rfl⟩
abbrev main_while0b_v117 : Ref sig .tc := ⟨.hbm, 217, rfl⟩
abbrev main_while0b_v118 : Ref sig .tc := ⟨.hbm, 218, rfl⟩
abbrev main_while0b_v119 : Ref sig .tc := ⟨.hbm, 219, rfl⟩
abbrev main_while0b_v120 : Ref sig .tc := ⟨.hbm, 220, rfl⟩
abbrev main_while0b_v121 : Ref sig .tc := ⟨.hbm, 221, rfl⟩
abbrev main_while0b_v122 : Ref sig .tc := ⟨.hbm, 222, rfl⟩
abbrev main_while0b_v123 : Ref sig .tc := ⟨.hbm, 223, rfl⟩
abbrev main_while0b_v124 : Ref sig .tc := ⟨.hbm, 224, rfl⟩
abbrev main_while0b_v125 : Ref sig .tc := ⟨.hbm, 225, rfl⟩
abbrev main_while0b_v126 : Ref sig .tc := ⟨.hbm, 226, rfl⟩
abbrev main_while0b_call12_cst : Ref sig .tc := ⟨.hbm, 227, rfl⟩
abbrev main_while0b_call12_v0 : Ref sig .tc := ⟨.hbm, 228, rfl⟩
abbrev main_while0b_v127 : Ref sig .tc := ⟨.hbm, 229, rfl⟩
abbrev main_while0b_v128 : Ref sig .tc := ⟨.hbm, 230, rfl⟩
abbrev main_while0b_call13_v0 : Ref sig .tc := ⟨.hbm, 231, rfl⟩
abbrev main_while0b_call13_c : Ref sig .tc := ⟨.hbm, 232, rfl⟩
abbrev main_while0b_call13_c_0 : Ref sig .tc := ⟨.hbm, 233, rfl⟩
abbrev main_while0b_call13_c_1 : Ref sig .tc := ⟨.hbm, 234, rfl⟩
abbrev main_while0b_v129 : Ref sig .tc := ⟨.hbm, 235, rfl⟩
abbrev main_while0b_call14_v0 : Ref sig .tc := ⟨.hbm, 236, rfl⟩
abbrev main_while0b_call14_c : Ref sig .tc := ⟨.hbm, 237, rfl⟩
abbrev main_while0b_call14_c_0 : Ref sig .tc := ⟨.hbm, 238, rfl⟩
abbrev main_while0b_call14_c_1 : Ref sig .tc := ⟨.hbm, 239, rfl⟩
abbrev main_while0b_v130 : Ref sig .tc := ⟨.hbm, 240, rfl⟩
abbrev main_while0b_call15_v0 : Ref sig .tc := ⟨.hbm, 241, rfl⟩
abbrev main_while0b_call15_c : Ref sig .tc := ⟨.hbm, 242, rfl⟩
abbrev main_while0b_call15_c_0 : Ref sig .tc := ⟨.hbm, 243, rfl⟩
abbrev main_while0b_call15_c_1 : Ref sig .tc := ⟨.hbm, 244, rfl⟩
abbrev main_while0b_v131 : Ref sig .tc := ⟨.hbm, 245, rfl⟩
abbrev main_while0b_call16_v0 : Ref sig .tc := ⟨.hbm, 246, rfl⟩
abbrev main_while0b_call16_c : Ref sig .tc := ⟨.hbm, 247, rfl⟩
abbrev main_while0b_call16_c_0 : Ref sig .tc := ⟨.hbm, 248, rfl⟩
abbrev main_while0b_call16_c_1 : Ref sig .tc := ⟨.hbm, 249, rfl⟩
abbrev main_while0b_v132 : Ref sig .tc := ⟨.hbm, 250, rfl⟩
abbrev main_while0b_call17_v0 : Ref sig .tc := ⟨.hbm, 251, rfl⟩
abbrev main_while0b_call17_c : Ref sig .tc := ⟨.hbm, 252, rfl⟩
abbrev main_while0b_call17_c_0 : Ref sig .tc := ⟨.hbm, 253, rfl⟩
abbrev main_while0b_call17_c_1 : Ref sig .tc := ⟨.hbm, 254, rfl⟩
abbrev main_while0b_v133 : Ref sig .tc := ⟨.hbm, 255, rfl⟩
abbrev main_while0b_call18_v0 : Ref sig .tc := ⟨.hbm, 256, rfl⟩
abbrev main_while0b_call18_c : Ref sig .tc := ⟨.hbm, 257, rfl⟩
abbrev main_while0b_call18_c_0 : Ref sig .tc := ⟨.hbm, 258, rfl⟩
abbrev main_while0b_call18_c_1 : Ref sig .tc := ⟨.hbm, 259, rfl⟩
abbrev main_while0b_v134 : Ref sig .tc := ⟨.hbm, 260, rfl⟩
abbrev main_while0b_call19_v0 : Ref sig .tc := ⟨.hbm, 261, rfl⟩
abbrev main_while0b_call19_c : Ref sig .tc := ⟨.hbm, 262, rfl⟩
abbrev main_while0b_call19_c_0 : Ref sig .tc := ⟨.hbm, 263, rfl⟩
abbrev main_while0b_v135 : Ref sig .tc := ⟨.hbm, 264, rfl⟩
abbrev main_while0b_c_40 : Ref sig .tc := ⟨.hbm, 265, rfl⟩
abbrev main_while0b_v136 : Ref sig .tc := ⟨.hbm, 266, rfl⟩
abbrev main_v21 : Ref sig .tc := ⟨.hbm, 267, rfl⟩
abbrev main_v22 : Ref sig .tc := ⟨.hbm, 268, rfl⟩
abbrev main_v23 : Ref sig .tc := ⟨.hbm, 269, rfl⟩
abbrev main_v24 : Ref sig .tc := ⟨.hbm, 270, rfl⟩
abbrev main_v25 : Ref sig .tc := ⟨.hbm, 271, rfl⟩
abbrev main_v26 : Ref sig .tc := ⟨.hbm, 272, rfl⟩
abbrev main_v27 : Ref sig .tc := ⟨.hbm, 273, rfl⟩
abbrev main_v28 : Ref sig .tc := ⟨.hbm, 274, rfl⟩
abbrev main_v29 : Ref sig .tc := ⟨.hbm, 275, rfl⟩

abbrev nD : Nat := 1
abbrev τ : Topo := Topo.v7x

variable {F : FTy → Type} [FloatOps F]

abbrev main_while0_count : Scf.Loop 32 := ⟨0#32, 64#32, 1#32⟩
-- ==== KernelFfn.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S1x128 : Shape := ⟨2, ![1, 128]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1408x1024 : Shape := ⟨2, ![1408, 1024]⟩
abbrev S256x1408 : Shape := ⟨2, ![256, 1408]⟩
abbrev S1 : Shape := ⟨1, ![1]⟩
abbrev S1x1 : Shape := ⟨2, ![1, 1]⟩
abbrev S1024 : Shape := ⟨1, ![1024]⟩

abbrev nBuf : Space → Nat
  | .hbm => 21
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024x2816, .bf16⟩
  | .hbm, ⟨8, _⟩ => ⟨S2816x1024, .bf16⟩
  | .hbm, ⟨9, _⟩ => ⟨S1024x2816, .bf16⟩
  | .hbm, ⟨10, _⟩ => ⟨S2816x1024, .bf16⟩
  | .hbm, ⟨11, _⟩ => ⟨S2816x1024, .bf16⟩
  | .hbm, ⟨12, _⟩ => ⟨S4096x1024, .f32⟩
  | .hbm, ⟨13, _⟩ => ⟨S4096x1024, .bf16⟩
  | .hbm, ⟨14, _⟩ => ⟨S4096x2816, .bf16⟩
  | .hbm, ⟨15, _⟩ => ⟨S4096x2816, .bf16⟩
  | .hbm, ⟨16, _⟩ => ⟨S4096x2816, .bf16⟩
  | .hbm, ⟨17, _⟩ => ⟨S4096x1024, .bf16⟩
  | .hbm, ⟨18, _⟩ => ⟨S1x128, .f32⟩
  | .hbm, ⟨19, _⟩ => ⟨S1x1024, .f32⟩
  | .hbm, ⟨20, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S2816x1024, .bf16⟩
  | .local _ .vmem, ⟨7, _⟩ => ⟨S2816x1024, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x1024, .bf16⟩
  | .local _ .vmem, ⟨20, _⟩ => ⟨S256x1024, .bf16⟩
  | .local _ .vmem, ⟨21, _⟩ => ⟨S1x128, .f32⟩
  | .local _ .vmem, ⟨22, _⟩ => ⟨S1x1024, .f32⟩
  | .local _ .vmem, ⟨23, _⟩ => ⟨S1x1024, .f32⟩
  | .local _ .vmem, ⟨24, _⟩ => ⟨S256x2816, .f32⟩
  | .local _ .vmem, ⟨25, _⟩ => ⟨S256x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev main_v5_6 : Ref sig .tc := ⟨.hbm, 18, rfl⟩
abbrev main_v5_7 : Ref sig .tc := ⟨.hbm, 19, rfl⟩
abbrev main_v5_8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== RefFfnIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1x128 : Shape := ⟨2, ![1, 128]⟩

abbrev nBuf : Space → Nat
  | .hbm => 159
  | .vmem => 0
  | .smem => 0
  | _ => 0

abbrev hbmTy0_0 (i : Nat) : BufTy := match i % 128 with
  | 0 => ⟨S4096x1024, .f32⟩
  | 1 => ⟨S4096x1024, .f32⟩
  | 2 => ⟨S1x1024, .f32⟩
  | 3 => ⟨S1x1024, .f32⟩
  | 4 => ⟨S1024x2816, .f32⟩
  | 5 => ⟨S1024x2816, .f32⟩
  | 6 => ⟨S2816x1024, .f32⟩
  | 7 => ⟨S1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S1x1024, .f32⟩
  | 26 => ⟨S4096x1024, .f32⟩
  | 27 => ⟨S4096x1024, .f32⟩
  | 28 => ⟨S4096x2816, .f32⟩
  | 29 => ⟨S4096x2816, .f32⟩
  | 30 => ⟨S4096x2816, .f32⟩
  | 31 => ⟨S4096x2816, .f32⟩
  | 32 => ⟨S_, .f32⟩
  | 33 => ⟨S4096x2816, .f32⟩
  | 34 => ⟨S4096x2816, .f32⟩
  | 35 => ⟨S_, .f32⟩
  | 36 => ⟨S4096x2816, .f32⟩
  | 37 => ⟨S4096x2816, .f32⟩
  | 38 => ⟨S_, .f32⟩
  | 39 => ⟨S4096x2816, .f32⟩
  | 40 => ⟨S4096x2816, .f32⟩
  | 41 => ⟨S4096x2816, .f32⟩
  | 42 => ⟨S4096x2816, .f32⟩
  | 43 => ⟨S4096x2816, .f32⟩
  | 44 => ⟨S4096x1024, .f32⟩
  | 45 => ⟨S1024, .f32⟩
  | 46 => ⟨S4096x1024, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x1024, .f32⟩
  | 62 => ⟨S4096x1024, .f32⟩
  | 63 => ⟨S1x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S_, .f32⟩
  | 70 => ⟨S4096x1024, .f32⟩
  | 71 => ⟨S4096x1024, .f32⟩
  | 72 => ⟨S_, .f32⟩
  | 73 => ⟨S4096, .f32⟩
  | 74 => ⟨S_, .f32⟩
  | 75 => ⟨S4096, .f32⟩
  | 76 => ⟨S4096, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S4096, .f32⟩
  | 85 => ⟨S_, .f32⟩
  | 86 => ⟨S4096, .f32⟩
  | 87 => ⟨S4096, .f32⟩
  | 88 => ⟨S4096x1024, .f32⟩
  | 89 => ⟨S4096x1024, .f32⟩
  | 90 => ⟨S4096x1024, .f32⟩
  | 91 => ⟨S_, .f32⟩
  | 92 => ⟨S1024, .f32⟩
  | 93 => ⟨S1x1024, .f32⟩
  | 94 => ⟨S4096x1024, .f32⟩
  | 95 => ⟨S4096x1024, .f32⟩
  | 96 => ⟨S_, .f32⟩
  | 97 => ⟨S1024, .f32⟩
  | 98 => ⟨S4096x1024, .f32⟩
  | 99 => ⟨S_, .f32⟩
  | 100 => ⟨S4096, .f32⟩
  | 101 => ⟨S4096x1, .f32⟩
  | 102 => ⟨S4096x1024, .f32⟩
  | 103 => ⟨S4096x1024, .f32⟩
  | 104 => ⟨S4096x1, .f32⟩
  | 105 => ⟨S_, .f32⟩
  | 106 => ⟨S4096x1, .f32⟩
  | 107 => ⟨S4096x1, .f32⟩
  | 108 => ⟨S_, .f32⟩
  | 109 => ⟨S4096, .f32⟩
  | 110 => ⟨S4096x1024, .f32⟩
  | 111 => ⟨S4096x1024, .f32⟩
  | 112 => ⟨S4096x1024, .f32⟩
  | 113 => ⟨S4096x1024, .f32⟩
  | 114 => ⟨S4096x1024, .f32⟩
  | 115 => ⟨S4096x2816, .f32⟩
  | 116 => ⟨S4096x2816, .f32⟩
  | 117 => ⟨S4096x2816, .f32⟩
  | 118 => ⟨S4096x2816, .f32⟩
  | 119 => ⟨S4096x2816, .f32⟩
  | 120 => ⟨S4096x2816, .f32⟩
  | 121 => ⟨S4096x2816, .f32⟩
  | 122 => ⟨S4096x1024, .f32⟩
  | 123 => ⟨S4096x1024, .f32⟩
  | 124 => ⟨S4096x1024, .f32⟩
  | 125 => ⟨S4096x1024, .f32⟩
  | 126 => ⟨S_, .f32⟩
  | 127 => ⟨S1024, .f32⟩
  | _ => ⟨S4096x1024, .f32⟩

abbrev hbmTy0_1 (i : Nat) : BufTy := match i % 128 with
  | 0 => ⟨S1x1024, .f32⟩
  | 1 => ⟨S4096x1024, .f32⟩
  | 2 => ⟨S4096x1024, .f32⟩
  | 3 => ⟨S_, .f32⟩
  | 4 => ⟨S1024, .f32⟩
  | 5 => ⟨S4096x1024, .f32⟩
  | 6 => ⟨S_, .f32⟩
  | 7 => ⟨S4096, .f32⟩
  | 8 => ⟨S4096x1, .f32⟩
  | 9 => ⟨S4096x1024, .f32⟩
  | 10 => ⟨S4096x1024, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S4096x1024, .bf16⟩
  | 24 => ⟨S4096x2816, .bf16⟩
  | 25 => ⟨S4096x2816, .bf16⟩
  | 26 => ⟨S4096x2816, .bf16⟩
  | 27 => ⟨S4096x1024, .bf16⟩
  | 28 => ⟨S1x128, .f32⟩
  | 29 => ⟨S1x1024, .f32⟩
  | 30 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v19_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v19_1 : Ref sig .tc := ⟨.hbm, 41, rfl⟩
abbrev main_v19_0 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_cst_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_cst_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_7 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_cst_9 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_cst_11 : Ref sig .tc := ⟨.hbm, 79, rfl⟩
abbrev main_v48 : Ref sig .tc := ⟨.hbm, 80, rfl⟩
abbrev main_cst_12 : Ref sig .tc := ⟨.hbm, 81, rfl⟩
abbrev main_cst_13 : Ref sig .tc := ⟨.hbm, 82, rfl⟩
abbrev main_v49 : Ref sig .tc := ⟨.hbm, 83, rfl⟩
abbrev main_v50 : Ref sig .tc := ⟨.hbm, 84, rfl⟩
abbrev main_cst_14 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_15 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_cst_16 : Ref sig .tc := ⟨.hbm, 96, rfl⟩
abbrev main_v60 : Ref sig .tc := ⟨.hbm, 97, rfl⟩
abbrev main_v61 : Ref sig .tc := ⟨.hbm, 98, rfl⟩
abbrev main_cst_17 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_18 : Ref sig .tc := ⟨.hbm, 105, rfl⟩
abbrev main_v67 : Ref sig .tc := ⟨.hbm, 106, rfl⟩
abbrev main_v68 : Ref sig .tc := ⟨.hbm, 107, rfl⟩
abbrev main_cst_19 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_call1_v0 : Ref sig .tc := ⟨.hbm, 118, rfl⟩
abbrev main_call1_v1 : Ref sig .tc := ⟨.hbm, 119, rfl⟩
abbrev main_call1_v2 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_20 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_21 : Ref sig .tc := ⟨.hbm, 131, rfl⟩
abbrev main_v87 : Ref sig .tc := ⟨.hbm, 132, rfl⟩
abbrev main_v88 : Ref sig .tc := ⟨.hbm, 133, rfl⟩
abbrev main_cst_22 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_23 : Ref sig .tc := ⟨.hbm, 140, rfl⟩
abbrev main_v94 : Ref sig .tc := ⟨.hbm, 141, rfl⟩
abbrev main_v95 : Ref sig .tc := ⟨.hbm, 142, rfl⟩
abbrev main_cst_24 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩

abbrev nD : Nat := 1
abbrev τ : Topo := Topo.v7x

variable {F : FTy → Type} [FloatOps F]
-- ==== KernelW.lean ====
abbrev S4096x2816 : Shape := ⟨2, ![4096, 2816]⟩
abbrev S4096x1024 : Shape := ⟨2, ![4096, 1024]⟩
abbrev S2816x1024 : Shape := ⟨2, ![2816, 1024]⟩
abbrev S2048x2816 : Shape := ⟨2, ![2048, 2816]⟩
abbrev S2048x512 : Shape := ⟨2, ![2048, 512]⟩
abbrev S2816x512 : Shape := ⟨2, ![2816, 512]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S2048x2816, .bf16⟩
  | .local _ .vmem, ⟨1, _⟩ => ⟨S2048x2816, .bf16⟩
  | .local _ .vmem, ⟨2, _⟩ => ⟨S2048x512, .bf16⟩
  | .local _ .vmem, ⟨3, _⟩ => ⟨S2048x512, .bf16⟩
  | .local _ .vmem, ⟨4, _⟩ => ⟨S2816x512, .bf16⟩
  | .local _ .vmem, ⟨5, _⟩ => ⟨S2816x512, .bf16⟩
  | .local _ .vmem, ⟨6, _⟩ => ⟨S2816x512, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2816x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefWIdeal.lean ====
abbrev S4096x2816 : Shape := ⟨2, ![4096, 2816]⟩
abbrev S4096x1024 : Shape := ⟨2, ![4096, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S1024x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelIn.lean ====
abbrev S4096x1024 : Shape := ⟨2, ![4096, 1024]⟩
abbrev S4096x1536 : Shape := ⟨2, ![4096, 1536]⟩
abbrev S4096x512 : Shape := ⟨2, ![4096, 512]⟩
abbrev S4096x128 : Shape := ⟨2, ![4096, 128]⟩
abbrev S8x1024x449 : Shape := ⟨3, ![8, 1024, 449]⟩
abbrev S1024x1024 : Shape := ⟨2, ![1024, 1024]⟩
abbrev S1024x1536 : Shape := ⟨2, ![1024, 1536]⟩
abbrev S1024x512 : Shape := ⟨2, ![1024, 512]⟩
abbrev S1024x128 : Shape := ⟨2, ![1024, 128]⟩
abbrev S1024x3712 : Shape := ⟨2, ![1024, 3712]⟩
abbrev S1024x449 : Shape := ⟨2, ![1024, 449]⟩
abbrev S1x1024x449 : Shape := ⟨3, ![1, 1024, 449]⟩
abbrev S1024x252 : Shape := ⟨2, ![1024, 252]⟩
abbrev S1x1024x252 : Shape := ⟨3, ![1, 1024, 252]⟩
abbrev S1024x8 : Shape := ⟨2, ![1024, 8]⟩
abbrev S1x1024x8 : Shape := ⟨3, ![1, 1024, 8]⟩
abbrev S1024x189 : Shape := ⟨2, ![1024, 189]⟩
abbrev S1x1024x189 : Shape := ⟨3, ![1, 1024, 189]⟩

abbrev nBuf : Space → Nat
  | .hbm => 15
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x128, .f32⟩
  | .hbm, ⟨7, _⟩ => ⟨S4096x1024, .bf16⟩
  | .hbm, ⟨8, _⟩ => ⟨S4096x1536, .bf16⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x128, .bf16⟩
  | .hbm, ⟨14, _⟩ => ⟨S8x1024x449, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x128, .bf16⟩
  | .local _ .vmem, ⟨13, _⟩ => ⟨S1024x128, .bf16⟩
  | .local _ .vmem, ⟨14, _⟩ => ⟨S8x1024x449, .bf16⟩
  | .local _ .vmem, ⟨15, _⟩ => ⟨S1024x3712, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v53 : BitVec 1 := Scalar.cmpi .eq arg0 c3_i32
  let v54 : BitVec 32 := Scalar.extui v53
  let c0_i32_38 : BitVec 32 := 0#32
  let v55 : BitVec 1 := Scalar.cmpi .ne v54 c0_i32_38
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024x449 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RefInIdeal.lean ====
abbrev S4096x1024 : Shape := ⟨2, ![4096, 1024]⟩
abbrev S4096x1536 : Shape := ⟨2, ![4096, 1536]⟩
abbrev S4096x512 : Shape := ⟨2, ![4096, 512]⟩
abbrev S4096x128 : Shape := ⟨2, ![4096, 128]⟩
abbrev S_ : Shape := ⟨0, ![]⟩
abbrev S1024x3592 : Shape := ⟨2, ![1024, 3592]⟩
abbrev S4096x8 : Shape := ⟨2, ![4096, 8]⟩
abbrev S4096x3592 : Shape := ⟨2, ![4096, 3592]⟩
abbrev S3592x1024 : Shape := ⟨2, ![3592, 1024]⟩
abbrev S1024x8x449 : Shape := ⟨3, ![1024, 8, 449]⟩
abbrev S8x1024x449 : Shape := ⟨3, ![8, 1024, 449]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1536, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x128, .f32⟩
  | .hbm, ⟨7, _⟩ => ⟨S_, .f32⟩
  | .hbm, ⟨8, _⟩ => ⟨S1024x3592, .f32⟩
  | .hbm, ⟨9, _⟩ => ⟨S4096x8, .f32⟩
  | .hbm, ⟨10, _⟩ => ⟨S4096x3592, .f32⟩
  | .hbm, ⟨11, _⟩ => ⟨S4096x3592, .f32⟩
  | .hbm, ⟨12, _⟩ => ⟨S3592x1024, .f32⟩
  | .hbm, ⟨13, _⟩ => ⟨S1024x3592, .f32⟩
  | .hbm, ⟨14, _⟩ => ⟨S1024x8x449, .f32⟩
  | .hbm, ⟨15, _⟩ => ⟨S8x1024x449, .f32⟩
  | .hbm, ⟨16, _⟩ => ⟨S8x1024x449, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]
-- ==== KernelOut.lean ====
abbrev S4096x512 : Shape := ⟨2, ![4096, 512]⟩
abbrev S4096x1024 : Shape := ⟨2, ![4096, 1024]⟩
abbrev S1024x1024 : Shape := ⟨2, ![1024, 1024]⟩
abbrev S1024x512 : Shape := ⟨2, ![1024, 512]⟩
abbrev S512x512 : Shape := ⟨2, ![512, 512]⟩

abbrev nBuf : Space → Nat
  | .hbm => 5
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S4096x1024, .bf16⟩
  | .hbm, ⟨4, _⟩ => ⟨S1024x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== RefOutIdeal.lean ====
abbrev S4096x512 : Shape := ⟨2, ![4096, 512]⟩
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelProj.lean ====
abbrev S4096x1024 : Shape := ⟨2, ![4096, 1024]⟩
abbrev S1x1024 : Shape := ⟨2, ![1, 1024]⟩
abbrev S1024x3712 : Shape := ⟨2, ![1024, 3712]⟩
abbrev S8x128 : Shape := ⟨2, ![8, 128]⟩
abbrev S4096x3712 : Shape := ⟨2, ![4096, 3712]⟩
abbrev S512x1024 : Shape := ⟨2, ![512, 1024]⟩
abbrev S512x3712 : Shape := ⟨2, ![512, 3712]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3712, .f32⟩
  | .hbm, ⟨3, _⟩ => ⟨S8x128, .f32⟩
  | .hbm, ⟨4, _⟩ => ⟨S1024x3712, .bf16⟩
  | .hbm, ⟨5, _⟩ => ⟨S4096x3712, .f32⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3712, .bf16⟩
  | .local _ .vmem, ⟨4, _⟩ => ⟨S512x3712, .f32⟩
  | .local _ .vmem, ⟨5, _⟩ => ⟨S512x3712, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3712 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3712 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefProjIdeal.lean ====
abbrev S4096x1024 : Shape := ⟨2, ![4096, 1024]⟩
abbrev S1x1024 : Shape := ⟨2, ![1, 1024]⟩
abbrev S1024x3712 : Shape := ⟨2, ![1024, 3712]⟩
abbrev S8x128 : Shape := ⟨2, ![8, 128]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x3712 : Shape := ⟨2, ![4096, 3712]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3712, .f32⟩
  | .hbm, ⟨3, _⟩ => ⟨S8x128, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x3712, .f32⟩
  | .hbm, ⟨22, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KernelMix.lean ====
abbrev S4096x512 : Shape := ⟨2, ![4096, 512]⟩
abbrev S1024x1024 : Shape := ⟨2, ![1024, 1024]⟩
abbrev S4096x1024 : Shape := ⟨2, ![4096, 1024]⟩
abbrev S1x1024 : Shape := ⟨2, ![1, 1024]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S1x1024, .f32⟩
  | .hbm, ⟨5, _⟩ => ⟨S1024x1024, .bf16⟩
  | .hbm, ⟨6, _⟩ => ⟨S4096x1024, .f32⟩
  | .hbm, ⟨7, _⟩ => ⟨S4096x1024, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== RefMixIdeal.lean ====
abbrev S4096x512 : Shape := ⟨2, ![4096, 512]⟩
abbrev S1024x1024 : Shape := ⟨2, ![1024, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S1024x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== KernelProjB.lean ====
abbrev S4096x1024 : Shape := ⟨2, ![4096, 1024]⟩
abbrev S1x1024 : Shape := ⟨2, ![1, 1024]⟩
abbrev S1024x3712 : Shape := ⟨2, ![1024, 3712]⟩
abbrev S4096x1536 : Shape := ⟨2, ![4096, 1536]⟩
abbrev S4096x512 : Shape := ⟨2, ![4096, 512]⟩
abbrev S4096x128 : Shape := ⟨2, ![4096, 128]⟩
abbrev S8x128 : Shape := ⟨2, ![8, 128]⟩
abbrev S512x1024 : Shape := ⟨2, ![512, 1024]⟩
abbrev S512x1536 : Shape := ⟨2, ![512, 1536]⟩
abbrev S512x512 : Shape := ⟨2, ![512, 512]⟩
abbrev S512x128 : Shape := ⟨2, ![512, 128]⟩
abbrev S1024x1536 : Shape := ⟨2, ![1024, 1536]⟩
abbrev S1024x512 : Shape := ⟨2, ![1024, 512]⟩
abbrev S1024x128 : Shape := ⟨2, ![1024, 128]⟩
abbrev S512 : Shape := ⟨1, ![512]⟩
abbrev S512x1 : Shape := ⟨2, ![512, 1]⟩
abbrev S1024 : Shape := ⟨1, ![1024]⟩

abbrev nBuf : Space → Nat
  | .hbm => 20
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x3712, .f32⟩
  | .hbm, ⟨4, _⟩ => ⟨S4096x1536, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x128, .f32⟩
  | .hbm, ⟨10, _⟩ => ⟨S8x128, .f32⟩
  | .hbm, ⟨11, _⟩ => ⟨S1024x3712, .bf16⟩
  | .hbm, ⟨12, _⟩ => ⟨S4096x1536, .bf16⟩
  | .hbm, ⟨13, _⟩ => ⟨S4096x512, .bf16⟩
  | .hbm, ⟨14, _⟩ => ⟨S4096x512, .bf16⟩
  | .hbm, ⟨15, _⟩ => ⟨S4096x512, .bf16⟩
  | .hbm, ⟨16, _⟩ => ⟨S4096x512, .bf16⟩
  | .hbm, ⟨17, _⟩ => ⟨S4096x128, .bf16⟩
  | .hbm, ⟨18, _⟩ => ⟨S4096x1024, .f32⟩
  | .hbm, ⟨19, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x3712, .bf16⟩
  | .local _ .vmem, ⟨6, _⟩ => ⟨S512x1536, .bf16⟩
  | .local _ .vmem, ⟨7, _⟩ => ⟨S512x1536, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x128, .bf16⟩
  | .local _ .vmem, ⟨17, _⟩ => ⟨S512x128, .bf16⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3712 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== RefProjBIdeal.lean ====
abbrev S4096x1024 : Shape := ⟨2, ![4096, 1024]⟩
abbrev S1x1024 : Shape := ⟨2, ![1, 1024]⟩
abbrev S1024x3712 : Shape := ⟨2, ![1024, 3712]⟩
abbrev S4096x1536 : Shape := ⟨2, ![4096, 1536]⟩
abbrev S4096x512 : Shape := ⟨2, ![4096, 512]⟩
abbrev S4096x128 : Shape := ⟨2, ![4096, 128]⟩
abbrev S8x128 : Shape := ⟨2, ![8, 128]⟩
abbrev S4096x3712 : Shape := ⟨2, ![4096, 3712]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 62
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x3712, .f32⟩
  | .hbm, ⟨4, _⟩ => ⟨S4096x1536, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x128, .f32⟩
  | .hbm, ⟨10, _⟩ => ⟨S8x128, .f32⟩
  | .hbm, ⟨11, _⟩ => ⟨S4096x3712, .f32⟩
  | .hbm, ⟨12, _⟩ => ⟨S1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x3712, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩

abbrev nD : Nat := 1
abbrev τ : Topo := Topo.v7x

variable {F : FTy → Type} [FloatOps F]
-- ==== KernelMixB.lean ====
abbrev S4096x1024 : Shape := ⟨2, ![4096, 1024]⟩
abbrev S1x1024 : Shape := ⟨2, ![1, 1024]⟩
abbrev S1024x1024 : Shape := ⟨2, ![1024, 1024]⟩
abbrev S4096x512 : Shape := ⟨2, ![4096, 512]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .f32⟩
  | .hbm, ⟨4, _⟩ => ⟨S4096x512, .f32⟩
  | .hbm, ⟨5, _⟩ => ⟨S1024x1024, .bf16⟩
  | .hbm, ⟨6, _⟩ => ⟨S4096x1024, .bf16⟩
  | .hbm, ⟨7, _⟩ => ⟨S4096x1024, .f32⟩
  | .hbm, ⟨8, _⟩ => ⟨S1x1024, .f32⟩
  | .hbm, ⟨9, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x1024, .bf16⟩
  | .local _ .vmem, ⟨6, _⟩ => ⟨S512x512, .f32⟩
  | .local _ .vmem, ⟨7, _⟩ => ⟨S512x512, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S512x512, .f32⟩
  | .local _ .vmem, ⟨14, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefMixBIdeal.lean ====
abbrev S4096x1024 : Shape := ⟨2, ![4096, 1024]⟩
abbrev S1x1024 : Shape := ⟨2, ![1, 1024]⟩
abbrev S1024x1024 : Shape := ⟨2, ![1024, 1024]⟩
abbrev S4096x512 : Shape := ⟨2, ![4096, 512]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x1024, .f32⟩
  | .hbm, ⟨4, _⟩ => ⟨S4096x512, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | .hbm, ⟨56, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_8 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Proof.FrameF.lean ====
/-
  The frames of the scan's forward call: kernel, ideal kernel and reference end without fault, with their arguments unchanged and every
  semaphore counter at zero.
-/
module

public import proofs.«01_k».proof.Defs
public import proofs.«01_k».proof.Proof.Gen.KernelF
public import proofs.«01_k».proof.Proof.Gen.KernelF.Frame
public import proofs.«01_k».proof.Proof.Gen.KernelFIdeal
public import proofs.«01_k».proof.Proof.Gen.KernelFIdeal.Frame
public import proofs.«01_k».proof.Proof.Gen.RefFIdeal
public import proofs.«01_k».proof.Proof.Gen.RefFIdeal.Run
public import Idealize.ShloMosaic.Lib.Quiescent

@[expose] public section

set_option maxRecDepth 16384

noncomputable section

open Idealize.ShloMosaic Idealize.SL.Sem

namespace Cert.Claims

theorem frame_KernelF : Cert.quiescent_KernelF := fun m ρ _ => Cert.KernelF.Gen.frame m ρ

theorem frame_KernelFIdeal : Cert.quiescent_KernelFIdeal := fun m ρ _ => Cert.KernelFIdeal.Gen.frame m ρ

theorem frame_RefFIdeal : Cert.quiescent_RefFIdeal := fun m ρ _ =>
  (θ_run Cert.RefFIdeal.defs _ _).mono (fun r h => ⟨fun c => (h c).2.2, sem_eq_zero_of_no_sems (by decide) r.2⟩)
    (Cert.RefFIdeal.Value.run (F := Ideal) m ρ)

end Cert.Claims

end
-- ==== Proof.FrameB.lean ====
/-
  The frames of the scan's backward call: kernel, ideal kernel and reference end without fault, with their arguments unchanged and every
  semaphore counter at zero.
-/
module

public import proofs.«01_k».proof.Defs
public import proofs.«01_k».proof.Proof.Gen.KernelB
public import proofs.«01_k».proof.Proof.Gen.KernelB.Frame
public import proofs.«01_k».proof.Proof.Gen.KernelBIdeal
public import proofs.«01_k».proof.Proof.Gen.KernelBIdeal.Frame
public import proofs.«01_k».proof.Proof.Gen.RefBIdeal
public import proofs.«01_k».proof.Proof.Gen.RefBIdeal.Run
public import Idealize.ShloMosaic.Lib.Quiescent

@[expose] public section

set_option maxRecDepth 16384

noncomputable section

open Idealize.ShloMosaic Idealize.SL.Sem

namespace Cert.Claims

theorem frame_KernelB : Cert.quiescent_KernelB := fun m ρ _ => Cert.KernelB.Gen.frame m ρ

theorem frame_KernelBIdeal : Cert.quiescent_KernelBIdeal := fun m ρ _ => Cert.KernelBIdeal.Gen.frame m ρ

theorem frame_RefBIdeal : Cert.quiescent_RefBIdeal := fun m ρ _ =>
  (θ_run Cert.RefBIdeal.defs _ _).mono (fun r h => ⟨fun c => (h c).2.2.2.2.2.2.2.2, sem_eq_zero_of_no_sems (by decide) r.2⟩)
    (Cert.RefBIdeal.Value.run (F := Ideal) m ρ)

end Cert.Claims

end
-- ==== Proof.FrameFfn.lean ====
/-
  The frames of the feed-forward call: kernel, ideal kernel and reference end without fault, with their arguments unchanged and every
  semaphore counter at zero.
-/
module

public import proofs.«01_k».proof.Defs
public import proofs.«01_k».proof.Proof.Gen.KernelFfn
public import proofs.«01_k».proof.Proof.Gen.KernelFfn.Frame
public import proofs.«01_k».proof.Proof.Gen.KernelFfnIdeal
public import proofs.«01_k».proof.Proof.Gen.KernelFfnIdeal.Frame
public import proofs.«01_k».proof.Proof.Gen.RefFfnIdeal
public import proofs.«01_k».proof.Proof.Gen.RefFfnIdeal.Run
public import proofs.«01_k».proof.Proof.Gen.Pre_finite_ffn
public import Idealize.ShloMosaic.Lib.Quiescent

@[expose] public section

set_option maxRecDepth 16384

noncomputable section

open Idealize.ShloMosaic Idealize.SL.Sem

namespace Cert.Claims

theorem frame_KernelFfn : Cert.quiescent_KernelFfn := fun m ρ _ => Cert.KernelFfn.Gen.frame m ρ

theorem frame_KernelFfnIdeal : Cert.quiescent_KernelFfnIdeal := fun m ρ _ => Cert.KernelFfnIdeal.Gen.frame m ρ

theorem frame_KernelFfnIdeal_pre : Cert.quiescent_KernelFfnIdeal_pre_finite_ffn := fun m ρ _ => Cert.KernelFfnIdeal.Gen.frame m ρ

theorem frame_RefFfnIdeal : Cert.quiescent_RefFfnIdeal := fun m ρ _ =>
  (θ_run Cert.RefFfnIdeal.defs _ _).mono (fun r h => ⟨fun c => (h c).2.2.2.2.2.2.2.2.2, sem_eq_zero_of_no_sems (by decide) r.2⟩)
    (Cert.RefFfnIdeal.Value.run (F := Ideal) m ρ)

theorem frame_RefFfnIdeal_pre : Cert.quiescent_RefFfnIdeal_pre_finite_ffn := fun m ρ _ =>
  (θ_run Cert.RefFfnIdeal.defs _ _).mono (fun r h => ⟨fun c => (h c).2.2.2.2.2.2.2.2.2, sem_eq_zero_of_no_sems (by decide) r.2⟩)
    (Cert.RefFfnIdeal.Value.run (F := Ideal) m ρ)

end Cert.Claims

end
-- ==== Proof.FrameW.lean ====
/-
  The frames of the weight gradient: kernel, ideal kernel and reference end without fault, with their arguments unchanged and every
  semaphore counter at zero.
-/
module

public import proofs.«01_k».proof.Defs
public import proofs.«01_k».proof.Proof.Gen.KernelW
public import proofs.«01_k».proof.Proof.Gen.KernelW.Frame
public import proofs.«01_k».proof.Proof.Gen.KernelWIdeal
public import proofs.«01_k».proof.Proof.Gen.KernelWIdeal.Frame
public import proofs.«01_k».proof.Proof.Gen.RefWIdeal
public import proofs.«01_k».proof.Proof.Gen.RefWIdeal.Run
public import Idealize.ShloMosaic.Lib.Quiescent

@[expose] public section

set_option maxRecDepth 16384

noncomputable section

open Idealize.ShloMosaic Idealize.SL.Sem

namespace Cert.Claims

theorem frame_KernelW : Cert.quiescent_KernelW := fun m ρ _ => Cert.KernelW.Gen.frame m ρ

theorem frame_KernelWIdeal : Cert.quiescent_KernelWIdeal := fun m ρ _ => Cert.KernelWIdeal.Gen.frame m ρ

theorem frame_RefWIdeal : Cert.quiescent_RefWIdeal := fun m ρ _ =>
  (θ_run Cert.RefWIdeal.defs _ _).mono (fun r h => ⟨fun c => (h c).2, sem_eq_zero_of_no_sems (by decide) r.2⟩)
    (Cert.RefWIdeal.Value.run (F := Ideal) m ρ)

end Cert.Claims

end
-- ==== Proof.Scan.lean ====
/-
  The gated delta rule chunk by chunk over the extended reals: the chain of states, the chunks' outputs and their norm and gate.
-/
module

public import Idealize.ShloMosaic.PureOps
public import Idealize.ShloMosaic.Lib.Pointwise

@[expose] public section

noncomputable section

open Idealize.ShloMosaic

namespace Cert.Scan

/-- An array of three axes from its entries. -/
def a3 {n a b : ℕ} (f : Fin n → Fin a → Fin b → EReal) : (⟨3, ![n, a, b]⟩ : Shape).Idx → EReal := fun i => f (i 0) (i 1) (i 2)

/-- An array of two axes from its entries. -/
def a2 {a b : ℕ} (f : Fin a → Fin b → EReal) : (⟨2, ![a, b]⟩ : Shape).Idx → EReal := fun i => f (i 0) (i 1)

/-- One number for each head and lane, as the chunks' decay is stored. -/
def lane {n b : ℕ} (f : Fin n → Fin b → EReal) : (⟨3, ![n, 1, b]⟩ : Shape).Idx → EReal := fun i => f (i 0) (i 2)

/-- One number for each lane. -/
def gains {b : ℕ} (f : Fin b → EReal) : (⟨2, ![1, b]⟩ : Shape).Idx → EReal := fun i => f (i 1)

/-- Rows of a chunk, over the four heads. -/
abbrev Rows := Fin 4 → Fin 64 → Fin 128 → EReal

/-- A state of the recurrence, over the four heads. -/
abbrev State := Fin 4 → Fin 128 → Fin 128 → EReal

/-- Rows against a state. -/
def through (w : Rows) (S : State) : Rows := fun h c v => ∑ k, w h c k * S h k v

/-- The new values of a chunk: what the state does not hold yet. -/
def fresh (S : State) (w u : Rows) : Rows := fun h c v => u h c v - through w S h c v

/-- Keys against values, summed over the rows. -/
def outer (k v : Rows) : State := fun h a b => ∑ c, k h c a * v h c b

/-- A state, decayed. -/
def decay (S : State) (g : Fin 4 → Fin 128 → EReal) : State := fun h k v => S h k v * g h v

/-- The state after a chunk. -/
def next (S : State) (w u : Rows) (g : Fin 4 → Fin 128 → EReal) (k : Rows) : State := fun h a b =>
  decay S g h a b + outer k (fresh S w u) h a b

/-- The chunk's own rows, weighted. -/
def within (at_ : Fin 4 → Fin 64 → Fin 64 → EReal) (v : Rows) : Rows := fun h i x => ∑ j, at_ h i j * v h j x

/-- The chunk's output: what the state gives and what the chunk's own rows give. -/
def output (S : State) (q : Rows) (at_ : Fin 4 → Fin 64 → Fin 64 → EReal) (v : Rows) : Rows := fun h i x =>
  through q S h i x + within at_ v h i x

/-- The logistic function. -/
def sigm (x : EReal) : EReal := Ideal.div 1 (1 + Ideal.exp (-x))

/-- One over the root of a row's mean square. -/
def scale (o : Fin 128 → EReal) : EReal :=
  Ideal.rsqrt (Ideal.div (∑ k, o k * o k) (Ideal.ofBits .f32 0x43000000#32) + Ideal.ofBits .f32 0x358637BD#32)

/-- An output row's entry, normalised and gated. -/
def gated (o : Fin 128 → EReal) (og g : Fin 128 → EReal) (v : Fin 128) : EReal := o v * scale o * og v * (g v * sigm (g v))

/-- The scan's arguments: chunk `n`'s rows of head `h` are entry `4 n + h`. -/
structure Args where
  u : Fin 256 → Fin 64 → Fin 128 → EReal
  w : Fin 256 → Fin 64 → Fin 128 → EReal
  at_ : Fin 256 → Fin 64 → Fin 64 → EReal
  qd : Fin 256 → Fin 64 → Fin 128 → EReal
  kd : Fin 256 → Fin 64 → Fin 128 → EReal
  gm : Fin 256 → Fin 128 → EReal
  gate : Fin 4096 → Fin 4 → Fin 128 → EReal
  og : Fin 128 → EReal

/-- The four heads' entries of chunk `n`. -/
def cut {α : Type} (f : Fin 256 → α) (n : ℕ) (h : Fin 4) : α := f ⟨(4 * n + h.val) % 256, by omega⟩

/-- The state before chunk `n`. -/
def chain (A : Args) : ℕ → State
  | 0 => fun _ _ _ => 0
  | n + 1 => next (chain A n) (cut A.w n) (cut A.u n) (cut A.gm n) (cut A.kd n)

/-- The output of chunk `n`. -/
def out (A : Args) (n : ℕ) : Rows :=
  output (chain A n) (cut A.qd n) (cut A.at_ n) (fresh (chain A n) (cut A.w n) (cut A.u n))

/-- The gated output of a token, its four heads side by side. -/
def rowOut (A : Args) (i : Fin 4096) (j : Fin 512) : EReal :=
  gated (out A (i.val / 64) ⟨j.val / 128, by omega⟩ ⟨i.val % 64, by omega⟩) A.og (A.gate i ⟨j.val / 128, by omega⟩) ⟨j.val % 128, by omega⟩

/-- The state before a chunk, a head of a chunk at a time. -/
def stateAt (A : Args) (i : Fin 256) (j k : Fin 128) : EReal := chain A (i.val / 4) ⟨i.val % 4, by omega⟩ j k

end Cert.Scan

end
-- ==== Proof.FfnReal.lean ====
/-
  The feed-forward block with its loss and its gradients, one token at a time over the real numbers, and the facts that
  carry extended-real arithmetic on finite values over to the reals.
-/
module

public import Idealize.ShloMosaic.Lib.IdealHost
public import Idealize.ShloMosaic.Lib.Pointwise

@[expose] public section

noncomputable section

open Idealize.ShloMosaic

namespace Cert.Ffn

/-- An array of real numbers, read as one of extended reals. -/
def co {s : Shape} (f : s.Idx → ℝ) : s.Idx → EReal := fun i => (f i : EReal)

/-- The constant added under each root. -/
def eps : ℝ := 8796093 / 8796093022208

/-- The two gains and the three weights. -/
structure Params where
  gp : Fin 1024 → ℝ
  gq : Fin 1024 → ℝ
  wg : Fin 1024 → Fin 2816 → ℝ
  wu : Fin 1024 → Fin 2816 → ℝ
  wd : Fin 2816 → Fin 1024 → ℝ

/-- The mean square of a row, with the constant. -/
def ms (y : Fin 1024 → ℝ) : ℝ := (∑ k, y k * y k) * (1 / 1024) + eps

/-- One over the root of it. -/
def rs (y : Fin 1024 → ℝ) : ℝ := (√(ms y))⁻¹

/-- A row divided by its root mean square. -/
def nrm (y : Fin 1024 → ℝ) (j : Fin 1024) : ℝ := y j * rs y

/-- The gradient through that division. -/
def back (y d : Fin 1024 → ℝ) (j : Fin 1024) : ℝ :=
  rs y * (d j - nrm y j * ((∑ k, d k * nrm y k) * (1 / 1024)))

/-- The logistic function, by the hyperbolic tangent. -/
def sg (z : ℝ) : ℝ := 1 / 2 * Real.tanh (1 / 2 * z) + 1 / 2

variable (p : Params) (x t : Fin 1024 → ℝ)

def hid (j : Fin 1024) : ℝ := nrm x j * p.gp j
def gate (j : Fin 2816) : ℝ := ∑ k, hid p x k * p.wg k j
def up (j : Fin 2816) : ℝ := ∑ k, hid p x k * p.wu k j
def act (j : Fin 2816) : ℝ := gate p x j * sg (gate p x j) * up p x j
def out (j : Fin 1024) : ℝ := ∑ k, act p x k * p.wd k j
def err (j : Fin 1024) : ℝ := x j + nrm (out p x) j * p.gq j - t j
def dy (j : Fin 1024) : ℝ := err p x t j * (1 / 1024)
def dn (j : Fin 1024) : ℝ := dy p x t j * p.gq j
def dout (j : Fin 1024) : ℝ := back (out p x) (dn p x t) j
def dact (j : Fin 2816) : ℝ := ∑ k, dout p x t k * p.wd j k
def dup (j : Fin 2816) : ℝ := dact p x t j * gate p x j * sg (gate p x j)
def dgate (j : Fin 2816) : ℝ :=
  dact p x t j * up p x j * (sg (gate p x j) * (1 + gate p x j * (1 - sg (gate p x j))))
def dhid (j : Fin 1024) : ℝ := (∑ k, dgate p x t k * p.wg j k) + ∑ k, dup p x t k * p.wu j k
def dx (j : Fin 1024) : ℝ := dy p x t j + back x (fun k => dhid p x t k * p.gp k) j
/-- Twice a token's loss. -/
def sq : ℝ := (∑ k, err p x t k * err p x t k) * (1 / 1024)
/-- A token's part of the gradient of the second gain. -/
def dgq (j : Fin 1024) : ℝ := dy p x t j * nrm (out p x) j
/-- A token's part of the gradient of the first gain. -/
def dgp (j : Fin 1024) : ℝ := dhid p x t j * nrm x j

/-- The lower and the upper half of the hidden positions. -/
def lo (k : Fin 1408) : Fin 2816 := ⟨k.val, by omega⟩
def hi (k : Fin 1408) : Fin 2816 := ⟨1408 + k.val, by omega⟩

theorem sum_halves (f : Fin 2816 → ℝ) : ∑ k, f k = (∑ k, f (lo k)) + ∑ k, f (hi k) := by
  rw [Fin.sum_univ_two_halves 1408 1408 rfl]
  rfl

theorem ms_pos (y : Fin 1024 → ℝ) : 0 < ms y := by
  unfold ms eps
  have : 0 ≤ ∑ k, y k * y k := Finset.sum_nonneg fun k _ => mul_self_nonneg (y k)
  positivity

theorem rsqrt_ms (y : Fin 1024 → ℝ) : Ideal.rsqrt ((ms y : ℝ) : EReal) = ((rs y : ℝ) : EReal) := by
  have h := ms_pos y
  rw [Ideal.rsqrt_coe, if_neg (not_lt.mpr h.le), if_neg h.ne']
  rfl

theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem mul_co (a b : ℝ) : (a : EReal) * (b : EReal) = ((a * b : ℝ) : EReal) := (EReal.coe_mul a b).symm
theorem add_co (a b : ℝ) : (a : EReal) + (b : EReal) = ((a + b : ℝ) : EReal) := (EReal.coe_add a b).symm
theorem sub_co (a b : ℝ) : (a : EReal) - (b : EReal) = ((a - b : ℝ) : EReal) := (EReal.coe_sub a b).symm

theorem c_half : Ideal.ofBits .f32 0x3F000000#32 = ((1 / 2 : ℝ) : EReal) := by
  simp [Ideal.ofBits, Ideal.ieee, -EReal.coe_mul]; norm_num
theorem c_neg_half : Ideal.ofBits .f32 0xBF000000#32 = ((-(1 / 2) : ℝ) : EReal) := by
  simp [Ideal.ofBits, Ideal.ieee, -EReal.coe_mul]; norm_num
theorem c_one : Ideal.ofBits .f32 0x3F800000#32 = ((1 : ℝ) : EReal) := by
  simp [Ideal.ofBits, Ideal.ieee, -EReal.coe_mul]; norm_num
theorem c_two : Ideal.ofBits .f32 0x40000000#32 = ((2 : ℝ) : EReal) := by
  simp [Ideal.ofBits, Ideal.ieee, -EReal.coe_mul]; norm_num
theorem c_1024 : Ideal.ofBits .f32 0x44800000#32 = ((1024 : ℝ) : EReal) := by
  simp [Ideal.ofBits, Ideal.ieee, -EReal.coe_mul]; norm_num
theorem c_1024_inv : Ideal.ofBits .f32 0x3A800000#32 = ((1 / 1024 : ℝ) : EReal) := by
  simp [Ideal.ofBits, Ideal.ieee, -EReal.coe_mul]; norm_num
theorem c_eps : Ideal.ofBits .f32 0x358637BD#32 = ((eps : ℝ) : EReal) := by
  simp [Ideal.ofBits, Ideal.ieee, -EReal.coe_mul, eps]; norm_num

theorem div_1024 (y : ℝ) : Ideal.div (y : EReal) ((1024 : ℝ) : EReal) = ((y * (1 / 1024) : ℝ) : EReal) := by
  rw [Ideal.div_coe (by norm_num : (1024 : ℝ) ≠ 0), EReal.coe_mul]

theorem div_real (y : ℝ) {z : ℝ} (h : z ≠ 0) : Ideal.div (y : EReal) (z : EReal) = ((y * (1 / z) : ℝ) : EReal) := by
  rw [Ideal.div_coe h, EReal.coe_mul]

theorem one_add_exp_ne (z : ℝ) : (1 : ℝ) + Real.exp z ≠ 0 := (add_pos one_pos (Real.exp_pos z)).ne'

/-- The logistic function by the exponential. -/
theorem sg_eq (z : ℝ) : 1 * (1 / (1 + Real.exp (-z))) = sg z := by
  have h1 : Real.exp (-z) = Real.exp (-(1 / 2 * z)) * Real.exp (-(1 / 2 * z)) := by rw [← Real.exp_add]; ring_nf
  have h2 : Real.exp (1 / 2 * z) * Real.exp (-(1 / 2 * z)) = 1 := by rw [← Real.exp_add]; simp
  have hp := Real.exp_pos (-(1 / 2 * z))
  have hq := Real.exp_pos (1 / 2 * z)
  rw [sg, Real.tanh_eq_sinh_div_cosh, Real.sinh_eq, Real.cosh_eq, h1]
  generalize Real.exp (-(1 / 2 * z)) = b at *
  generalize Real.exp (1 / 2 * z) = a at *
  have hab : a + b ≠ 0 := by positivity
  have hbb : 1 + b * b ≠ 0 := by positivity
  field_simp
  linear_combination (-2 * b) * h2

/-- The gradient through a row's division, summand by summand. -/
theorem back_eq (y d : Fin 1024 → ℝ) (j : Fin 1024) :
    d j * rs y + y j * ((∑ k, y k * d k) * (-(1 / 2) * (rs y * (1 / ms y))) * (1 / 1024))
      + ((∑ k, y k * d k) * (-(1 / 2) * (rs y * (1 / ms y))) * (1 / 1024)) * y j = back y d j := by
  have hr : 1 / ms y = rs y * rs y := by
    rw [rs, ← mul_inv, Real.mul_self_sqrt (ms_pos y).le, one_div]
  have hs : ∑ k, d k * nrm y k = (∑ k, y k * d k) * rs y := by
    rw [Finset.sum_mul]
    exact Finset.sum_congr rfl fun k _ => by rw [nrm]; ring
  rw [back, hs, hr, nrm]
  ring

end Cert.Ffn

end
-- ==== Proof.ScanPay.lean ====
/-
  The scan kernel's operations on the arrays of `Scan`.
-/
module

public import proofs.«01_k».proof.Proof.Gen.KernelFIdeal.Frame
public import proofs.«01_k».proof.Proof.Gen.KernelFIdeal.Value
public import proofs.«01_k».proof.Proof.Scan
public import proofs.«01_k».proof.Proof.FfnReal
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelFIdeal.Value

open Cert.KernelFIdeal Cert.KernelFIdeal.Gen Cert.Scan

theorem cast_id {s : Shape} (x : FVec Ideal s .f32) (h) : (truncf .bf16 x h : s.Idx → EReal) = x := rfl

theorem zeros : k0_pay2 (F := Ideal) = a3 fun _ _ _ => 0 := by
  funext j
  pointwise [k0_pay2, a3]

theorem mm_through (w : Rows) (S : State) :
    matmul (F := Ideal) (φ₁ := .bf16) (φ₂ := .bf16) dot_S4x64x128_S4x128x128_S4x64x128_2_1_1_2_0_0 none (a3 w) (a3 S)
      (constant S4x64x128 .f32 0x00000000#32) = a3 (through w S) := by
  funext j
  pointwise [a3, through]

theorem mm_outer (k v : Rows) :
    matmul (F := Ideal) (φ₁ := .bf16) (φ₂ := .bf16) dot_S4x64x128_S4x64x128_S4x128x128_1_1_2_2_0_0 none (a3 k) (a3 v)
      (constant S4x128x128 .f32 0x00000000#32) = a3 (outer k v) := by
  funext j
  pointwise [a3, outer]

theorem mm_within (p : Fin 4 → Fin 64 → Fin 64 → EReal) (v : Rows) :
    matmul (F := Ideal) (φ₁ := .bf16) (φ₂ := .bf16) dot_S4x64x64_S4x64x128_S4x64x128_2_1_1_2_0_0 none (a3 p) (a3 v)
      (constant S4x64x128 .f32 0x00000000#32) = a3 (within p v) := by
  funext j
  pointwise [a3, within]

theorem sub_through (S : State) (w u : Rows) : subf (F := Ideal) (s := S4x64x128) (φ := .f32) (a3 u) (a3 (through w S)) = a3 (fresh S w u) := rfl

theorem mul_lane (S : State) (g : Fin 4 → Fin 128 → EReal) :
    mulf (F := Ideal) (s := S4x128x128) (φ := .f32) (a3 S) (broadcastTo S4x128x128 (lane g) broadcasts_S4x1x128_S4x128x128) = a3 (decay S g) := by
  funext j
  pointwise [a3, lane, decay]

theorem add_outer (S : State) (w u : Rows) (g : Fin 4 → Fin 128 → EReal) (k : Rows) :
    addf (F := Ideal) (s := S4x128x128) (φ := .f32) (a3 (decay S g)) (a3 (outer k (fresh S w u))) = a3 (next S w u g k) := rfl

theorem add_within (S : State) (q : Rows) (p : Fin 4 → Fin 64 → Fin 64 → EReal) (v : Rows) :
    addf (F := Ideal) (s := S4x64x128) (φ := .f32) (a3 (through q S)) (a3 (within p v)) = a3 (output S q p v) := rfl

theorem same3 {n a b : ℕ} (f : Fin n → Fin a → Fin b → EReal) (h : (⟨3, ![n, a, b]⟩ : Shape).ShapeCasts ⟨3, ![n, a, b]⟩) :
    shapeCast (⟨3, ![n, a, b]⟩ : Shape) (a3 f) h = a3 f := by
  funext j
  pointwise [a3]

/-- The logistic function by the hyperbolic tangent of the half. -/
theorem half_tanh (x : EReal) : Ideal.ofBits .f32 0x3F000000#32 * Ideal.tanh (Ideal.ofBits .f32 0x3F000000#32 * x)
    + Ideal.ofBits .f32 0x3F000000#32 = sigm x := by
  rw [Ffn.c_half, show sigm x = Ideal.logistic x from rfl]
  induction x using EReal.rec with
  | bot =>
    rw [EReal.coe_mul_bot_of_pos (by norm_num), Ideal.tanh_bot, Ideal.logistic_bot, ← EReal.coe_one, ← EReal.coe_neg,
      ← EReal.coe_mul, ← EReal.coe_add]
    norm_num
  | coe r =>
    rw [← EReal.coe_mul, Ideal.tanh_coe, Ideal.logistic_coe, ← EReal.coe_mul, ← EReal.coe_add]
    refine congrArg (fun r : ℝ => (r : EReal)) ((Ffn.sg_eq r).symm.trans ?_)
    rw [one_mul, one_div]
  | top =>
    rw [EReal.coe_mul_top_of_pos (by norm_num), Ideal.tanh_top, Ideal.logistic_top, ← EReal.coe_one,
      ← EReal.coe_mul, ← EReal.coe_add]
    norm_num

/-- One head of an output. -/
theorem head (o : Rows) (n : ℕ) (hn : n < 4) (h) (hc) :
    shapeCast S64x128 (extractStridedSlice S1x64x128 ![n, 0, 0] (a3 o) h) hc = a2 (o ⟨n, hn⟩) := by
  funext j
  pointwise [a3, a2]

/-- A head's rows, normalised and gated. -/
theorem gated_head (x g : Fin 64 → Fin 128 → EReal) (og : Fin 128 → EReal) :
    k0_pay44 (F := Ideal) (gains og) (a2 x) (a2 g) (mulf (a2 x) (a2 x)) = a2 fun i => gated (x i) og (g i) := by
  funext j
  pointwise [k0_pay44, a2, gains, gated, scale]
  rw [half_tanh]

end Cert.KernelFIdeal.Value

end
-- ==== Proof.ScanBlocks.lean ====
/-
  What the scan's grid points read: the rows of their eight chunks.
-/
module

public import proofs.«01_k».proof.Proof.ScanPay
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelFIdeal.Value

open Cert.KernelFIdeal Cert.KernelFIdeal.Gen Cert.Scan

variable (m : (ℓ : Loc nD τ sig) → Buf (Elt Ideal) ℓ)

/-- The arrays a chip holds at launch; of the weights only the lower triangle counts, of `proj` the fourth block of columns. -/
def args (c : Dev nD) : Args where
  u n r k := (m ((c : Thread nD τ).loc main_arg0) : S256x64x128.Idx → EReal) (ix3 n r k)
  w n r k := (m ((c : Thread nD τ).loc main_arg1) : S256x64x128.Idx → EReal) (ix3 n r k)
  at_ n r s := if s ≤ r then (m ((c : Thread nD τ).loc main_arg2) : S256x64x64.Idx → EReal) (ix3 n r s) else 0
  qd n r k := (m ((c : Thread nD τ).loc main_arg3) : S256x64x128.Idx → EReal) (ix3 n r k)
  kd n r k := (m ((c : Thread nD τ).loc main_arg4) : S256x64x128.Idx → EReal) (ix3 n r k)
  gm n k := (m ((c : Thread nD τ).loc main_arg5) : S256x1x128.Idx → EReal) (ix3 n 0 k)
  gate t h k := (m ((c : Thread nD τ).loc main_arg6) : S4096x3712.Idx → EReal) (ix2 t ⟨1536 + 128 * h.val + k.val, by omega⟩)
  og k := (m ((c : Thread nD τ).loc main_arg7) : S1x128.Idx → EReal) (ix2 0 k)

theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_5.index t = ![t.val, 0, 0] ∧ win0_6.index t = ![t.val, 3] ∧ win0_7.index t = ![0, 0] ∧ t.val < 8 :=
  (by decide +kernel : ∀ t : Fin grid0.N, _)

variable (c : Dev nD) (t : Fin cfg0.N)

/-- A choice between two indices' order. -/
theorem select_ge {i j : ℕ} (hi : i < 64) (hj : j < 64) (x y : EReal) :
    Scalar.select (IntOp.cmpi CmpIPredicate.sge (BitVec.ofNat 32 i) (BitVec.ofNat 32 j)) x y = if j ≤ i then x else y := by
  rw [WordCmp.cmpi_sge_ofNat (by norm_num; omega) (by norm_num; omega)]
  by_cases h : j ≤ i <;> simp [h, Scalar.select]

/-- The weights as the region finds them: the upper triangle cleared. -/
theorem lowered : (V m c main_v6 : S256x64x64.Idx → EReal) = a3 (args m c).at_ := by
  refine funext fun (j : S256x64x64.Idx) => ?_
  unfold V
  after_reads_at
  rw [select_ge (j 1).isLt (j 2).isLt, eq_ix3 j]
  congr 1
  exact Ideal.ofBits_zero .f32

theorem ldU (o : ℕ) (h) (e : o % 4 = 0) : @View.ld (Elt Ideal) S32x64x128 .f32 (iblk m c 0 t) (Rect.unit ![o, 0, 0] ![4, 64, 128] h)
    = a3 (cut (args m c).u (8 * t.val + o / 4)) := by
  funext j
  have hi := (idx t).2.2.2.2.2.2.2.2
  have h0 : (j 0).val < 4 := (j 0).isLt
  have ho : o + 4 ≤ 32 := h 0
  have e1 : (4 * (8 * t.val + o / 4) + (j 0).val) % 256 = 32 * t.val + o + (j 0).val := by omega
  simp only [a3, cut, args, e1]
  blk_point [iblk, V, idx t]

theorem ldW (o : ℕ) (h) (e : o % 4 = 0) : @View.ld (Elt Ideal) S32x64x128 .f32 (iblk m c 1 t) (Rect.unit ![o, 0, 0] ![4, 64, 128] h)
    = a3 (cut (args m c).w (8 * t.val + o / 4)) := by
  funext j
  have hi := (idx t).2.2.2.2.2.2.2.2
  have h0 : (j 0).val < 4 := (j 0).isLt
  have ho : o + 4 ≤ 32 := h 0
  have e1 : (4 * (8 * t.val + o / 4) + (j 0).val) % 256 = 32 * t.val + o + (j 0).val := by omega
  simp only [a3, cut, args, e1]
  blk_point [iblk, V, idx t]

theorem ldQ (o : ℕ) (h) (e : o % 4 = 0) : @View.ld (Elt Ideal) S32x64x128 .f32 (iblk m c 3 t) (Rect.unit ![o, 0, 0] ![4, 64, 128] h)
    = a3 (cut (args m c).qd (8 * t.val + o / 4)) := by
  funext j
  have hi := (idx t).2.2.2.2.2.2.2.2
  have h0 : (j 0).val < 4 := (j 0).isLt
  have ho : o + 4 ≤ 32 := h 0
  have e1 : (4 * (8 * t.val + o / 4) + (j 0).val) % 256 = 32 * t.val + o + (j 0).val := by omega
  simp only [a3, cut, args, e1]
  blk_point [iblk, V, idx t]

theorem ldK (o : ℕ) (h) (e : o % 4 = 0) : @View.ld (Elt Ideal) S32x64x128 .f32 (iblk m c 4 t) (Rect.unit ![o, 0, 0] ![4, 64, 128] h)
    = a3 (cut (args m c).kd (8 * t.val + o / 4)) := by
  funext j
  have hi := (idx t).2.2.2.2.2.2.2.2
  have h0 : (j 0).val < 4 := (j 0).isLt
  have ho : o + 4 ≤ 32 := h 0
  have e1 : (4 * (8 * t.val + o / 4) + (j 0).val) % 256 = 32 * t.val + o + (j 0).val := by omega
  simp only [a3, cut, args, e1]
  blk_point [iblk, V, idx t]

theorem ldG (o : ℕ) (h) (e : o % 4 = 0) : @View.ld (Elt Ideal) S32x1x128 .f32 (iblk m c 5 t) (Rect.unit ![o, 0, 0] ![4, 1, 128] h)
    = lane (cut (args m c).gm (8 * t.val + o / 4)) := by
  funext j
  have hi := (idx t).2.2.2.2.2.2.2.2
  have h0 : (j 0).val < 4 := (j 0).isLt
  have ho : o + 4 ≤ 32 := h 0
  have e1 : (4 * (8 * t.val + o / 4) + (j 0).val) % 256 = 32 * t.val + o + (j 0).val := by omega
  simp only [lane, cut, args, e1]
  blk_point [iblk, V, idx t]

theorem ldA (o : ℕ) (h) (e : o % 4 = 0) : @View.ld (Elt Ideal) S32x64x64 .f32 (iblk m c 2 t) (Rect.unit ![o, 0, 0] ![4, 64, 64] h)
    = a3 (cut (args m c).at_ (8 * t.val + o / 4)) := by
  funext j
  have hi := (idx t).2.2.2.2.2.2.2.2
  have h0 : (j 0).val < 4 := (j 0).isLt
  have ho : o + 4 ≤ 32 := h 0
  have e1 : (4 * (8 * t.val + o / 4) + (j 0).val) % 256 = 32 * t.val + o + (j 0).val := by omega
  have hl : (V m c (Pipeline.arrRef spec0 2) : S256x64x64.Idx → EReal) = a3 (args m c).at_ := lowered m c
  refine Eq.trans (b := a3 (args m c).at_ (ix3 ⟨32 * t.val + o + (j 0).val, by omega⟩ ⟨(j 1).val, (j 1).isLt⟩ ⟨(j 2).val, (j 2).isLt⟩)) ?_ (by
    simp only [a3, cut, e1]
    rfl)
  unfold iblk
  rw [hl]
  generalize a3 (args m c).at_ = X
  show X (((cfg0.win 2).blk t).view.emb ((Rect.unit ![o, 0, 0] ![4, 64, 64] h).emb j)) = _
  blk_point [idx t]

/-- The gate's block: token `512 t + r`, of the four heads' columns. -/
theorem ldGate (r o : ℕ) (h) (er : r % 64 = 0) (eo : o % 128 = 0) :
    @View.ld (Elt Ideal) S512x512 .f32 (X0_6 m c t) (Rect.unit ![r, o] ![64, 128] h)
      = a2 fun i k => (args m c).gate ⟨(64 * (8 * t.val + r / 64) + i.val) % 4096, by omega⟩ ⟨(o / 128) % 4, by omega⟩ k := by
  funext j
  have hi := (idx t).2.2.2.2.2.2.2.2
  have h0 : (j 0).val < 64 := (j 0).isLt
  have h1 : (j 1).val < 128 := (j 1).isLt
  have hr : r + 64 ≤ 512 := h 0
  have ho : o + 128 ≤ 512 := h 1
  have e0 : (64 * (8 * t.val + r / 64) + (j 0).val) % 4096 = 512 * t.val + r + (j 0).val := by omega
  have e1 : 1536 + 128 * ((o / 128) % 4) + (j 1).val = 1536 + o + (j 1).val := by omega
  simp only [a2, args, e0, e1]
  show X0_6 m c t ((Rect.unit ![r, o] ![64, 128] h).emb j) = _
  unfold X0_6 Pipeline.Window.fill
  rw [dif_pos (moved0_6 t _)]
  blk_point [iblk, V, idx t]

/-- The norm's gains. -/
theorem ldOg : (iblk m c 7 t : S1x128.Idx → EReal) = gains (args m c).og := by
  funext j
  simp only [gains, args]
  blk_point [iblk, V, idx t]

end Cert.KernelFIdeal.Value

end
-- ==== Proof.ScanKernel.lean ====
/-
  What the scan's grid points leave: the states and the gated outputs of their eight chunks.
-/
module

public import proofs.«01_k».proof.Proof.ScanBlocks
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelFIdeal.Value

open Cert.KernelFIdeal Cert.KernelFIdeal.Gen Cert.Scan

variable (m : (ℓ : Loc nD τ sig) → Buf (Elt Ideal) ℓ) (c : Dev nD) (t : Fin cfg0.N)

theorem next_chain (A : Args) (n k : ℕ) :
    next (chain A (n + k)) (cut A.w (n + k)) (cut A.u (n + k)) (cut A.gm (n + k)) (cut A.kd (n + k)) = chain A (n + (k + 1)) := rfl

theorem out_chain (A : Args) (n : ℕ) :
    output (chain A n) (cut A.qd n) (cut A.at_ n) (fresh (chain A n) (cut A.w n) (cut A.u n)) = out A n := rfl

/-- The first point starts from a state of zeros. -/
theorem start (h0 : t.val % 8 = 0) : (a3 (chain (args m c) (8 * t.val + 0)) : S4x128x128.Idx → EReal) = k0_pay2 (F := Ideal) := by
  have ht : t.val = 0 := by have := (idx t).2.2.2.2.2.2.2.2; omega
  rw [zeros, ht]
  rfl

set_option maxHeartbeats 4000000 in
theorem carry (hp : ¬t.val % 8 = 0 →
    ∀ h, ((outsAt0 m c (t.val - 1) h).2.2 : S4x128x128.Idx → EReal) = a3 (chain (args m c) (8 * t.val + 0))) :
    ((outsAt0 m c t.val t.isLt).2.2 : S4x128x128.Idx → EReal) = a3 (chain (args m c) (8 * t.val + 8)) := by
  by_cases h0 : t.val % 8 = 0
  on_goal 1 =>
    rw [outsAt0_A m c t h0]
    frame_out
    simp only [← start m c t h0]
  on_goal 2 =>
    rw [outsAt0_B m c t h0]
    frame_out
    simp only [read_unread_whole, hp h0]
  all_goals
    simp (disch := decide) only [ldU, ldW, ldK, ldG, Nat.reduceDiv]
    simp only [k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, cast_id, mm_through, sub_through, mul_lane, mm_outer, add_outer,
    next_chain, Nat.reduceAdd, same3]

theorem entry : ∀ n : ℕ, ∀ t : Fin cfg0.N, t.val = n → ¬t.val % 8 = 0 →
    ∀ h, ((outsAt0 m c (t.val - 1) h).2.2 : S4x128x128.Idx → EReal) = a3 (chain (args m c) (8 * t.val + 0))
  | 0, t, e, h0, _ => absurd (by rw [e]) h0
  | n + 1, t, e, h0, h => by
    have hn : t.val - 1 = n := by omega
    have h' : t.val = (t.val - 1) + 1 := by omega
    refine (carry m c ⟨t.val - 1, h⟩ (entry n ⟨t.val - 1, h⟩ hn)).trans ?_
    show a3 (chain (args m c) (8 * (t.val - 1) + 8)) = _
    rw [show 8 * (t.val - 1) + 8 = 8 * t.val + 0 by omega]

/-- A piece of the states: the four heads of chunk `8 n + k`. -/
theorem state_piece (A : Args) {n k : ℕ} (hn : n < 8) {i : Fin 4} {i' : Fin 32} {a a' b b' : Fin 128} (h0 : i'.val = 4 * k + i.val)
    (h1 : a'.val = a.val) (h2 : b'.val = b.val) :
    chain A (8 * n + k) i a b = stateAt A ⟨(32 * n + i'.val) % 256, by omega⟩ a' b' := by
  have e1 : (32 * n + i'.val) % 256 / 4 = 8 * n + k := by omega
  have e2 : (32 * n + i'.val) % 256 % 4 = i.val := by omega
  simp only [stateAt, e1, e2]
  rw [Fin.ext h1, Fin.ext h2]

set_option maxHeartbeats 4000000 in
theorem states : ((outsAt0 m c t.val t.isLt).2.1 : S32x128x128.Idx → EReal)
    = a3 fun i j k => stateAt (args m c) ⟨(32 * t.val + i.val) % 256, by omega⟩ j k := by
  have hp := entry m c t.val t rfl
  have ht := (idx t).2.2.2.2.2.2.2.2
  by_cases h0 : t.val % 8 = 0
  on_goal 1 =>
    rw [outsAt0_A m c t h0]
    frame_out
    simp only [← start m c t h0]
  on_goal 2 =>
    rw [outsAt0_B m c t h0]
    frame_out
    simp only [read_unread_whole, hp h0]
  all_goals
    simp (disch := decide) only [ldU, ldW, ldK, ldG, Nat.reduceDiv]
    simp only [k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, cast_id, mm_through, sub_through, mul_lane, mm_outer, add_outer,
    next_chain, Nat.reduceAdd, same3]
    clear h0
    funext y
    canon_tiles x h
  all_goals exact state_piece _ ht (by omega) h1 h2

/-- A piece of the outputs: head `h` of chunk `8 n + k`. -/
theorem out_piece (A : Args) {n k h : ℕ} (hn : n < 8) (hh : h < 4) {i : Fin 64} {i' : Fin 512} {j : Fin 128} {j' : Fin 512}
    (h0 : i'.val = 64 * k + i.val) (h1 : j'.val = 128 * h + j.val) {q : Fin 4096} (hq : q.val = (64 * (8 * n + k) + i.val) % 4096) :
    gated (out A (8 * n + k) ⟨h, hh⟩ i) A.og (A.gate q ⟨h, hh⟩) j = rowOut A ⟨(512 * n + i'.val) % 4096, by omega⟩ j' := by
  have e0 : q = ⟨(512 * n + i'.val) % 4096, by omega⟩ := Fin.ext (by show q.val = (512 * n + i'.val) % 4096; omega)
  have e1 : (512 * n + i'.val) % 4096 / 64 = 8 * n + k := by omega
  have e2 : (⟨(512 * n + i'.val) % 4096 % 64, by omega⟩ : Fin 64) = i := Fin.ext (by show (512 * n + i'.val) % 4096 % 64 = i.val; omega)
  have e3 : (⟨j'.val / 128, by omega⟩ : Fin 4) = ⟨h, hh⟩ := Fin.ext (by show j'.val / 128 = h; omega)
  have e4 : (⟨j'.val % 128, by omega⟩ : Fin 128) = j := Fin.ext (by show j'.val % 128 = j.val; omega)
  simp only [rowOut, e1, e2, e3, e4, e0]

set_option maxHeartbeats 4000000 in
theorem outs : ((outsAt0 m c t.val t.isLt).1 : S512x512.Idx → EReal)
    = a2 fun i j => rowOut (args m c) ⟨(512 * t.val + i.val) % 4096, by omega⟩ j := by
  have hp := entry m c t.val t rfl
  have hg := gated_head
  simp only [k0_pay44] at hg
  have ht := (idx t).2.2.2.2.2.2.2.2
  by_cases h0 : t.val % 8 = 0
  on_goal 1 =>
    rw [outsAt0_A m c t h0]
    frame_out
    simp only [← start m c t h0]
  on_goal 2 =>
    rw [outsAt0_B m c t h0]
    frame_out
    simp only [read_unread_whole, hp h0]
  all_goals
    simp (disch := decide) only [ldU, ldW, ldK, ldG, ldA, ldQ, ldOg, ldGate, Nat.reduceDiv]
    simp only [k0_pay3, k0_pay4, k0_pay5, k0_pay6, k0_pay7, k0_pay8, k0_pay9, k0_pay10, k0_pay11, k0_pay12, k0_pay13, k0_pay14,
    k0_pay15, k0_pay16, k0_pay17, k0_pay18, k0_pay19, k0_pay20, k0_pay21, k0_pay22, k0_pay23, k0_pay24, k0_pay25,
    k0_pay26, k0_pay27, k0_pay28, k0_pay29, k0_pay30, k0_pay31, k0_pay32, k0_pay33, k0_pay34, k0_pay35, k0_pay36,
    k0_pay37, k0_pay38, k0_pay39, k0_pay40, k0_pay41, cast_id, mm_through, sub_through, mul_lane, mm_outer, add_outer,
    next_chain, Nat.reduceAdd, same3,
    mm_within, add_within, out_chain]
    simp (disch := decide) only [k0_pay42, k0_pay43, k0_pay44, k0_pay45, k0_pay46, k0_pay47, k0_pay48, k0_pay49, k0_pay50, k0_pay51, k0_pay52,
    k0_pay53, k0_pay54, k0_pay55, k0_pay56, k0_pay57, k0_pay58, k0_pay59, k0_pay60, k0_pay61, k0_pay62, k0_pay63,
    k0_pay64, k0_pay65, k0_pay66, k0_pay67, k0_pay68, k0_pay69, k0_pay70, k0_pay71, k0_pay72, k0_pay73, k0_pay74,
    k0_pay75, k0_pay76, k0_pay77, k0_pay78, k0_pay79, k0_pay80, k0_pay81, k0_pay82, k0_pay83, k0_pay84, k0_pay85,
    k0_pay86, k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105, k0_pay106,
    k0_pay107, k0_pay108, k0_pay109, k0_pay110, k0_pay111, k0_pay112, k0_pay1, head, hg]
    clear h0
    funext y
    canon_tiles x h
  all_goals
    simp only [a2]
    exact out_piece _ ht (by decide) (by omega) (by omega) rfl

theorem odx : ∀ t : Fin cfg0.N, win0_8.index t = ![t.val, 0] ∧ win0_9.index t = ![t.val, 0, 0] :=
  (by decide +kernel : ∀ t : Fin grid0.N, _)

/-- Blocks of rows, laid one after the other, make up the array of outputs. -/
theorem covered8 (X : S4096x512.Idx → EReal) (hX : ∀ t : Fin cfg0.N, ((outsAt0 m c t.val t.isLt).1 : S512x512.Idx → EReal)
    = a2 fun i j => X (ix2 ⟨(512 * t.val + i.val) % 4096, by omega⟩ j)) : (dats m 0 c).arrAt 8 (cfgs 0).N = X := by
  refine (dats m 0 c).arrAt_eq_of_covers 8 _ (by decide +kernel) fun t hf y => ?_
  blk_simp
  rw [after0_8, hX]
  have h := (odx t).1
  have ht := (idx t).2.2.2.2.2.2.2.2
  have hy : (y 0).val < 512 := (y 0).isLt
  have e : (512 * t.val + (y 0).val) % 4096 = 512 * t.val + (y 0).val := Nat.mod_eq_of_lt (by omega)
  refine Eq.trans (b := X (ix2 ⟨(512 * t.val + (y 0).val) % 4096, by omega⟩ (y 1))) rfl ?_
  simp only [e]
  blk_point [odx t]

/-- Blocks of matrices, laid one after the other, make up the array of states. -/
theorem covered9 (X : S256x128x128.Idx → EReal) (hX : ∀ t : Fin cfg0.N, ((outsAt0 m c t.val t.isLt).2.1 : S32x128x128.Idx → EReal)
    = a3 fun i j k => X (ix3 ⟨(32 * t.val + i.val) % 256, by omega⟩ j k)) : (dats m 0 c).arrAt 9 (cfgs 0).N = X := by
  refine (dats m 0 c).arrAt_eq_of_covers 9 _ (by decide +kernel) fun t hf y => ?_
  blk_simp
  rw [after0_9, hX]
  have h := (odx t).2
  have ht := (idx t).2.2.2.2.2.2.2.2
  have hy : (y 0).val < 32 := (y 0).isLt
  have e : (32 * t.val + (y 0).val) % 256 = 32 * t.val + (y 0).val := Nat.mod_eq_of_lt (by omega)
  refine Eq.trans (b := X (ix3 ⟨(32 * t.val + (y 0).val) % 256, by omega⟩ (y 1) (y 2))) rfl ?_
  simp only [e]
  blk_point [odx t]

/-- The gated outputs. -/
theorem outs_all : (dats m 0 c).arrAt 8 (cfgs 0).N = (fun i => rowOut (args m c) (i 0) (i 1) : S4096x512.Idx → EReal) :=
  covered8 m c _ fun t => outs m c t

/-- The states before the chunks. -/
theorem states_all : (dats m 0 c).arrAt 9 (cfgs 0).N = (fun i => stateAt (args m c) (i 0) (i 1) (i 2) : S256x128x128.Idx → EReal) :=
  covered9 m c _ fun t => states m c t

/-- The kernel's run, its results named. -/
theorem run_named (g : Dev nD → PrngReg) : θ_run (defs (F := Ideal)) (onTc (τ := τ) (main (F := Ideal))) ⟨m, fun _ => 0, g⟩ fun r => ∀ c : Dev nD,
    r.2.mem ((c.tc : Thread nD τ).loc main_v7_0) = (fun i => rowOut (args m c) (i 0) (i 1) : S4096x512.Idx → EReal)
      ∧ r.2.mem ((c.tc : Thread nD τ).loc main_v7_1) = (fun i => stateAt (args m c) (i 0) (i 1) (i 2) : S256x128x128.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (outs_all m c), (h c).2.1.trans (states_all m c), (h c).2.2⟩) (run_blocks m g)

end Cert.KernelFIdeal.Value

end
-- ==== Proof.ScanRef.lean ====
/-
  The reference's loop over the chunks: what it carries after each chunk.
-/
module

public import proofs.«01_k».proof.Proof.Gen.RefFIdeal.Run
public import proofs.«01_k».proof.Proof.Scan
public import Idealize.ShloMosaic.Lib.DynamicIndex
public import Idealize.ShloMosaic.Lib.WordCmp
public import Idealize.ShloMosaic.Lib.ReduceAll
public import Idealize.ShloMosaic.Lib.IdealHost
public import Idealize.ShloMosaic.Lib.Pipeline.Value
public import Idealize.ShloMosaic.Lib.StableHlo.ReadAt
public import Idealize.ShloMosaic.Lib.Pointwise

@[expose] public section

set_option maxRecDepth 16384

noncomputable section

open Idealize.ShloMosaic Idealize.ShloMosaic.TcCoe Idealize.SL.Sem
open Idealize.ShloMosaic.StableHlo

namespace Cert.RefFIdeal.Value

open Cert.RefFIdeal Cert.RefFIdeal.Gen Cert.Scan

/-- Chunks and heads on two axes. -/
def a4 {a b : ℕ} (f : Fin 256 → Fin a → Fin b → EReal) : (⟨4, ![64, 4, a, b]⟩ : Shape).Idx → EReal :=
  fun i => f ⟨(4 * (i 0).val + (i 1).val) % 256, by omega⟩ (i 2) (i 3)

/-- Tokens by chunk, the four heads side by side. -/
def tokens (f : Fin 4096 → Fin 4 → Fin 128 → EReal) : S64x64x512.Idx → EReal :=
  fun i => f ⟨(64 * (i 0).val + (i 1).val) % 4096, by omega⟩ ⟨(i 2).val / 128 % 4, by omega⟩ ⟨(i 2).val % 128, by omega⟩

/-- What the loop holds before chunk `n`. -/
structure Carried (V : Valuation τ sig (Elt Ideal)) (A : Args) (p : Fin 256 → Fin 64 → Fin 64 → EReal) (n : ℕ) : Prop where
  u : (V (Proc.devRef .tc main_v11_0) : S64x4x64x128.Idx → EReal) = a4 A.u
  w : (V (Proc.devRef .tc main_v11_1) : S64x4x64x128.Idx → EReal) = a4 A.w
  at_ : (V (Proc.devRef .tc main_v11_2) : S64x4x64x64.Idx → EReal) = a4 p
  qd : (V (Proc.devRef .tc main_v11_3) : S64x4x64x128.Idx → EReal) = a4 A.qd
  kd : (V (Proc.devRef .tc main_v11_4) : S64x4x64x128.Idx → EReal) = a4 A.kd
  gm : (V (Proc.devRef .tc main_v11_5) : S64x4x1x128.Idx → EReal) = a4 fun n _ k => A.gm n k
  gate : (V (Proc.devRef .tc main_v11_6) : S64x64x512.Idx → EReal) = tokens A.gate
  og : (V (Proc.devRef .tc main_v11_7) : S1x128.Idx → EReal) = gains A.og
  ctr : V (Proc.devRef .tc main_v11_8) = fun _ => (BitVec.ofNat 32 n : BitVec 32)
  state : (V (Proc.devRef .tc main_v11_9) : S4x128x128.Idx → EReal) = a3 (chain A n)
  out : (V (Proc.devRef .tc main_v11_10) : S64x64x512.Idx → EReal) = fun i =>
    if (i 0).val < n then rowOut A ⟨(64 * (i 0).val + (i 1).val) % 4096, by omega⟩ (i 2) else 0
  states : (V (Proc.devRef .tc main_v11_11) : S64x4x128x128.Idx → EReal) = fun i =>
    if (i 0).val < n then stateAt A ⟨(4 * (i 0).val + (i 1).val) % 256, by omega⟩ (i 2) (i 3) else 0

/-- The start of a chunk's slice: its number, read signed, then zeros. -/
theorem start4 (n : ℕ) (hn : n < 64) (k : Fin 4) :
    (((![fun _ => (BitVec.ofNat 32 n : BitVec 32), constantI S_ 32 0#32, constantI S_ 32 0#32, constantI S_ 32 0#32] :
      Fin 4 → (⟨S_, .i32⟩ : BufTy).Contents (Elt Ideal))) k (Shape.Idx.first h_S_)).toInt = ((![n, 0, 0, 0] : Fin 4 → ℕ) k : ℤ) := by
  match k with
  | 0 => exact toInt_ofNat_of_lt (by omega)
  | 1 => rfl
  | 2 => rfl
  | 3 => rfl

theorem start3 (n : ℕ) (hn : n < 64) (k : Fin 3) :
    (((![fun _ => (BitVec.ofNat 32 n : BitVec 32), constantI S_ 32 0#32, constantI S_ 32 0#32] :
      Fin 3 → (⟨S_, .i32⟩ : BufTy).Contents (Elt Ideal))) k (Shape.Idx.first h_S_)).toInt = ((![n, 0, 0] : Fin 3 → ℕ) k : ℤ) := by
  match k with
  | 0 => exact toInt_ofNat_of_lt (by omega)
  | 1 => rfl
  | 2 => rfl

/-- The start of a chunk's slice of a stacked array. -/
abbrev at4 (n : ℕ) : Fin 4 → Int := fun k =>
  (((![fun _ => (BitVec.ofNat 32 n : BitVec 32), constantI S_ 32 0#32, constantI S_ 32 0#32, constantI S_ 32 0#32] :
    Fin 4 → (⟨S_, .i32⟩ : BufTy).Contents (Elt Ideal))) k (Shape.Idx.first h_S_)).toInt

/-- The start of a chunk's slice of the tokens. -/
abbrev at3 (n : ℕ) : Fin 3 → Int := fun k =>
  (((![fun _ => (BitVec.ofNat 32 n : BitVec 32), constantI S_ 32 0#32, constantI S_ 32 0#32] :
    Fin 3 → (⟨S_, .i32⟩ : BufTy).Contents (Elt Ideal))) k (Shape.Idx.first h_S_)).toInt

/-- A chunk of a stacked array. -/
theorem chunk (a b n : ℕ) (hn : n < 64) (f : Fin 256 → Fin a → Fin b → EReal)
    (hf : (⟨4, ![64, 4, a, b]⟩ : Shape).Slices (fun _ => 0) ⟨4, ![1, 4, a, b]⟩) :
    Host.dynamicSlice (⟨4, ![1, 4, a, b]⟩ : Shape) (a4 f) (at4 n) hf = fun i => cut f n (i 1) (i 2) (i 3) := by
  have hs : (⟨4, ![64, 4, a, b]⟩ : Shape).Slices ![n, 0, 0, 0] ⟨4, ![1, 4, a, b]⟩ := by
    refine ⟨hf.1, fun k => ?_⟩
    match k with
    | 0 => show n + 1 ≤ 64; omega
    | 1 => exact hf.2 1
    | 2 => exact hf.2 2
    | 3 => exact hf.2 3
  rw [Host.dynamicSlice_eq_extractStridedSlice _ _ _ ![n, 0, 0, 0] hf hs (start4 n hn)]
  refine funext fun (j : (⟨4, ![1, 4, a, b]⟩ : Shape).Idx) => ?_
  have j0 : (j 0).val < 1 := (j 0).isLt
  have e {k : Fin 256} {q : ℕ} (h : q = k.val) (h' : q < 256) : f ⟨q, h'⟩ = f k := congrArg f (Fin.ext h)
  have e1 {x x' : Fin a} {y y' : Fin b} {k k' : Fin 256} (h : k.val = k'.val) (hx : x.val = x'.val) (hy : y.val = y'.val) : f k x y = f k' x' y' := by
    rw [Fin.ext h, Fin.ext hx, Fin.ext hy]
  refine e1 ?_ ?_ ?_
  · show (4 * (n + (j 0).val) + (0 + (j 1).val)) % 256 = (4 * n + (j 1).val) % 256
    rw [show (j 0).val = 0 by omega, Nat.add_zero, Nat.zero_add]
  · show 0 + (j 2).val = (j 2).val
    omega
  · show 0 + (j 3).val = (j 3).val
    omega

/-- Rows normalised and gated, the heads side by side. -/
theorem gated_rows (x g : Fin 64 → Fin 4 → Fin 128 → EReal) (og : Fin 128 → EReal) :
    shapeCast S64x512 (mulf (F := Ideal) (s := S64x4x128) (φ := .f32) (mulf (mulf (a3 x) (broadcastInDim S64x4x128 ![0, 1, 2] bcast_S64x4x1_S64x4x128_0_1_2
      (Host.rsqrt (addf (Host.divf (broadcastInDim S64x4x1 ![0, 1] bcast_S64x4_S64x4x1_0_1 (Host.reduceAdd (mulf (a3 x) (a3 x))
        (constant S_ .f32 0x00000000#32) reducesTo_S64x4x128_S64x4_d2 h_S_)) (broadcastInDim S64x4x1 ![] bcast_S_S64x4x1 (constant S_ .f32 0x43000000#32)))
        (broadcastInDim S64x4x1 ![] bcast_S_S64x4x1 (constant S_ .f32 0x358637BD#32))))))
      (broadcastInDim S64x4x128 ![0, 1, 2] bcast_S1x1x128_S64x4x128_0_1_2 (broadcastInDim S1x1x128 ![2] bcast_S128_S1x1x128_2
        (shapeCast S128 (gains og) shapeCasts_S1x128_S128))))
      (mulf (a3 g) (Host.divf (broadcastInDim S64x4x128 ![] bcast_S_S64x4x128 (constant S_ .f32 0x3F800000#32))
        (addf (broadcastInDim S64x4x128 ![] bcast_S_S64x4x128 (constant S_ .f32 0x3F800000#32)) (Host.exp (Host.negf (a3 g))))))) shapeCasts_S64x4x128_S64x512
      = a2 fun r k => gated (x r ⟨k.val / 128 % 4, by omega⟩) og (g r ⟨k.val / 128 % 4, by omega⟩) ⟨k.val % 128, by omega⟩ := by
  funext j
  pointwise [a3, a2, gains, gated, scale, sigm]
  have h1 : (j 1).val < 512 := (j 1).isLt
  rw [show (⟨(j 1).val / 128 % 4, by omega⟩ : Fin 4) = ⟨(j 1).val / 128, by omega⟩ from Fin.ext (by show (j 1).val / 128 % 4 = (j 1).val / 128; omega)]

/-- A head's state before its chunk. -/
theorem stateAt_eq (A : Args) {n : ℕ} (hn : n < 64) (h : Fin 4) (x y : Fin 128) {q : Fin 256} (hq : q.val = (4 * n + h.val) % 256) :
    stateAt A q x y = chain A n h x y := by
  have e0 : q.val / 4 = n := by omega
  have e1 : (⟨q.val % 4, by omega⟩ : Fin 4) = h := Fin.ext (by show q.val % 4 = h.val; omega)
  simp only [stateAt, e0, e1]

/-- A token's gated output, by its chunk. -/
theorem rowOut_eq (A : Args) {n : ℕ} (hn : n < 64) (r : Fin 64) (k : Fin 512) {q : Fin 4096} (hq : q.val = (64 * n + r.val) % 4096) :
    rowOut A q k = gated (out A n ⟨k.val / 128 % 4, by omega⟩ r) A.og (A.gate ⟨(64 * n + r.val) % 4096, by omega⟩ ⟨k.val / 128 % 4, by omega⟩)
      ⟨k.val % 128, by omega⟩ := by
  have e0 : q.val / 64 = n := by omega
  have e1 : (⟨q.val % 64, by omega⟩ : Fin 64) = r := Fin.ext (by show q.val % 64 = r.val; omega)
  have e2 : (⟨k.val / 128, by omega⟩ : Fin 4) = ⟨k.val / 128 % 4, by omega⟩ := Fin.ext (by show k.val / 128 = k.val / 128 % 4; omega)
  have e3 : q = ⟨(64 * n + r.val) % 4096, by omega⟩ := Fin.ext hq
  simp only [rowOut, e0, e1, e2, ← e3]

section

variable {n : ℕ} (hn : n < 64)
include hn

theorem sliceR (f : Fin 256 → Fin 64 → Fin 128 → EReal) :
    shapeCast S4x64x128 (Host.dynamicSlice S1x4x64x128 (a4 f) (at4 n) sliceFits_S64x4x64x128_S1x4x64x128) shapeCasts_S1x4x64x128_S4x64x128
      = a3 (cut f n) := by
  rw [chunk 64 128 n hn]
  funext j
  pointwise [a3]

theorem sliceA (f : Fin 256 → Fin 64 → Fin 64 → EReal) :
    shapeCast S4x64x64 (Host.dynamicSlice S1x4x64x64 (a4 f) (at4 n) sliceFits_S64x4x64x64_S1x4x64x64) shapeCasts_S1x4x64x64_S4x64x64
      = a3 (cut f n) := by
  rw [chunk 64 64 n hn]
  funext j
  pointwise [a3]

theorem sliceG (f : Fin 256 → Fin 128 → EReal) :
    shapeCast S4x1x128 (Host.dynamicSlice S1x4x1x128 (a4 fun n (_ : Fin 1) k => f n k) (at4 n) sliceFits_S64x4x1x128_S1x4x1x128)
      shapeCasts_S1x4x1x128_S4x1x128 = lane (cut f n) := by
  rw [chunk 1 128 n hn]
  funext j
  pointwise [lane, cut]

/-- A chunk of the tokens. -/
theorem sliceT (f : Fin 4096 → Fin 4 → Fin 128 → EReal) :
    shapeCast S64x4x128 (shapeCast S64x512 (Host.dynamicSlice S1x64x512 (tokens f) (at3 n) sliceFits_S64x64x512_S1x64x512)
      shapeCasts_S1x64x512_S64x512) shapeCasts_S64x512_S64x4x128 = a3 fun r h k => f ⟨(64 * n + r.val) % 4096, by omega⟩ h k := by
  have hs : S64x64x512.Slices ![n, 0, 0] S1x64x512 := by
    refine ⟨rfl, fun k => ?_⟩
    match k with
    | 0 => show n + 1 ≤ 64; omega
    | 1 => exact Nat.le_refl _
    | 2 => exact Nat.le_refl _
  rw [Host.dynamicSlice_eq_extractStridedSlice _ _ _ ![n, 0, 0] _ hs (start3 n hn)]
  funext j
  pointwise [a3, tokens]
  have h2 : (j 2).val < 128 := (j 2).isLt
  have h1 : (j 1).val < 4 := (j 1).isLt
  exact congrArg₂ (f _) (Fin.ext (by show ((j 1).val * 128 + (j 2).val) / 128 % 4 = (j 1).val; omega))
    (Fin.ext (by show ((j 1).val * 128 + (j 2).val) % 128 = (j 2).val; omega))

omit hn

theorem dot_through (w : Rows) (S : State) :
    Host.dotGeneral (F := Ideal) (φ₁ := .f32) (φ₂ := .f32) dot_S4x64x128_S4x128x128_S4x64x128_2_1_1_2_0_0 none (a3 w) (a3 S)
      = a3 (through w S) := by
  funext j
  pointwise [a3, through]

theorem dot_outer (k v : Rows) :
    Host.dotGeneral (F := Ideal) (φ₁ := .f32) (φ₂ := .f32) dot_S4x64x128_S4x64x128_S4x128x128_1_1_2_2_0_0 none (a3 k) (a3 v)
      = a3 (outer k v) := by
  funext j
  pointwise [a3, outer]

theorem dot_within (p : Fin 4 → Fin 64 → Fin 64 → EReal) (v : Rows) :
    Host.dotGeneral (F := Ideal) (φ₁ := .f32) (φ₂ := .f32) dot_S4x64x64_S4x64x128_S4x64x128_2_1_1_2_0_0 none (a3 p) (a3 v)
      = a3 (within p v) := by
  funext j
  pointwise [a3, within]

theorem mul_lane (S : State) (g : Fin 4 → Fin 128 → EReal) :
    mulf (F := Ideal) (s := S4x128x128) (φ := .f32) (a3 S) (broadcastInDim S4x128x128 ![0, 1, 2] bcast_S4x1x128_S4x128x128_0_1_2 (lane g))
      = a3 (decay S g) := by
  funext j
  pointwise [a3, lane, decay]

/-- The signed comparison of two row numbers chooses as the numbers compare. -/
theorem select_ge {i j : ℕ} (hi : i < 64) (hj : j < 64) (x y : EReal) :
    Scalar.select (IntOp.cmpi CmpIPredicate.sge (BitVec.ofNat 32 i) (BitVec.ofNat 32 j)) x y = if j ≤ i then x else y := by
  rw [WordCmp.cmpi_sge_ofNat (by norm_num; omega) (by norm_num; omega)]
  by_cases h : j ≤ i <;> simp [h, Scalar.select]

/-- The weights' lower triangle. -/
theorem lower (p : Fin 4 → Fin 64 → Fin 64 → EReal) (V : Valuation τ sig (Elt Ideal)) :
    select (broadcastInDim S4x64x64 ![1, 2] bcast_S64x64_S4x64x64_1_2 (cmpi .sge (broadcastInDim S64x64 ![0, 1] bcast_S64x1_S64x64_0_1
      (broadcastInDim S64x1 ![0] bcast_S64_S64x1_0 (res_main_while0b_v22 V))) (broadcastInDim S64x64 ![0, 1] bcast_S1x64_S64x64_0_1
      (broadcastInDim S1x64 ![1] bcast_S64_S1x64_1 (res_main_while0b_v22 V))))) (a3 p)
      (broadcastInDim S4x64x64 ![] bcast_S_S4x64x64 (id (constant (F := Ideal) S_ .f32 0x00000000#32)))
      = a3 fun h i j => if j ≤ i then p h i j else 0 := by
  funext j
  pointwise [a3, res_main_while0b_v22]
  rw [select_ge (j 1).isLt (j 2).isLt]
  congr 1
  exact Ideal.ofBits_zero .f32

variable {V : Valuation τ sig (Elt Ideal)} {A : Args} {p : Fin 256 → Fin 64 → Fin 64 → EReal} (H : Carried V A p n)
include hn H

theorem v30_eq : (res_main_while0b_v30 V : S4x64x128.Idx → EReal) = a3 (fresh (chain A n) (cut A.w n) (cut A.u n)) := by
  rw [res_main_while0b_v30, H.u, H.w, H.ctr, H.state]
  erw [sliceR hn A.u, sliceR hn A.w, dot_through]
  rfl

theorem step9 : (step_main_v11_9 V : S4x128x128.Idx → EReal) = a3 (chain A (n + 1)) := by
  rw [step_main_v11_9, v30_eq hn H, H.gm, H.kd, H.ctr, H.state]
  erw [sliceR hn A.kd, sliceG hn A.gm, dot_outer, mul_lane]
  rfl

theorem v38_eq (hA : ∀ k r s, A.at_ k r s = if s ≤ r then p k r s else 0) :
    (res_main_while0b_v38 V : S64x4x128.Idx → EReal) = a3 fun r h k => out A n h r k := by
  have e : (fun h i j => if j ≤ i then cut p n h i j else 0) = cut A.at_ n := by
    funext h i j
    exact (hA _ _ _).symm
  rw [res_main_while0b_v38, v30_eq hn H, H.qd, H.at_, H.ctr, H.state]
  erw [sliceR hn A.qd, sliceA hn p, lower, e, dot_through, dot_within]
  funext j
  pointwise [a3, out, output]

theorem v52_eq : (res_main_while0b_v52 V : S64x4x128.Idx → EReal) = a3 fun r h k => A.gate ⟨(64 * n + r.val) % 4096, by omega⟩ h k := by
  rw [res_main_while0b_v52, H.gate, H.ctr]
  exact sliceT hn A.gate

theorem step11 : (step_main_v11_11 V : S64x4x128x128.Idx → EReal) = fun i =>
    if (i 0).val < n + 1 then stateAt A ⟨(4 * (i 0).val + (i 1).val) % 256, by omega⟩ (i 2) (i 3) else 0 := by
  rw [step_main_v11_11, H.states, H.ctr, H.state]
  refine Eq.trans (Host.dynamicUpdateSlice_eq_updateSlice _ _ _ _ ![n, 0, 0, 0] (fun k => ?_) ?_) ?_
  · refine (congrArg (fun z : Int => (min (max z 0) _).toNat) (start4 n hn k)).trans ?_
    match k with
    | 0 => show (min (max (n : Int) 0) ((64 - 1 : Nat) : Int)).toNat = n; omega
    | 1 => rfl
    | 2 => rfl
    | 3 => rfl
  · refine ⟨rfl, fun k => ?_⟩
    match k with
    | 0 => show n + 1 ≤ 64; omega
    | 1 => exact Nat.le_refl _
    | 2 => exact Nat.le_refl _
    | 3 => exact Nat.le_refl _
  refine funext fun (j : S64x4x128x128.Idx) => ?_
  pointwise [a3]
  have h1 : (j 1).val < 4 := (j 1).isLt
  have h2 : (j 2).val < 128 := (j 2).isLt
  have h3 : (j 3).val < 128 := (j 3).isLt
  by_cases h : (j 0).val = n
  · rw [dif_pos (by
      intro a
      match a with
      | 0 => exact ⟨h.ge, by show (j 0).val < n + 1; omega⟩
      | 1 => exact ⟨Nat.zero_le _, by show (j 1).val < 0 + 4; omega⟩
      | 2 => exact ⟨Nat.zero_le _, by show (j 2).val < 0 + 128; omega⟩
      | 3 => exact ⟨Nat.zero_le _, by show (j 3).val < 0 + 128; omega⟩), if_pos (by omega)]
    exact (stateAt_eq A hn (j 1) (j 2) (j 3) (by show (4 * (j 0).val + (j 1).val) % 256 = (4 * n + (j 1).val) % 256; rw [h])).symm
  · rw [dif_neg (fun h' => h (by
      have h0 : n ≤ (j 0).val ∧ (j 0).val < n + 1 := h' 0
      omega))]
    simp only [show (j 0).val < n + 1 ↔ (j 0).val < n by omega]

theorem step10 (hA : ∀ k r s, A.at_ k r s = if s ≤ r then p k r s else 0) : (step_main_v11_10 V : S64x64x512.Idx → EReal) = fun i =>
    if (i 0).val < n + 1 then rowOut A ⟨(64 * (i 0).val + (i 1).val) % 4096, by omega⟩ (i 2) else 0 := by
  rw [step_main_v11_10, v38_eq hn H hA, v52_eq hn H, H.og, H.ctr, H.out]
  erw [gated_rows (fun r h k => out A n h r k) (fun r h k => A.gate ⟨(64 * n + r.val) % 4096, by omega⟩ h k) A.og]
  refine Eq.trans (Host.dynamicUpdateSlice_eq_updateSlice _ _ _ _ ![n, 0, 0] (fun k => ?_) ?_) ?_
  · refine (congrArg (fun z : Int => (min (max z 0) _).toNat) (start3 n hn k)).trans ?_
    match k with
    | 0 => show (min (max (n : Int) 0) ((64 - 1 : Nat) : Int)).toNat = n; omega
    | 1 => rfl
    | 2 => rfl
  · refine ⟨rfl, fun k => ?_⟩
    match k with
    | 0 => show n + 1 ≤ 64; omega
    | 1 => exact Nat.le_refl _
    | 2 => exact Nat.le_refl _
  refine funext fun (j : S64x64x512.Idx) => ?_
  pointwise [a2]
  have h1 : (j 1).val < 64 := (j 1).isLt
  have h2 : (j 2).val < 512 := (j 2).isLt
  by_cases h : (j 0).val = n
  · rw [dif_pos (by
      intro a
      match a with
      | 0 => exact ⟨h.ge, by show (j 0).val < n + 1; omega⟩
      | 1 => exact ⟨Nat.zero_le _, by show (j 1).val < 0 + 64; omega⟩
      | 2 => exact ⟨Nat.zero_le _, by show (j 2).val < 0 + 512; omega⟩), if_pos (by omega)]
    exact (rowOut_eq A hn (j 1) (j 2) (by show (64 * (j 0).val + (j 1).val) % 4096 = (64 * n + (j 1).val) % 4096; rw [h])).symm
  · rw [dif_neg (fun h' => h (by
      have h0 : n ≤ (j 0).val ∧ (j 0).val < n + 1 := h' 0
      omega))]
    simp only [show (j 0).val < n + 1 ↔ (j 0).val < n by omega]

theorem succ (hA : ∀ k r s, A.at_ k r s = if s ≤ r then p k r s else 0) : Carried (STEP V) A p (n + 1) where
  u := (STEP_main_v11_0 V).trans H.u
  w := (STEP_main_v11_1 V).trans H.w
  at_ := (STEP_main_v11_2 V).trans H.at_
  qd := (STEP_main_v11_3 V).trans H.qd
  kd := (STEP_main_v11_4 V).trans H.kd
  gm := (STEP_main_v11_5 V).trans H.gm
  gate := (STEP_main_v11_6 V).trans H.gate
  og := (STEP_main_v11_7 V).trans H.og
  ctr := by
    rw [STEP_main_v11_8, step_main_v11_8, H.ctr]
    funext i
    exact (BitVec.ofNat_add n 1).symm
  state := (STEP_main_v11_9 V).trans (step9 hn H)
  out := (STEP_main_v11_10 V).trans (step10 hn H hA)
  states := (STEP_main_v11_11 V).trans (step11 hn H)

end

variable (m : (ℓ : Loc nD τ sig) → Buf (Elt Ideal) ℓ) (c : Dev nD)

/-- The arrays a chip holds at launch; of the weights only the lower triangle counts, of `proj` the fourth block of columns. -/
def args : Args where
  u n r k := (m ((c : Thread nD τ).loc main_arg0) : S256x64x128.Idx → EReal) (ix3 n r k)
  w n r k := (m ((c : Thread nD τ).loc main_arg1) : S256x64x128.Idx → EReal) (ix3 n r k)
  at_ n r s := if s ≤ r then (m ((c : Thread nD τ).loc main_arg2) : S256x64x64.Idx → EReal) (ix3 n r s) else 0
  qd n r k := (m ((c : Thread nD τ).loc main_arg3) : S256x64x128.Idx → EReal) (ix3 n r k)
  kd n r k := (m ((c : Thread nD τ).loc main_arg4) : S256x64x128.Idx → EReal) (ix3 n r k)
  gm n k := (m ((c : Thread nD τ).loc main_arg5) : S256x1x128.Idx → EReal) (ix3 n 0 k)
  gate t h k := (m ((c : Thread nD τ).loc main_arg6) : S4096x3712.Idx → EReal) (ix2 t ⟨1536 + 128 * h.val + k.val, by omega⟩)
  og k := (m ((c : Thread nD τ).loc main_arg7) : S1x128.Idx → EReal) (ix2 0 k)

/-- The weights as launched. -/
def weights : Fin 256 → Fin 64 → Fin 64 → EReal := fun n r s => (m ((c : Thread nD τ).loc main_arg2) : S256x64x64.Idx → EReal) (ix3 n r s)

/-- A stacked array's entry is the launched one's. -/
theorem stacked {a b : ℕ} (f : (⟨3, ![256, a, b]⟩ : Shape).Idx → EReal) {i : ℕ} (hi : i < 64) (h : Fin 4) (x : Fin a) (y : Fin b) (hl : i * 4 + h.val < 256) :
    f (ix3 ⟨i * 4 + h.val, hl⟩ x y) = f (ix3 ⟨(4 * i + h.val) % 256, by omega⟩ x y) :=
  congrArg (fun q => f (ix3 q x y)) (Fin.ext (by show i * 4 + h.val = (4 * i + h.val) % 256; omega))

theorem start : Carried (entryContents preI m c) (args m c) (weights m c) 0 where
  u := by
    simp only [entryContents, afterL_cons, afterL_nil]
    after_reads_simp
    funext j
    pointwise [a4, args, weights]
    exact stacked _ (j 0).isLt (j 1) (j 2) (j 3) _
  w := by
    simp only [entryContents, afterL_cons, afterL_nil]
    after_reads_simp
    funext j
    pointwise [a4, args, weights]
    exact stacked _ (j 0).isLt (j 1) (j 2) (j 3) _
  at_ := by
    simp only [entryContents, afterL_cons, afterL_nil]
    after_reads_simp
    funext j
    pointwise [a4, args, weights]
    exact stacked _ (j 0).isLt (j 1) (j 2) (j 3) _
  qd := by
    simp only [entryContents, afterL_cons, afterL_nil]
    after_reads_simp
    funext j
    pointwise [a4, args, weights]
    exact stacked _ (j 0).isLt (j 1) (j 2) (j 3) _
  kd := by
    simp only [entryContents, afterL_cons, afterL_nil]
    after_reads_simp
    funext j
    pointwise [a4, args, weights]
    exact stacked _ (j 0).isLt (j 1) (j 2) (j 3) _
  gm := by
    simp only [entryContents, afterL_cons, afterL_nil]
    after_reads_simp
    funext j
    pointwise [a4, args]
    exact stacked (m ((c : Thread nD τ).loc main_arg5)) (j 0).isLt (j 1) 0 (j 3) _
  gate := by
    simp only [entryContents, afterL_cons, afterL_nil]
    after_reads_simp
    funext j
    pointwise [tokens, args]
    refine congrArg₂ (fun x y => m ((c : Thread nD τ).loc main_arg6) (ix2 x y)) (Fin.ext ?_) (Fin.ext ?_)
    · have h0 : (j 0).val < 64 := (j 0).isLt
      have h1 : (j 1).val < 64 := (j 1).isLt
      show (j 0).val * 64 + (j 1).val = (64 * (j 0).val + (j 1).val) % 4096
      omega
    · have h2 : (j 2).val < 512 := (j 2).isLt
      show 1536 + (j 2).val = 1536 + 128 * ((j 2).val / 128 % 4) + (j 2).val % 128
      omega
  og := by
    simp only [entryContents, afterL_cons, afterL_nil]
    after_reads_simp
    funext j
    pointwise [gains, args]
    refine (congrArg (m ((c : Thread nD τ).loc main_arg7)) (eq_ix2 (j : S1x128.Idx))).trans ?_
    rw [Subsingleton.elim (α := Fin 1) (j 0) 0]
  ctr := ctr_entry m c
  state := by
    simp only [entryContents, afterL_cons, afterL_nil]
    after_reads_simp
    funext j
    pointwise [a3, chain]
    exact Ideal.ofBits_zero .f32
  out := by
    simp only [entryContents, afterL_cons, afterL_nil]
    after_reads_simp
    funext j
    pointwise []
    exact Ideal.ofBits_zero .f32
  states := by
    simp only [entryContents, afterL_cons, afterL_nil]
    after_reads_simp
    funext j
    pointwise []
    exact Ideal.ofBits_zero .f32

theorem carried : ∀ n ≤ 64, Carried (STEP^[n] (entryContents preI m c)) (args m c) (weights m c) n
  | 0, _ => start m c
  | n + 1, h => by
    rw [Function.iterate_succ_apply']
    exact succ (by omega) (carried n (by omega)) fun _ _ _ => rfl

/-- The outputs after the loop. -/
theorem outs : (out_main_v12 (STEP^[64] (entryContents preI m c)) : S4096x512.Idx → EReal) = fun i => rowOut (args m c) (i 0) (i 1) := by
  unfold out_main_v12
  rw [(carried m c 64 (le_refl _)).out]
  refine funext fun (j : S4096x512.Idx) => ?_
  pointwise []
  have h0 : (j 0).val < 4096 := (j 0).isLt
  exact congrArg (fun q => rowOut (args m c) q (j 1)) (Fin.ext (by show (64 * ((j 0).val / 64) + (j 0).val % 64) % 4096 = (j 0).val; omega))

/-- The states after the loop. -/
theorem states : (out_main_v13 (STEP^[64] (entryContents preI m c)) : S256x128x128.Idx → EReal) = fun i => stateAt (args m c) (i 0) (i 1) (i 2) := by
  unfold out_main_v13
  rw [(carried m c 64 (le_refl _)).states]
  refine funext fun (j : S256x128x128.Idx) => ?_
  pointwise []
  have h0 : (j 0).val < 256 := (j 0).isLt
  exact congrArg (fun q => stateAt (args m c) q (j 1) (j 2)) (Fin.ext (by show (4 * ((j 0).val / 4) + (j 0).val % 4) % 256 = (j 0).val; omega))

/-- The reference's run, its results named. -/
theorem run_named (g : Dev nD → PrngReg) : θ_run (defs (F := Ideal)) (onTc (τ := τ) (main (F := Ideal))) ⟨m, fun _ => 0, g⟩ fun r => ∀ c : Dev nD,
    r.2.mem ((c.tc : Thread nD τ).loc main_v12) = (fun i => rowOut (args m c) (i 0) (i 1) : S4096x512.Idx → EReal)
      ∧ r.2.mem ((c.tc : Thread nD τ).loc main_v13) = (fun i => stateAt (args m c) (i 0) (i 1) (i 2) : S256x128x128.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c).1.trans (outs m c), (h c).2.1.trans (states m c), (h c).2.2⟩) (run m g)

end Cert.RefFIdeal.Value

end
-- ==== Proof.ScanClaim.lean ====
/-
  The scan's value claim: kernel and reference return the same outputs and the same states.
-/
module

public import proofs.«01_k».proof.Defs
public import proofs.«01_k».proof.Proof.ScanKernel
public import proofs.«01_k».proof.Proof.ScanRef
public import proofs.«01_k».proof.Proof.Gen.KernelFIdeal
public import proofs.«01_k».proof.Proof.Gen.RefFIdeal
public import Idealize.ShloMosaic.Lib.Claim

@[expose] public section

set_option maxRecDepth 16384

noncomputable section

open Idealize.ShloMosaic Idealize.ShloMosaic.TcCoe Idealize.SL.Sem Cert.Scan

namespace Cert.Claims

/-- Equal arrays at launch are equal arguments of the scan. -/
theorem same_args {m : (ℓ : Loc Cert.KernelFIdeal.nD Cert.KernelFIdeal.τ Cert.KernelFIdeal.sig) → Buf (Elt Ideal) ℓ}
    {m' : (ℓ : Loc Cert.RefFIdeal.nD Cert.RefFIdeal.τ Cert.RefFIdeal.sig) → Buf (Elt Ideal) ℓ} {c : Dev Cert.KernelFIdeal.nD}
    (h : m' ((c.tc : Thread Cert.RefFIdeal.nD Cert.RefFIdeal.τ).loc Cert.RefFIdeal.main_arg0) = m ((c.tc : Thread Cert.KernelFIdeal.nD Cert.KernelFIdeal.τ).loc Cert.KernelFIdeal.main_arg0)
      ∧ m' ((c.tc : Thread Cert.RefFIdeal.nD Cert.RefFIdeal.τ).loc Cert.RefFIdeal.main_arg1) = m ((c.tc : Thread Cert.KernelFIdeal.nD Cert.KernelFIdeal.τ).loc Cert.KernelFIdeal.main_arg1)
      ∧ m' ((c.tc : Thread Cert.RefFIdeal.nD Cert.RefFIdeal.τ).loc Cert.RefFIdeal.main_arg2) = m ((c.tc : Thread Cert.KernelFIdeal.nD Cert.KernelFIdeal.τ).loc Cert.KernelFIdeal.main_arg2)
      ∧ m' ((c.tc : Thread Cert.RefFIdeal.nD Cert.RefFIdeal.τ).loc Cert.RefFIdeal.main_arg3) = m ((c.tc : Thread Cert.KernelFIdeal.nD Cert.KernelFIdeal.τ).loc Cert.KernelFIdeal.main_arg3)
      ∧ m' ((c.tc : Thread Cert.RefFIdeal.nD Cert.RefFIdeal.τ).loc Cert.RefFIdeal.main_arg4) = m ((c.tc : Thread Cert.KernelFIdeal.nD Cert.KernelFIdeal.τ).loc Cert.KernelFIdeal.main_arg4)
      ∧ m' ((c.tc : Thread Cert.RefFIdeal.nD Cert.RefFIdeal.τ).loc Cert.RefFIdeal.main_arg5) = m ((c.tc : Thread Cert.KernelFIdeal.nD Cert.KernelFIdeal.τ).loc Cert.KernelFIdeal.main_arg5)
      ∧ m' ((c.tc : Thread Cert.RefFIdeal.nD Cert.RefFIdeal.τ).loc Cert.RefFIdeal.main_arg6) = m ((c.tc : Thread Cert.KernelFIdeal.nD Cert.KernelFIdeal.τ).loc Cert.KernelFIdeal.main_arg6)
      ∧ m' ((c.tc : Thread Cert.RefFIdeal.nD Cert.RefFIdeal.τ).loc Cert.RefFIdeal.main_arg7) = m ((c.tc : Thread Cert.KernelFIdeal.nD Cert.KernelFIdeal.τ).loc Cert.KernelFIdeal.main_arg7)) :
    Cert.RefFIdeal.Value.args m' c = Cert.KernelFIdeal.Value.args m c := by
  obtain ⟨h0, h1, h2, h3, h4, h5, h6, h7⟩ := h
  unfold Cert.RefFIdeal.Value.args
  rw [h0, h1, h2, h3, h4, h5, h6, h7]
  rfl

theorem algebraic_F : Cert.algebraic_KernelFIdeal_RefFIdeal := by
  pair_intro
  · run_from Cert.KernelFIdeal.Value.run_named m g
  · run_from Cert.RefFIdeal.Value.run_named m' g'
    · rw [same_args (hagree c)]
    · rw [same_args (hagree c)]

end Cert.Claims

end
-- ==== Proof.Wgrad.lean ====
/-
  The weight gradient: the kernel's accumulated product of two token blocks is the reference's product over all tokens.
-/
module

public import proofs.«01_k».proof.Proof.Gen.KernelWIdeal.Frame
public import proofs.«01_k».proof.Proof.Gen.KernelWIdeal.Value
public import proofs.«01_k».proof.Proof.Gen.RefWIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelWIdeal.Value

open Cert.KernelWIdeal Cert.KernelWIdeal.Gen

variable (m : (ℓ : Loc nD τ sig) → Buf (Elt Ideal) ℓ)

/-- The reference's result over the two arguments. -/
abbrev REF (a : FVec Ideal S4096x2816 .f32) (b : FVec Ideal S4096x1024 .f32) : FVec Ideal S2816x1024 .bf16 :=
  truncf .bf16 (transpose Cert.RefWIdeal.S2816x1024 [1, 0] (transpose Cert.RefWIdeal.S1024x2816 [1, 0]
    (Host.dotGeneral Cert.RefWIdeal.dot_S4096x2816_S4096x1024_S2816x1024_0_0_1_1_n_n none a b)
    Cert.RefWIdeal.Gen.transposes_S2816x1024_S1024x2816_1_0) Cert.RefWIdeal.Gen.transposes_S1024x2816_S2816x1024_1_0) Cert.RefWIdeal.Gen.bitsLt_bf16_f32

theorem idx : ∀ t : Fin cfg0.N, win0_0.index t = ![t.val % 2, 0] ∧ win0_1.index t = ![t.val % 2, t.val / 2]
    ∧ win0_2.index t = ![0, t.val / 2] ∧ t.val / 2 < 2 :=
  (by decide +kernel : ∀ t : Fin grid0.N, _)

/-- What the block's last point leaves in the running sum is the sum over the block's two points. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have h0 : ¬ t.val % 2 = 0 := by omega
  blk_simp
  rw [after0_2, outsAt0_B m c t h0 h1]
  frame_out
  simp only [read_unread_whole]
  have hp : t.val - 1 < cfg0.N := Nat.lt_of_le_of_lt (Nat.sub_le _ _) t.isLt
  rw [outsAt0_A m c ⟨t.val - 1, hp⟩ (by dsimp only; omega) (by dsimp only; omega)]
  frame_out
  pointwise [k0_pay1, k0_pay2, k0_pay3, REF]
  rw [Fin.sum_univ_two_halves 2048 2048 rfl]
  blk_point [iblk, V, idx t, idx ⟨t.val - 1, hp⟩]

end Cert.KernelWIdeal.Value

end
-- ==== Proof.WgradClaim.lean ====
/-
  The weight gradient's value claim: kernel and reference return the same array.
-/
module

public import proofs.«01_k».proof.Defs
public import proofs.«01_k».proof.Proof.Wgrad
public import proofs.«01_k».proof.Proof.Gen.KernelWIdeal
public import proofs.«01_k».proof.Proof.Gen.RefWIdeal
public import Idealize.ShloMosaic.Lib.Claim

@[expose] public section

set_option maxRecDepth 16384

noncomputable section

open Idealize.ShloMosaic Idealize.SL.Sem

namespace Cert.Claims

theorem algebraic_W : Cert.algebraic_KernelWIdeal_RefWIdeal := by
  pair_intro
  · run_from Cert.KernelWIdeal.Gen.run_main m g
  · run_from Cert.RefWIdeal.Value.run m' g'
    exact (Cert.KernelWIdeal.Value.final m c).symm

end Cert.Claims

end
-- ==== Proof.Finite.lean ====
/-
  The precondition of a claim read back: an array whose every entry is below infinity in absolute value is an array of reals.
-/
module

public import Idealize.ShloMosaic.Lib.ReduceAll
public import proofs.«01_k».proof.Proof.FfnReal

@[expose] public section

noncomputable section

open Idealize.ShloMosaic Cert.Ffn

namespace Cert.Finite

abbrev S_ : Shape := ⟨0, ![]⟩

theorem c_top : (Ideal.ofBits .f32 0x7F800000#32 : EReal) = ⊤ := by
  simp [Ideal.ofBits, Ideal.ieee]

/-- A number below infinity in absolute value is a real. -/
theorem real_of_abs_lt {a : EReal} (h : max a (-a) < ⊤) : a = ((a.toReal : ℝ) : EReal) := by
  refine (EReal.coe_toReal (fun e => ?_) (fun e => ?_)).symm
  · rw [e] at h; simp at h
  · rw [e] at h; simp at h

/-- The word that says every entry of `x` is finite, being one, names the reals `x` holds. -/
theorem reals {s : Shape} {dims : List (Fin s.rank)} (x : FVec Ideal s .f32) (hb : S_.BroadcastsInDim s (![] : Fin 0 → Fin s.rank))
    (hr : s.ReducesTo dims S_) (h0 : 0 < S_.numel) (j : S_.Idx)
    (h : Host.reduce IntOp.andi (cmpf .olt (Host.absf x) (broadcastInDim s ![] hb (constant S_ .f32 0x7F800000#32)))
      (constantI S_ 1 1#1) hr h0 j = 1#1) :
    (x : s.Idx → EReal) = co fun i => ((x i : EReal)).toReal := by
  funext i
  have e := Host.reduce_andi_all _ _ _ _ j h i
  refine real_of_abs_lt ?_
  by_contra hn
  have : (cmpf .olt (Host.absf x) (broadcastInDim s ![] hb (constant S_ .f32 0x7F800000#32)) i : BitVec 1)
      = BitVec.ofBool (decide (max (x i : EReal) (-(x i : EReal)) < Ideal.ofBits .f32 0x7F800000#32)) := rfl
  rw [this, c_top, decide_eq_false hn] at e
  exact absurd e (by decide)

end Cert.Finite

end
-- ==== Proof.FfnPay.lean ====
/-
  What one grid point of the feed-forward kernel computes on 256 finite tokens, value by value: each is the token's own
  row of `Ffn`, real number by real number.
-/
module

public import proofs.«01_k».proof.Proof.Gen.KernelFfnIdeal.Frame
public import proofs.«01_k».proof.Proof.FfnReal

@[expose] public section

set_option maxRecDepth 16384

noncomputable section

open Idealize.ShloMosaic Idealize.ShloMosaic.TcCoe Idealize.SL.Sem

namespace Cert.KernelFfnIdeal.Value

open Cert.KernelFfnIdeal Cert.KernelFfnIdeal.Gen Cert.Ffn

variable (p : Params) (X T : Fin 256 → Fin 1024 → ℝ)

/-- 256 tokens' rows; half of their hidden positions; a number each. -/
def mat (f : Fin 256 → Fin 1024 → ℝ) : S256x1024.Idx → EReal := co fun i => f (i 0) (i 1)
def half (h : Fin 1408 → Fin 2816) (f : Fin 256 → Fin 2816 → ℝ) : S256x1408.Idx → EReal := co fun i => f (i 0) (h (i 1))
def col (f : Fin 256 → ℝ) : S256x1.Idx → EReal := co fun i => f (i 0)
/-- One row; half of a weight, its rows the hidden positions, stored by those or by the others. -/
def row (g : Fin 1024 → ℝ) : S1x1024.Idx → EReal := co fun i => g (i 1)
def wIn (h : Fin 1408 → Fin 2816) (w : Fin 1024 → Fin 2816 → ℝ) : S1408x1024.Idx → EReal := co fun i => w (i 1) (h (i 0))
def wOut (h : Fin 1408 → Fin 2816) (w : Fin 2816 → Fin 1024 → ℝ) : S1408x1024.Idx → EReal := co fun i => w (h (i 0)) (i 1)

theorem pay5_eq : k0_pay5 (F := Ideal) (mat X)
    = col fun r => rs (X r) := by
  funext j
  pointwise [k0_pay5, co, mat, col]
  simp only [c_half, c_one, c_1024, c_1024_inv, c_eps, mul_co, add_co, sub_co, coe_sum, div_1024, Ideal.tanh_coe]
  exact rsqrt_ms _

theorem pay6_eq : k0_pay6 (F := Ideal) (mat X)
    = mat fun r => nrm (X r) := by
  rw [k0_pay6, pay5_eq X]
  funext j
  pointwise [co, mat, col]
  simp only [c_half, c_one, c_1024, c_1024_inv, c_eps, mul_co, add_co, sub_co, coe_sum, div_1024, Ideal.tanh_coe]
  rfl

theorem pay7_eq : k0_pay7 (F := Ideal) (mat X) (row p.gp)
    = mat fun r => hid p (X r) := by
  rw [k0_pay7, pay6_eq X]
  funext j
  pointwise [co, mat, row]
  simp only [c_half, c_one, c_1024, c_1024_inv, c_eps, mul_co, add_co, sub_co, coe_sum, div_1024, Ideal.tanh_coe]
  rfl

theorem pay8_eq : k0_pay8 (F := Ideal) (mat X) (row p.gp) (wIn lo p.wg)
    = half lo fun r => gate p (X r) := by
  rw [k0_pay8, pay7_eq p X]
  funext j
  pointwise [co, mat, half, wIn]
  simp only [c_half, c_one, c_1024, c_1024_inv, c_eps, mul_co, add_co, sub_co, coe_sum, div_1024, Ideal.tanh_coe]
  rfl

theorem pay9_eq : k0_pay9 (F := Ideal) (mat X) (row p.gp) (wIn lo p.wu)
    = half lo fun r => up p (X r) := by
  rw [k0_pay9, pay7_eq p X]
  funext j
  pointwise [co, mat, half, wIn]
  simp only [c_half, c_one, c_1024, c_1024_inv, c_eps, mul_co, add_co, sub_co, coe_sum, div_1024, Ideal.tanh_coe]
  rfl

theorem pay10_eq : k0_pay10 (F := Ideal) (mat fun r => hid p (X r)) (wIn hi p.wg)
    = half hi fun r => gate p (X r) := by
  funext j
  pointwise [k0_pay10, co, mat, half, wIn]
  simp only [c_half, c_one, c_1024, c_1024_inv, c_eps, mul_co, add_co, sub_co, coe_sum, div_1024, Ideal.tanh_coe]
  rfl

theorem pay11_eq : k0_pay11 (F := Ideal) (mat fun r => hid p (X r)) (wIn hi p.wu)
    = half hi fun r => up p (X r) := by
  funext j
  pointwise [k0_pay11, co, mat, half, wIn]
  simp only [c_half, c_one, c_1024, c_1024_inv, c_eps, mul_co, add_co, sub_co, coe_sum, div_1024, Ideal.tanh_coe]
  rfl

theorem pay12_eq : k0_pay12 (F := Ideal) (half lo fun r => gate p (X r)) (half lo fun r => up p (X r))
    = half lo fun r => act p (X r) := by
  funext j
  pointwise [k0_pay12, co, half]
  simp only [c_half, c_one, c_1024, c_1024_inv, c_eps, mul_co, add_co, sub_co, coe_sum, div_1024, Ideal.tanh_coe]
  rfl

theorem pay13_eq : k0_pay13 (F := Ideal) (half hi fun r => gate p (X r))
    = half hi fun r j => sg (gate p (X r) j) := by
  funext j
  pointwise [k0_pay13, co, half]
  simp only [c_half, c_one, c_1024, c_1024_inv, c_eps, mul_co, add_co, sub_co, coe_sum, div_1024, Ideal.tanh_coe]
  rfl

theorem pay14_eq : k0_pay14 (F := Ideal) (half hi fun r => gate p (X r)) (half hi fun r j => sg (gate p (X r) j))
      (half hi fun r => up p (X r))
    = half hi fun r => act p (X r) := by
  funext j
  pointwise [k0_pay14, co, half]
  simp only [c_half, c_one, c_1024, c_1024_inv, c_eps, mul_co, add_co, sub_co, coe_sum, div_1024, Ideal.tanh_coe]
  rfl

theorem pay15_eq : k0_pay15 (F := Ideal) (half lo fun r => act p (X r)) (half hi fun r => gate p (X r))
      (half hi fun r j => sg (gate p (X r) j)) (half hi fun r => up p (X r)) (wOut lo p.wd) (wOut hi p.wd)
    = mat fun r => out p (X r) := by
  rw [k0_pay15, pay14_eq p X]
  funext j
  pointwise [co, mat, half, wOut]
  simp only [c_half, c_one, c_1024, c_1024_inv, c_eps, mul_co, add_co, sub_co, coe_sum, div_1024, Ideal.tanh_coe]
  exact congrArg _ (sum_halves fun k => act p (X (j 0)) k * p.wd k (j 1)).symm

theorem pay16_eq : k0_pay16 (F := Ideal) (half lo fun r => act p (X r)) (half hi fun r => gate p (X r))
      (half hi fun r j => sg (gate p (X r) j)) (half hi fun r => up p (X r)) (wOut lo p.wd) (wOut hi p.wd)
    = col fun r => rs (out p (X r)) := by
  rw [k0_pay16, pay15_eq p X]
  funext j
  pointwise [co, mat, col]
  simp only [c_half, c_one, c_1024, c_1024_inv, c_eps, mul_co, add_co, sub_co, coe_sum, div_1024, Ideal.tanh_coe]
  exact rsqrt_ms _

theorem pay17_eq : k0_pay17 (F := Ideal) (half lo fun r => act p (X r)) (half hi fun r => gate p (X r))
      (half hi fun r j => sg (gate p (X r) j)) (half hi fun r => up p (X r)) (wOut lo p.wd) (wOut hi p.wd)
    = mat fun r => nrm (out p (X r)) := by
  rw [k0_pay17, pay15_eq p X, pay16_eq p X]
  funext j
  pointwise [co, mat, col]
  simp only [c_half, c_one, c_1024, c_1024_inv, c_eps, mul_co, add_co, sub_co, coe_sum, div_1024, Ideal.tanh_coe]
  rfl

theorem pay18_eq : k0_pay18 (F := Ideal) (mat X) (row p.gq) (half lo fun r => act p (X r)) (half hi fun r => gate p (X r))
      (half hi fun r j => sg (gate p (X r) j)) (half hi fun r => up p (X r)) (wOut lo p.wd) (wOut hi p.wd) (mat T)
    = mat fun r => err p (X r) (T r) := by
  rw [k0_pay18, pay17_eq p X]
  funext j
  pointwise [co, mat, row]
  simp only [c_half, c_one, c_1024, c_1024_inv, c_eps, mul_co, add_co, sub_co, coe_sum, div_1024, Ideal.tanh_coe]
  rfl

theorem pay19_eq (v : S1x128.Idx → EReal) : k0_pay19 (F := Ideal) v = v := by
  funext j
  pointwise [k0_pay19]

theorem pay20_eq : k0_pay20 (F := Ideal) (mat X) (row p.gq) (half lo fun r => act p (X r)) (half hi fun r => gate p (X r))
      (half hi fun r j => sg (gate p (X r) j)) (half hi fun r => up p (X r)) (wOut lo p.wd) (wOut hi p.wd) (mat T)
    = fun _ => ((1 / 2 * ∑ r, sq p (X r) (T r) : ℝ) : EReal) := by
  rw [k0_pay20, pay18_eq p X T]
  funext j
  pointwise [co, mat, row]
  simp only [c_half, c_one, c_1024, c_1024_inv, c_eps, mul_co, add_co, sub_co, coe_sum, div_1024, Ideal.tanh_coe]
  rfl

theorem pay21_eq (a b : ℝ) : k0_pay21 (F := Ideal) (fun _ => (a : EReal)) (fun _ => (b : EReal)) = fun _ => ((a + b : ℝ) : EReal) := by
  funext j
  pointwise [k0_pay21]
  rw [add_co]

theorem pay22_eq : k0_pay22 (F := Ideal) (mat fun r => err p (X r) (T r))
    = mat fun r => dy p (X r) (T r) := by
  funext j
  pointwise [k0_pay22, co, mat]
  simp only [c_half, c_one, c_1024, c_1024_inv, c_eps, mul_co, add_co, sub_co, coe_sum, div_1024, Ideal.tanh_coe]
  rfl

theorem pay23_eq (g : Fin 1024 → ℝ) : k0_pay23 (F := Ideal) (mat fun r => nrm (out p (X r))) (mat fun r => err p (X r) (T r)) (row g)
    = row fun j => g j + ∑ r, dgq p (X r) (T r) j := by
  rw [k0_pay23, pay22_eq p X T]
  funext j
  pointwise [co, mat, row]
  simp only [c_half, c_one, c_1024, c_1024_inv, c_eps, mul_co, add_co, sub_co, coe_sum, div_1024, Ideal.tanh_coe]
  rfl

theorem pay24_eq : k0_pay24 (F := Ideal) (row p.gq) (col fun r => rs (out p (X r))) (mat fun r => nrm (out p (X r)))
      (mat fun r => err p (X r) (T r))
    = mat fun r => dout p (X r) (T r) := by
  rw [k0_pay24, pay22_eq p X T]
  funext j
  pointwise [co, mat, row, col]
  simp only [c_half, c_one, c_1024, c_1024_inv, c_eps, mul_co, add_co, sub_co, coe_sum, div_1024, Ideal.tanh_coe]
  rfl

theorem pay25_eq : k0_pay25 (F := Ideal) (row p.gq) (col fun r => rs (out p (X r))) (mat fun r => nrm (out p (X r)))
      (mat fun r => err p (X r) (T r)) (wOut lo p.wd)
    = half lo fun r => dact p (X r) (T r) := by
  rw [k0_pay25, pay24_eq p X T]
  funext j
  pointwise [co, mat, half, wOut]
  simp only [c_half, c_one, c_1024, c_1024_inv, c_eps, mul_co, add_co, sub_co, coe_sum, div_1024, Ideal.tanh_coe]
  rfl

theorem pay26_eq : k0_pay26 (F := Ideal) (row p.gq) (col fun r => rs (out p (X r))) (mat fun r => nrm (out p (X r)))
      (mat fun r => err p (X r) (T r)) (wOut hi p.wd)
    = half hi fun r => dact p (X r) (T r) := by
  rw [k0_pay26, pay24_eq p X T]
  funext j
  pointwise [co, mat, half, wOut]
  simp only [c_half, c_one, c_1024, c_1024_inv, c_eps, mul_co, add_co, sub_co, coe_sum, div_1024, Ideal.tanh_coe]
  rfl

theorem pay27_eq : k0_pay27 (F := Ideal) (half lo fun r => gate p (X r))
    = half lo fun r j => Real.tanh (1 / 2 * gate p (X r) j) := by
  funext j
  pointwise [k0_pay27, co, half]
  simp only [c_half, c_one, c_1024, c_1024_inv, c_eps, mul_co, add_co, sub_co, coe_sum, div_1024, Ideal.tanh_coe]

theorem pay28_eq : k0_pay28 (F := Ideal) (half lo fun r j => Real.tanh (1 / 2 * gate p (X r) j))
    = half lo fun r j => sg (gate p (X r) j) := by
  funext j
  pointwise [k0_pay28, co, half]
  simp only [c_half, c_one, c_1024, c_1024_inv, c_eps, mul_co, add_co, sub_co, coe_sum, div_1024, Ideal.tanh_coe]
  rfl

theorem pay29_eq : k0_pay29 (F := Ideal) (half lo fun r => dact p (X r) (T r)) (half lo fun r => gate p (X r))
      (half lo fun r j => Real.tanh (1 / 2 * gate p (X r) j))
    = half lo fun r => dup p (X r) (T r) := by
  rw [k0_pay29, pay28_eq p X]
  funext j
  pointwise [co, half]
  simp only [c_half, c_one, c_1024, c_1024_inv, c_eps, mul_co, add_co, sub_co, coe_sum, div_1024, Ideal.tanh_coe]
  rfl

theorem pay30_eq : k0_pay30 (F := Ideal) (half lo fun r => dact p (X r) (T r)) (half lo fun r => gate p (X r))
      (half lo fun r j => Real.tanh (1 / 2 * gate p (X r) j)) (half lo fun r => up p (X r))
    = half lo fun r => dgate p (X r) (T r) := by
  rw [k0_pay30, pay28_eq p X]
  funext j
  pointwise [co, half]
  simp only [c_half, c_one, c_1024, c_1024_inv, c_eps, mul_co, add_co, sub_co, coe_sum, div_1024, Ideal.tanh_coe]
  rfl

theorem pay31_eq : k0_pay31 (F := Ideal) (half hi fun r => gate p (X r))
    = half hi fun r j => sg (gate p (X r) j) := by
  funext j
  pointwise [k0_pay31, co, half]
  simp only [c_half, c_one, c_1024, c_1024_inv, c_eps, mul_co, add_co, sub_co, coe_sum, div_1024, Ideal.tanh_coe]
  rfl

theorem pay32_eq : k0_pay32 (F := Ideal) (half hi fun r => dact p (X r) (T r)) (half hi fun r => gate p (X r))
    = half hi fun r => dup p (X r) (T r) := by
  rw [k0_pay32, pay31_eq p X]
  funext j
  pointwise [co, half]
  simp only [c_half, c_one, c_1024, c_1024_inv, c_eps, mul_co, add_co, sub_co, coe_sum, div_1024, Ideal.tanh_coe]
  rfl

theorem pay33_eq : k0_pay33 (F := Ideal) (half hi fun r => dact p (X r) (T r)) (half hi fun r => gate p (X r)) (half hi fun r => up p (X r))
    = half hi fun r => dgate p (X r) (T r) := by
  rw [k0_pay33, pay31_eq p X]
  funext j
  pointwise [co, half]
  simp only [c_half, c_one, c_1024, c_1024_inv, c_eps, mul_co, add_co, sub_co, coe_sum, div_1024, Ideal.tanh_coe]
  rfl

theorem pay34_eq (v : S256x1408.Idx → EReal) : k0_pay34 (F := Ideal) v = v := by
  funext j
  pointwise [k0_pay34]

theorem pay35_eq : k0_pay35 (F := Ideal) (half lo fun r => dup p (X r) (T r)) (half lo fun r => dgate p (X r) (T r))
      (half hi fun r => dup p (X r) (T r)) (half hi fun r => dgate p (X r) (T r)) (wIn lo p.wg) (wIn lo p.wu) (wIn hi p.wg)
      (wIn hi p.wu)
    = mat fun r => dhid p (X r) (T r) := by
  rw [k0_pay35, pay34_eq]
  funext j
  pointwise [co, mat, half, wIn]
  simp only [c_half, c_one, c_1024, c_1024_inv, c_eps, mul_co, add_co, sub_co, coe_sum, div_1024, Ideal.tanh_coe]
  unfold dhid
  rw [sum_halves, sum_halves, add_add_add_comm]

theorem pay36_eq (g : Fin 1024 → ℝ) : k0_pay36 (F := Ideal) (mat fun r => nrm (X r)) (half lo fun r => dup p (X r) (T r))
      (half lo fun r => dgate p (X r) (T r)) (half hi fun r => dup p (X r) (T r)) (half hi fun r => dgate p (X r) (T r)) (wIn lo p.wg)
      (wIn lo p.wu) (wIn hi p.wg) (wIn hi p.wu) (row g)
    = row fun j => g j + ∑ r, dgp p (X r) (T r) j := by
  rw [k0_pay36, pay35_eq p X T]
  funext j
  pointwise [co, mat, row]
  simp only [c_half, c_one, c_1024, c_1024_inv, c_eps, mul_co, add_co, sub_co, coe_sum, div_1024, Ideal.tanh_coe]
  rfl

theorem pay37_eq : k0_pay37 (F := Ideal) (row p.gp) (half lo fun r => dup p (X r) (T r)) (half lo fun r => dgate p (X r) (T r))
      (half hi fun r => dup p (X r) (T r)) (half hi fun r => dgate p (X r) (T r)) (wIn lo p.wg) (wIn lo p.wu) (wIn hi p.wg)
      (wIn hi p.wu)
    = mat fun r j => dhid p (X r) (T r) j * p.gp j := by
  rw [k0_pay37, pay35_eq p X T]
  funext j
  pointwise [co, mat, row]
  simp only [c_half, c_one, c_1024, c_1024_inv, c_eps, mul_co, add_co, sub_co, coe_sum, div_1024, Ideal.tanh_coe]

theorem pay38_eq : k0_pay38 (F := Ideal) (row p.gp) (mat fun r => nrm (X r)) (half lo fun r => dup p (X r) (T r))
      (half lo fun r => dgate p (X r) (T r)) (half hi fun r => dup p (X r) (T r)) (half hi fun r => dgate p (X r) (T r)) (wIn lo p.wg)
      (wIn lo p.wu) (wIn hi p.wg) (wIn hi p.wu)
    = mat fun r j => nrm (X r) j * ((∑ k, dhid p (X r) (T r) k * p.gp k * nrm (X r) k) * (1 / 1024)) := by
  rw [k0_pay38, pay37_eq p X T]
  funext j
  pointwise [co, mat, row]
  simp only [c_half, c_one, c_1024, c_1024_inv, c_eps, mul_co, add_co, sub_co, coe_sum, div_1024, Ideal.tanh_coe]

theorem pay1_eq : k0_pay1 (F := Ideal) (col fun r => rs (X r)) (mat fun r => dy p (X r) (T r)) (mat fun r j => dhid p (X r)
      (T r) j * p.gp j)
    (mat fun r j => nrm (X r) j * ((∑ k, dhid p (X r) (T r) k * p.gp k * nrm (X r) k) * (1 / 1024)))
    = mat fun r => dx p (X r) (T r) := by
  funext j
  pointwise [k0_pay1, co, mat, col]
  simp only [c_half, c_one, c_1024, c_1024_inv, c_eps, mul_co, add_co, sub_co, coe_sum, div_1024, Ideal.tanh_coe]
  rfl

end Cert.KernelFfnIdeal.Value

end
-- ==== Proof.FfnBlocks.lean ====
/-
  What each grid point of the feed-forward kernel leaves in its blocks, on finite arguments: its tokens' rows of `Ffn`.
-/
module

public import proofs.«01_k».proof.Proof.Gen.KernelFfnIdeal.Frame
public import proofs.«01_k».proof.Proof.Gen.KernelFfnIdeal.Value
public import proofs.«01_k».proof.Proof.FfnPay
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelFfnIdeal.Value

open Cert.KernelFfnIdeal Cert.KernelFfnIdeal.Gen Cert.Ffn

variable (m : (ℓ : Loc nD τ sig) → Buf (Elt Ideal) ℓ)

/-- The arguments a chip holds are these real arrays. -/
structure Holds (c : Dev nD) (p : Params) (x t : Fin 4096 → Fin 1024 → ℝ) : Prop where
  a0 : (m ((c : Thread nD τ).loc main_arg0) : S4096x1024.Idx → EReal) = co fun i => x (i 0) (i 1)
  a1 : (m ((c : Thread nD τ).loc main_arg1) : S4096x1024.Idx → EReal) = co fun i => t (i 0) (i 1)
  a2 : (m ((c : Thread nD τ).loc main_arg2) : S1x1024.Idx → EReal) = co fun i => p.gp (i 1)
  a3 : (m ((c : Thread nD τ).loc main_arg3) : S1x1024.Idx → EReal) = co fun i => p.gq (i 1)
  a4 : (m ((c : Thread nD τ).loc main_arg4) : S1024x2816.Idx → EReal) = co fun i => p.wg (i 0) (i 1)
  a5 : (m ((c : Thread nD τ).loc main_arg5) : S1024x2816.Idx → EReal) = co fun i => p.wu (i 0) (i 1)
  a6 : (m ((c : Thread nD τ).loc main_arg6) : S2816x1024.Idx → EReal) = co fun i => p.wd (i 0) (i 1)

/-- The rows of grid point `n`. -/
def at_ (x : Fin 4096 → Fin 1024 → ℝ) (n : ℕ) (r : Fin 256) : Fin 1024 → ℝ := x ⟨(256 * n + r.val) % 4096, by omega⟩

theorem idx : ∀ t : Fin cfg0.N, win0_0.index t = ![t.val, 0] ∧ win0_1.index t = ![t.val, 0]
    ∧ win0_2.index t = ![0, 0] ∧ win0_3.index t = ![0, 0] ∧ win0_4.index t = ![0, 0] ∧ win0_5.index t = ![0, 0]
    ∧ win0_6.index t = ![0, 0] ∧ t.val < 16 :=
  (by decide +kernel : ∀ t : Fin grid0.N, _)

/-- A block of rows of hidden positions, written as its upper and its lower half. -/
def halves (f : Fin 256 → Fin 2816 → ℝ) : S256x2816.Idx → EReal :=
  View.canon (Val := Elt Ideal) (e := .bf16) [⟨Rect.unit ![0, 1408] ![256, 1408] inb_S256x2816_S256x1408_0_1408, half hi f⟩,
    ⟨Rect.unit ![0, 0] ![256, 1408] inb_S256x2816_S256x1408_0_0, half lo f⟩]

theorem halves_eq (f : Fin 256 → Fin 2816 → ℝ) : halves f = co fun i => f (i 0) (i 1) := by
  funext y
  unfold halves
  canon_tiles x h
  all_goals exact congrArg (fun r : ℝ => (r : EReal)) (congrArg₂ f (Fin.ext h0.symm) (Fin.ext h1.symm))

variable {m} {c : Dev nD} {p : Params} {x tg : Fin 4096 → Fin 1024 → ℝ} (H : Holds m c p x tg) (t : Fin cfg0.N)
include H

theorem in0 : iblk m c 0 t = mat (at_ x t.val) := by
  funext j
  have h := (idx t).2.2.2.2.2.2.2
  refine Eq.trans (b := (m ((c : Thread nD τ).loc main_arg0) : S4096x1024.Idx → EReal)
    (ix2 ⟨(256 * t.val + (j 0).val) % 4096, by omega⟩ (j 1))) ?_ (by rw [H.a0]; rfl)
  have h0 : (j 0).val < 256 := (j 0).isLt
  have e : (256 * t.val + (j 0).val) % 4096 = 256 * t.val + (j 0).val := Nat.mod_eq_of_lt (by omega)
  simp only [e]
  blk_point [iblk, V, idx t]

theorem in1 : iblk m c 1 t = mat (at_ tg t.val) := by
  funext j
  have h := (idx t).2.2.2.2.2.2.2
  refine Eq.trans (b := (m ((c : Thread nD τ).loc main_arg1) : S4096x1024.Idx → EReal)
    (ix2 ⟨(256 * t.val + (j 0).val) % 4096, by omega⟩ (j 1))) ?_ (by rw [H.a1]; rfl)
  have h0 : (j 0).val < 256 := (j 0).isLt
  have e : (256 * t.val + (j 0).val) % 4096 = 256 * t.val + (j 0).val := Nat.mod_eq_of_lt (by omega)
  simp only [e]
  blk_point [iblk, V, idx t]

theorem in2 : iblk m c 2 t = row p.gp := by
  funext j
  refine Eq.trans (b := (m ((c : Thread nD τ).loc main_arg2) : S1x1024.Idx → EReal) (ix2 0 (j 1))) ?_ (by rw [H.a2]; rfl)
  blk_point [iblk, V, idx t]

theorem in3 : iblk m c 3 t = row p.gq := by
  funext j
  refine Eq.trans (b := (m ((c : Thread nD τ).loc main_arg3) : S1x1024.Idx → EReal) (ix2 0 (j 1))) ?_ (by rw [H.a3]; rfl)
  blk_point [iblk, V, idx t]

theorem in4lo : @View.ld (Elt Ideal) S2816x1024 .bf16 (iblk m c 4 t) (Rect.unit ![0, 0] ![1408, 1024] inb_S2816x1024_S1408x1024_0_0) = wIn lo p.wg := by
  funext j
  refine Eq.trans (b := (m ((c : Thread nD τ).loc main_arg4) : S1024x2816.Idx → EReal) (ix2 (j 1) (lo (j 0)))) ?_ (by rw [H.a4]; rfl)
  pointwise [iblk, V, lo]
  blk_point [iblk, V, idx t]

theorem in4hi : @View.ld (Elt Ideal) S2816x1024 .bf16 (iblk m c 4 t) (Rect.unit ![1408, 0] ![1408, 1024] inb_S2816x1024_S1408x1024_1408_0) = wIn hi p.wg := by
  funext j
  refine Eq.trans (b := (m ((c : Thread nD τ).loc main_arg4) : S1024x2816.Idx → EReal) (ix2 (j 1) (hi (j 0)))) ?_ (by rw [H.a4]; rfl)
  pointwise [iblk, V, hi]
  blk_point [iblk, V, idx t]

theorem in5lo : @View.ld (Elt Ideal) S2816x1024 .bf16 (iblk m c 5 t) (Rect.unit ![0, 0] ![1408, 1024] inb_S2816x1024_S1408x1024_0_0) = wIn lo p.wu := by
  funext j
  refine Eq.trans (b := (m ((c : Thread nD τ).loc main_arg5) : S1024x2816.Idx → EReal) (ix2 (j 1) (lo (j 0)))) ?_ (by rw [H.a5]; rfl)
  pointwise [iblk, V, lo]
  blk_point [iblk, V, idx t]

theorem in5hi : @View.ld (Elt Ideal) S2816x1024 .bf16 (iblk m c 5 t) (Rect.unit ![1408, 0] ![1408, 1024] inb_S2816x1024_S1408x1024_1408_0) = wIn hi p.wu := by
  funext j
  refine Eq.trans (b := (m ((c : Thread nD τ).loc main_arg5) : S1024x2816.Idx → EReal) (ix2 (j 1) (hi (j 0)))) ?_ (by rw [H.a5]; rfl)
  pointwise [iblk, V, hi]
  blk_point [iblk, V, idx t]

theorem in6lo : @View.ld (Elt Ideal) S2816x1024 .bf16 (iblk m c 6 t) (Rect.unit ![0, 0] ![1408, 1024] inb_S2816x1024_S1408x1024_0_0) = wOut lo p.wd := by
  funext j
  refine Eq.trans (b := (m ((c : Thread nD τ).loc main_arg6) : S2816x1024.Idx → EReal) (ix2 (lo (j 0)) (j 1))) ?_ (by rw [H.a6]; rfl)
  pointwise [iblk, V, lo]
  blk_point [iblk, V, idx t]

theorem in6hi : @View.ld (Elt Ideal) S2816x1024 .bf16 (iblk m c 6 t) (Rect.unit ![1408, 0] ![1408, 1024] inb_S2816x1024_S1408x1024_1408_0) = wOut hi p.wd := by
  funext j
  refine Eq.trans (b := (m ((c : Thread nD τ).loc main_arg6) : S2816x1024.Idx → EReal) (ix2 (hi (j 0)) (j 1))) ?_ (by rw [H.a6]; rfl)
  pointwise [iblk, V, hi]
  blk_point [iblk, V, idx t]

/-- What a point leaves in the blocks it writes whole: the gradient of its tokens, the normalised tokens, the activation,
    the gradients of the two projections (two halves each) and of the output. -/
theorem blocks : (outsAt0 m c t.val t.isLt).1 = mat (fun r => dx p (at_ x t.val r) (at_ tg t.val r))
    ∧ (outsAt0 m c t.val t.isLt).2.1 = mat (fun r => hid p (at_ x t.val r))
    ∧ (outsAt0 m c t.val t.isLt).2.2.1 = halves (fun r => act p (at_ x t.val r))
    ∧ (outsAt0 m c t.val t.isLt).2.2.2.1 = halves (fun r => dgate p (at_ x t.val r) (at_ tg t.val r))
    ∧ (outsAt0 m c t.val t.isLt).2.2.2.2.1 = halves (fun r => dup p (at_ x t.val r) (at_ tg t.val r))
    ∧ (outsAt0 m c t.val t.isLt).2.2.2.2.2.1 = mat (fun r => dout p (at_ x t.val r) (at_ tg t.val r)) := by
  refine ⟨?_, ?_, ?_, ?_, ?_, ?_⟩ <;> by_cases h0 : t.val % 16 = 0 <;>
    first | rw [outsAt0_A m c t h0] | rw [outsAt0_B m c t h0]
  all_goals
    frame_out
    try simp (disch := decide) only [↓ View.readCov_skip, ↓ View.readCov_cons_toLoadRect]
    simp only [in0 H t, in1 H t, in2 H t, in3 H t, in4lo H t, in4hi H t, in5lo H t, in5hi H t, in6lo H t, in6hi H t]
    simp only [halves, pay5_eq (at_ x t.val), pay6_eq (at_ x t.val), pay7_eq p (at_ x t.val), pay8_eq p (at_ x t.val),
      pay9_eq p (at_ x t.val), pay10_eq p (at_ x t.val), pay11_eq p (at_ x t.val), pay12_eq p (at_ x t.val),
      pay13_eq p (at_ x t.val), pay14_eq p (at_ x t.val), pay15_eq p (at_ x t.val), pay16_eq p (at_ x t.val),
      pay17_eq p (at_ x t.val), pay18_eq p (at_ x t.val) (at_ tg t.val), pay22_eq p (at_ x t.val) (at_ tg t.val),
      pay24_eq p (at_ x t.val) (at_ tg t.val), pay25_eq p (at_ x t.val) (at_ tg t.val),
      pay26_eq p (at_ x t.val) (at_ tg t.val), pay27_eq p (at_ x t.val), pay28_eq p (at_ x t.val),
      pay29_eq p (at_ x t.val) (at_ tg t.val), pay30_eq p (at_ x t.val) (at_ tg t.val), pay31_eq p (at_ x t.val),
      pay32_eq p (at_ x t.val) (at_ tg t.val), pay33_eq p (at_ x t.val) (at_ tg t.val), pay34_eq,
      pay35_eq p (at_ x t.val) (at_ tg t.val), pay37_eq p (at_ x t.val) (at_ tg t.val),
      pay38_eq p (at_ x t.val) (at_ tg t.val), pay1_eq p (at_ x t.val) (at_ tg t.val)]

end Cert.KernelFfnIdeal.Value

end
-- ==== Proof.FfnSums.lean ====
/-
  The three sums the feed-forward kernel carries over its grid points, on finite arguments: the loss, and the gradients
  of the two gains.
-/
module

public import proofs.«01_k».proof.Proof.Gen.KernelFfnIdeal.Frame
public import proofs.«01_k».proof.Proof.Gen.KernelFfnIdeal.Value
public import proofs.«01_k».proof.Proof.FfnBlocks
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelFfnIdeal.Value

open Cert.KernelFfnIdeal Cert.KernelFfnIdeal.Gen Cert.Ffn

variable (m : (ℓ : Loc nD τ sig) → Buf (Elt Ideal) ℓ)

theorem zero2 : k0_pay2 (F := Ideal) = fun _ => ((0 : ℝ) : EReal) := by
  funext j
  pointwise [k0_pay2]
  simp

theorem zero3 : k0_pay3 (F := Ideal) = row fun _ => 0 := by
  funext j
  pointwise [k0_pay3, row, co]
  simp

theorem zero4 : k0_pay4 (F := Ideal) = row fun _ => 0 := by
  funext j
  pointwise [k0_pay4, row, co]
  simp

variable {m} {c : Dev nD} {p : Params} {x tg : Fin 4096 → Fin 1024 → ℝ} (H : Holds m c p x tg) (t : Fin cfg0.N)
include H

/-- The first point starts the sums; -/
theorem sums_first (h0 : t.val % 16 = 0) :
    (outsAt0 m c t.val t.isLt).2.2.2.2.2.2.1 = (fun _ => ((0 + 1 / 2 * ∑ r, sq p (at_ x t.val r) (at_ tg t.val r) : ℝ) : EReal))
    ∧ (outsAt0 m c t.val t.isLt).2.2.2.2.2.2.2.1 = row (fun j => 0 + ∑ r, dgp p (at_ x t.val r) (at_ tg t.val r) j)
    ∧ (outsAt0 m c t.val t.isLt).2.2.2.2.2.2.2.2 = row (fun j => 0 + ∑ r, dgq p (at_ x t.val r) (at_ tg t.val r) j) := by
  refine ⟨?_, ?_, ?_⟩
  all_goals
    rw [outsAt0_A m c t h0]
    frame_out
    simp (disch := decide) only [↓ View.readCov_skip, ↓ View.readCov_cons_toLoadRect]
    simp only [in0 H t, in1 H t, in2 H t, in3 H t, in4lo H t, in4hi H t, in5lo H t, in5hi H t, in6lo H t, in6hi H t]
    simp only [zero2, zero3, zero4, pay19_eq, pay20_eq p (at_ x t.val) (at_ tg t.val), pay21_eq, pay23_eq p (at_ x t.val) (at_ tg t.val),
      pay36_eq p (at_ x t.val) (at_ tg t.val), pay5_eq (at_ x t.val), pay6_eq (at_ x t.val), pay7_eq p (at_ x t.val), pay8_eq p (at_ x t.val),
      pay9_eq p (at_ x t.val), pay10_eq p (at_ x t.val), pay11_eq p (at_ x t.val), pay12_eq p (at_ x t.val),
      pay13_eq p (at_ x t.val), pay14_eq p (at_ x t.val), pay15_eq p (at_ x t.val), pay16_eq p (at_ x t.val),
      pay17_eq p (at_ x t.val), pay18_eq p (at_ x t.val) (at_ tg t.val), pay22_eq p (at_ x t.val) (at_ tg t.val),
      pay24_eq p (at_ x t.val) (at_ tg t.val), pay25_eq p (at_ x t.val) (at_ tg t.val),
      pay26_eq p (at_ x t.val) (at_ tg t.val), pay27_eq p (at_ x t.val), pay28_eq p (at_ x t.val),
      pay29_eq p (at_ x t.val) (at_ tg t.val), pay30_eq p (at_ x t.val) (at_ tg t.val), pay31_eq p (at_ x t.val),
      pay32_eq p (at_ x t.val) (at_ tg t.val), pay33_eq p (at_ x t.val) (at_ tg t.val), pay34_eq,
      pay35_eq p (at_ x t.val) (at_ tg t.val), pay37_eq p (at_ x t.val) (at_ tg t.val),
      pay38_eq p (at_ x t.val) (at_ tg t.val), pay1_eq p (at_ x t.val) (at_ tg t.val)]

/-- each later one adds its tokens. -/
theorem sums_next (h0 : ¬ t.val % 16 = 0) (a : ℝ) (g g' : Fin 1024 → ℝ)
    (ea : (outsAt0 m c (t.val - 1) (Nat.lt_of_le_of_lt (Nat.sub_le _ _) t.isLt)).2.2.2.2.2.2.1 = fun _ => (a : EReal))
    (eg : (outsAt0 m c (t.val - 1) (Nat.lt_of_le_of_lt (Nat.sub_le _ _) t.isLt)).2.2.2.2.2.2.2.1 = row g)
    (eg' : (outsAt0 m c (t.val - 1) (Nat.lt_of_le_of_lt (Nat.sub_le _ _) t.isLt)).2.2.2.2.2.2.2.2 = row g') :
    (outsAt0 m c t.val t.isLt).2.2.2.2.2.2.1 = (fun _ => ((a + 1 / 2 * ∑ r, sq p (at_ x t.val r) (at_ tg t.val r) : ℝ) : EReal))
    ∧ (outsAt0 m c t.val t.isLt).2.2.2.2.2.2.2.1 = row (fun j => g j + ∑ r, dgp p (at_ x t.val r) (at_ tg t.val r) j)
    ∧ (outsAt0 m c t.val t.isLt).2.2.2.2.2.2.2.2 = row (fun j => g' j + ∑ r, dgq p (at_ x t.val r) (at_ tg t.val r) j) := by
  refine ⟨?_, ?_, ?_⟩
  all_goals
    rw [outsAt0_B m c t h0]
    frame_out
    simp (disch := decide) only [↓ View.readCov_skip, ↓ View.readCov_cons_toLoadRect]
    simp only [ea, eg, eg', in0 H t, in1 H t, in2 H t, in3 H t, in4lo H t, in4hi H t, in5lo H t, in5hi H t, in6lo H t, in6hi H t]
    simp only [pay19_eq, pay20_eq p (at_ x t.val) (at_ tg t.val), pay21_eq, pay23_eq p (at_ x t.val) (at_ tg t.val), pay36_eq p (at_ x t.val) (at_ tg t.val),
      pay5_eq (at_ x t.val), pay6_eq (at_ x t.val), pay7_eq p (at_ x t.val), pay8_eq p (at_ x t.val),
      pay9_eq p (at_ x t.val), pay10_eq p (at_ x t.val), pay11_eq p (at_ x t.val), pay12_eq p (at_ x t.val),
      pay13_eq p (at_ x t.val), pay14_eq p (at_ x t.val), pay15_eq p (at_ x t.val), pay16_eq p (at_ x t.val),
      pay17_eq p (at_ x t.val), pay18_eq p (at_ x t.val) (at_ tg t.val), pay22_eq p (at_ x t.val) (at_ tg t.val),
      pay24_eq p (at_ x t.val) (at_ tg t.val), pay25_eq p (at_ x t.val) (at_ tg t.val),
      pay26_eq p (at_ x t.val) (at_ tg t.val), pay27_eq p (at_ x t.val), pay28_eq p (at_ x t.val),
      pay29_eq p (at_ x t.val) (at_ tg t.val), pay30_eq p (at_ x t.val) (at_ tg t.val), pay31_eq p (at_ x t.val),
      pay32_eq p (at_ x t.val) (at_ tg t.val), pay33_eq p (at_ x t.val) (at_ tg t.val), pay34_eq,
      pay35_eq p (at_ x t.val) (at_ tg t.val), pay37_eq p (at_ x t.val) (at_ tg t.val),
      pay38_eq p (at_ x t.val) (at_ tg t.val), pay1_eq p (at_ x t.val) (at_ tg t.val)]

omit t in
/-- The sums after point `n`. -/
theorem sums (n : ℕ) (hn : n < cfg0.N) :
    (outsAt0 m c n hn).2.2.2.2.2.2.1
        = (fun _ => ((∑ s ∈ Finset.range (n + 1), 1 / 2 * ∑ r, sq p (at_ x s r) (at_ tg s r) : ℝ) : EReal))
    ∧ (outsAt0 m c n hn).2.2.2.2.2.2.2.1 = row (fun j => ∑ s ∈ Finset.range (n + 1), ∑ r, dgp p (at_ x s r) (at_ tg s r) j)
    ∧ (outsAt0 m c n hn).2.2.2.2.2.2.2.2 = row (fun j => ∑ s ∈ Finset.range (n + 1), ∑ r, dgq p (at_ x s r) (at_ tg s r) j) := by
  induction n with
  | zero => simpa only [zero_add, Finset.sum_range_one] using sums_first H ⟨0, hn⟩ rfl
  | succ n ih =>
    have h16 : n + 1 < 16 := (idx ⟨n + 1, hn⟩).2.2.2.2.2.2.2
    obtain ⟨ea, eg, eg'⟩ := ih (by omega)
    simpa only [Finset.sum_range_succ _ (n + 1)] using
      sums_next H ⟨n + 1, hn⟩ (by dsimp only; omega) _ _ _ ea eg eg'

end Cert.KernelFfnIdeal.Value

end
-- ==== Proof.FfnKernel.lean ====
/-
  The feed-forward kernel's nine results on finite arguments: every token's row of `Ffn`, and the three sums over tokens.
-/
module

public import proofs.«01_k».proof.Proof.Gen.KernelFfnIdeal.Frame
public import proofs.«01_k».proof.Proof.Gen.KernelFfnIdeal.Value
public import proofs.«01_k».proof.Proof.FfnSums
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelFfnIdeal.Value

open Cert.KernelFfnIdeal Cert.KernelFfnIdeal.Gen Cert.Ffn

variable (m : (ℓ : Loc nD τ sig) → Buf (Elt Ideal) ℓ)

/-- Which rows a point's blocks hold, in each result. -/
theorem odx : ∀ t : Fin cfg0.N, win0_7.index t = ![t.val, 0] ∧ win0_8.index t = ![t.val, 0]
    ∧ win0_9.index t = ![t.val, 0] ∧ win0_10.index t = ![t.val, 0] ∧ win0_11.index t = ![t.val, 0]
    ∧ win0_12.index t = ![t.val, 0] ∧ win0_13.index t = ![0, 0] ∧ win0_14.index t = ![0, 0]
    ∧ win0_15.index t = ![0, 0] ∧ t.val < 16 :=
  (by decide +kernel : ∀ t : Fin grid0.N, _)

/-- A sum over the points and each point's tokens is the sum over all tokens. -/
theorem sum_points (f : Fin 4096 → ℝ) :
    ∑ s ∈ Finset.range 16, ∑ r : Fin 256, f ⟨(256 * s + r.val) % 4096, by omega⟩ = ∑ i, f i := by
  rw [Finset.sum_range, ← Fintype.sum_prod_type' (f := fun (s : Fin 16) (r : Fin 256) => f ⟨(256 * s.val + r.val) % 4096, by omega⟩)]
  refine Fintype.sum_equiv (finProdFinEquiv (m := 16) (n := 256)) _ _ fun q => congrArg f (Fin.ext ?_)
  have h0 := q.1.isLt
  have h1 := q.2.isLt
  show (256 * q.1.val + q.2.val) % 4096 = q.2.val + 256 * q.1.val
  omega

variable {m} {c : Dev nD} {p : Params} {x tg : Fin 4096 → Fin 1024 → ℝ} (H : Holds m c p x tg)
include H

theorem final7 : (dats m 0 c).arrAt 7 (cfgs 0).N = (co fun i => dx p (x (i 0)) (tg (i 0)) (i 1) : S4096x1024.Idx → EReal) := by
  refine (dats m 0 c).arrAt_eq_of_covers 7 _ (by decide +kernel) fun t hf y => ?_
  blk_simp
  rw [after0_7, (blocks H t).1]
  have h := (odx t).2.2.2.2.2.2.2.2.2
  have hy : (y 0).val < 256 := (y 0).isLt
  have e : (256 * t.val + (y 0).val) % 4096 = 256 * t.val + (y 0).val := Nat.mod_eq_of_lt (by omega)
  generalize hX : (co fun i => dx p (x (i 0)) (tg (i 0)) (i 1) : S4096x1024.Idx → EReal) = X
  refine Eq.trans (b := X (ix2 ⟨(256 * t.val + (y 0).val) % 4096, by omega⟩ (y 1))) (by rw [← hX]; rfl) ?_
  simp only [e]
  blk_point [odx t]

theorem final8 : (dats m 0 c).arrAt 8 (cfgs 0).N = (co fun i => hid p (x (i 0)) (i 1) : S4096x1024.Idx → EReal) := by
  refine (dats m 0 c).arrAt_eq_of_covers 8 _ (by decide +kernel) fun t hf y => ?_
  blk_simp
  rw [after0_8, (blocks H t).2.1]
  have h := (odx t).2.2.2.2.2.2.2.2.2
  have hy : (y 0).val < 256 := (y 0).isLt
  have e : (256 * t.val + (y 0).val) % 4096 = 256 * t.val + (y 0).val := Nat.mod_eq_of_lt (by omega)
  generalize hX : (co fun i => hid p (x (i 0)) (i 1) : S4096x1024.Idx → EReal) = X
  refine Eq.trans (b := X (ix2 ⟨(256 * t.val + (y 0).val) % 4096, by omega⟩ (y 1))) (by rw [← hX]; rfl) ?_
  simp only [e]
  blk_point [odx t]

theorem final9 : (dats m 0 c).arrAt 9 (cfgs 0).N = (co fun i => act p (x (i 0)) (i 1) : S4096x2816.Idx → EReal) := by
  refine (dats m 0 c).arrAt_eq_of_covers 9 _ (by decide +kernel) fun t hf y => ?_
  blk_simp
  rw [after0_9, (blocks H t).2.2.1, halves_eq]
  have h := (odx t).2.2.2.2.2.2.2.2.2
  have hy : (y 0).val < 256 := (y 0).isLt
  have e : (256 * t.val + (y 0).val) % 4096 = 256 * t.val + (y 0).val := Nat.mod_eq_of_lt (by omega)
  generalize hX : (co fun i => act p (x (i 0)) (i 1) : S4096x2816.Idx → EReal) = X
  refine Eq.trans (b := X (ix2 ⟨(256 * t.val + (y 0).val) % 4096, by omega⟩ (y 1))) (by rw [← hX]; rfl) ?_
  simp only [e]
  blk_point [odx t]

theorem final10 : (dats m 0 c).arrAt 10 (cfgs 0).N = (co fun i => dgate p (x (i 0)) (tg (i 0)) (i 1) : S4096x2816.Idx → EReal) := by
  refine (dats m 0 c).arrAt_eq_of_covers 10 _ (by decide +kernel) fun t hf y => ?_
  blk_simp
  rw [after0_10, (blocks H t).2.2.2.1, halves_eq]
  have h := (odx t).2.2.2.2.2.2.2.2.2
  have hy : (y 0).val < 256 := (y 0).isLt
  have e : (256 * t.val + (y 0).val) % 4096 = 256 * t.val + (y 0).val := Nat.mod_eq_of_lt (by omega)
  generalize hX : (co fun i => dgate p (x (i 0)) (tg (i 0)) (i 1) : S4096x2816.Idx → EReal) = X
  refine Eq.trans (b := X (ix2 ⟨(256 * t.val + (y 0).val) % 4096, by omega⟩ (y 1))) (by rw [← hX]; rfl) ?_
  simp only [e]
  blk_point [odx t]

theorem final11 : (dats m 0 c).arrAt 11 (cfgs 0).N = (co fun i => dup p (x (i 0)) (tg (i 0)) (i 1) : S4096x2816.Idx → EReal) := by
  refine (dats m 0 c).arrAt_eq_of_covers 11 _ (by decide +kernel) fun t hf y => ?_
  blk_simp
  rw [after0_11, (blocks H t).2.2.2.2.1, halves_eq]
  have h := (odx t).2.2.2.2.2.2.2.2.2
  have hy : (y 0).val < 256 := (y 0).isLt
  have e : (256 * t.val + (y 0).val) % 4096 = 256 * t.val + (y 0).val := Nat.mod_eq_of_lt (by omega)
  generalize hX : (co fun i => dup p (x (i 0)) (tg (i 0)) (i 1) : S4096x2816.Idx → EReal) = X
  refine Eq.trans (b := X (ix2 ⟨(256 * t.val + (y 0).val) % 4096, by omega⟩ (y 1))) (by rw [← hX]; rfl) ?_
  simp only [e]
  blk_point [odx t]

theorem final12 : (dats m 0 c).arrAt 12 (cfgs 0).N = (co fun i => dout p (x (i 0)) (tg (i 0)) (i 1) : S4096x1024.Idx → EReal) := by
  refine (dats m 0 c).arrAt_eq_of_covers 12 _ (by decide +kernel) fun t hf y => ?_
  blk_simp
  rw [after0_12, (blocks H t).2.2.2.2.2]
  have h := (odx t).2.2.2.2.2.2.2.2.2
  have hy : (y 0).val < 256 := (y 0).isLt
  have e : (256 * t.val + (y 0).val) % 4096 = 256 * t.val + (y 0).val := Nat.mod_eq_of_lt (by omega)
  generalize hX : (co fun i => dout p (x (i 0)) (tg (i 0)) (i 1) : S4096x1024.Idx → EReal) = X
  refine Eq.trans (b := X (ix2 ⟨(256 * t.val + (y 0).val) % 4096, by omega⟩ (y 1))) (by rw [← hX]; rfl) ?_
  simp only [e]
  blk_point [odx t]

theorem final13 : (dats m 0 c).arrAt 13 (cfgs 0).N
    = ((fun _ => ((1 / 2 * ∑ i, sq p (x i) (tg i) : ℝ) : EReal)) : S1x128.Idx → EReal) := by
  refine (dats m 0 c).arrAt_eq_of_covers 13 _ (by decide +kernel) fun t hf y => ?_
  have h : t.val = 15 := by have := (flush0_13 t).mp hf; have := (odx t).2.2.2.2.2.2.2.2.2; omega
  blk_simp
  rw [after0_13, (sums H t.val t.isLt).1]
  simp only [h, ← Finset.mul_sum]
  exact congrArg (fun r : ℝ => ((1 / 2 * r : ℝ) : EReal)) (sum_points fun i => sq p (x i) (tg i))

theorem final14 : (dats m 0 c).arrAt 14 (cfgs 0).N = (co fun i => ∑ r, dgp p (x r) (tg r) (i 1) : S1x1024.Idx → EReal) := by
  refine (dats m 0 c).arrAt_eq_of_covers 14 _ (by decide +kernel) fun t hf y => ?_
  have h : t.val = 15 := by have := (flush0_14 t).mp hf; have := (odx t).2.2.2.2.2.2.2.2.2; omega
  blk_simp
  rw [after0_14, (sums H t.val t.isLt).2.1]
  generalize hX : (co fun i => ∑ r, dgp p (x r) (tg r) (i 1) : S1x1024.Idx → EReal) = X
  refine Eq.trans (b := X (ix2 0 (y 1))) ?_ ?_
  · rw [← hX, h]
    exact congrArg (fun r : ℝ => (r : EReal)) (sum_points fun i => dgp p (x i) (tg i) (y 1))
  · blk_point [odx t]

theorem final15 : (dats m 0 c).arrAt 15 (cfgs 0).N = (co fun i => ∑ r, dgq p (x r) (tg r) (i 1) : S1x1024.Idx → EReal) := by
  refine (dats m 0 c).arrAt_eq_of_covers 15 _ (by decide +kernel) fun t hf y => ?_
  have h : t.val = 15 := by have := (flush0_15 t).mp hf; have := (odx t).2.2.2.2.2.2.2.2.2; omega
  blk_simp
  rw [after0_15, (sums H t.val t.isLt).2.2]
  generalize hX : (co fun i => ∑ r, dgq p (x r) (tg r) (i 1) : S1x1024.Idx → EReal) = X
  refine Eq.trans (b := X (ix2 0 (y 1))) ?_ ?_
  · rw [← hX, h]
    exact congrArg (fun r : ℝ => (r : EReal)) (sum_points fun i => dgq p (x i) (tg i) (y 1))
  · blk_point [odx t]

end Cert.KernelFfnIdeal.Value

end
-- ==== Proof.FfnRef.lean ====
/-
  The feed-forward reference's results on finite arguments: every token's row of `Ffn`, and the three sums over tokens.
-/
module

public import proofs.«01_k».proof.Proof.Gen.RefFfnIdeal.Run
public import proofs.«01_k».proof.Proof.FfnReal

@[expose] public section

set_option maxRecDepth 16384

noncomputable section

open Idealize.ShloMosaic Idealize.ShloMosaic.TcCoe Idealize.SL.Sem

namespace Cert.RefFfnIdeal.Value

open Cert.RefFfnIdeal Cert.RefFfnIdeal.Gen Cert.Ffn

/-- The arguments in a chip's buffers are these real arrays. -/
structure Takes (V : Valuation τ sig (Elt Ideal)) (p : Params) (x t : Fin 4096 → Fin 1024 → ℝ) : Prop where
  a0 : (V (Proc.devRef .tc main_arg0) : S4096x1024.Idx → EReal) = co fun i => x (i 0) (i 1)
  a1 : (V (Proc.devRef .tc main_arg1) : S4096x1024.Idx → EReal) = co fun i => t (i 0) (i 1)
  a2 : (V (Proc.devRef .tc main_arg2) : S1x1024.Idx → EReal) = co fun i => p.gp (i 1)
  a3 : (V (Proc.devRef .tc main_arg3) : S1x1024.Idx → EReal) = co fun i => p.gq (i 1)
  a4 : (V (Proc.devRef .tc main_arg4) : S1024x2816.Idx → EReal) = co fun i => p.wg (i 0) (i 1)
  a5 : (V (Proc.devRef .tc main_arg5) : S1024x2816.Idx → EReal) = co fun i => p.wu (i 0) (i 1)
  a6 : (V (Proc.devRef .tc main_arg6) : S2816x1024.Idx → EReal) = co fun i => p.wd (i 0) (i 1)

variable {V : Valuation τ sig (Elt Ideal)} {p : Params} {x tg : Fin 4096 → Fin 1024 → ℝ} (H : Takes V p x tg)
include H

theorem v7_eq : (res_main_v7 V : S4096x1.Idx → EReal) = co fun i => ms (x (i 0)) := by
  rw [res_main_v7, H.a0]
  refine funext fun (j : S4096x1.Idx) => ?_
  pointwise [co]
  simp only [c_half, c_neg_half, c_one, c_two, c_1024, c_eps, mul_co, add_co, sub_co, coe_sum, div_1024, EReal.coe_one.symm, EReal.coe_one.symm]
  rfl

theorem v8_eq : (res_main_v8 V : S4096x1.Idx → EReal) = co fun i => rs (x (i 0)) := by
  rw [res_main_v8, v7_eq H]
  refine funext fun (j : S4096x1.Idx) => ?_
  pointwise [co]
  exact rsqrt_ms _

theorem v13_eq : (res_main_v13 V : S4096x1024.Idx → EReal) = co fun i => nrm (x (i 0)) (i 1) := by
  rw [res_main_v13, v8_eq H, H.a0]
  refine funext fun (j : S4096x1024.Idx) => ?_
  pointwise [co]
  simp only [c_half, c_neg_half, c_one, c_two, c_1024, c_eps, mul_co, add_co, sub_co, coe_sum, div_1024, EReal.coe_one.symm, EReal.coe_one.symm]
  rfl

theorem v14_eq : (res_main_v14 V : S1x1024.Idx → EReal) = co fun i => p.gp (i 1) := by
  rw [res_main_v14, H.a2]
  refine funext fun (j : S1x1024.Idx) => ?_
  pointwise [co]

theorem v16_eq : (res_main_v16 V : S4096x1024.Idx → EReal) = co fun i => hid p (x (i 0)) (i 1) := by
  rw [res_main_v16, v13_eq H, v14_eq H]
  refine funext fun (j : S4096x1024.Idx) => ?_
  pointwise [co]
  simp only [c_half, c_neg_half, c_one, c_two, c_1024, c_eps, mul_co, add_co, sub_co, coe_sum, div_1024, EReal.coe_one.symm, EReal.coe_one.symm]
  rfl

theorem v17_eq : (res_main_v17 V : S4096x2816.Idx → EReal) = co fun i => gate p (x (i 0)) (i 1) := by
  rw [res_main_v17, v16_eq H, H.a4]
  refine funext fun (j : S4096x2816.Idx) => ?_
  pointwise [co]
  simp only [c_half, c_neg_half, c_one, c_two, c_1024, c_eps, mul_co, add_co, sub_co, coe_sum, div_1024, EReal.coe_one.symm, EReal.coe_one.symm]
  rfl

theorem v18_eq : (res_main_v18 V : S4096x2816.Idx → EReal) = co fun i => up p (x (i 0)) (i 1) := by
  rw [res_main_v18, v16_eq H, H.a5]
  refine funext fun (j : S4096x2816.Idx) => ?_
  pointwise [co]
  simp only [c_half, c_neg_half, c_one, c_two, c_1024, c_eps, mul_co, add_co, sub_co, coe_sum, div_1024, EReal.coe_one.symm, EReal.coe_one.symm]
  rfl

theorem v19_2_eq : (res_main_v19_2 V : S4096x2816.Idx → EReal) = co fun i => sg (gate p (x (i 0)) (i 1)) := by
  rw [res_main_v19_2, v17_eq H]
  refine funext fun (j : S4096x2816.Idx) => ?_
  pointwise [co]
  simp only [c_half, c_neg_half, c_one, c_two, c_1024, c_eps, mul_co, add_co, sub_co, coe_sum, div_1024, EReal.coe_one.symm, ← EReal.coe_neg, Ideal.exp_coe]
  rw [div_real _ (one_add_exp_ne _), sg_eq]

theorem v19_0_eq : (res_main_v19_0 V : S4096x2816.Idx → EReal) = co fun i => gate p (x (i 0)) (i 1) * sg (gate p (x (i 0)) (i 1)) := by
  rw [res_main_v19_0, v17_eq H, v19_2_eq H]
  refine funext fun (j : S4096x2816.Idx) => ?_
  pointwise [co]
  simp only [c_half, c_neg_half, c_one, c_two, c_1024, c_eps, mul_co, add_co, sub_co, coe_sum, div_1024, EReal.coe_one.symm, EReal.coe_one.symm]

theorem v20_eq : (res_main_v20 V : S4096x2816.Idx → EReal) = co fun i => act p (x (i 0)) (i 1) := by
  rw [res_main_v20, v19_0_eq H, v18_eq H]
  refine funext fun (j : S4096x2816.Idx) => ?_
  pointwise [co]
  simp only [c_half, c_neg_half, c_one, c_two, c_1024, c_eps, mul_co, add_co, sub_co, coe_sum, div_1024, EReal.coe_one.symm, EReal.coe_one.symm]
  rfl

theorem v21_eq : (res_main_v21 V : S4096x1024.Idx → EReal) = co fun i => out p (x (i 0)) (i 1) := by
  rw [res_main_v21, v20_eq H, H.a6]
  refine funext fun (j : S4096x1024.Idx) => ?_
  pointwise [co]
  simp only [c_half, c_neg_half, c_one, c_two, c_1024, c_eps, mul_co, add_co, sub_co, coe_sum, div_1024, EReal.coe_one.symm, EReal.coe_one.symm]
  rfl

theorem v29_eq : (res_main_v29 V : S4096x1.Idx → EReal) = co fun i => ms (out p (x (i 0))) := by
  rw [res_main_v29, v21_eq H]
  refine funext fun (j : S4096x1.Idx) => ?_
  pointwise [co]
  simp only [c_half, c_neg_half, c_one, c_two, c_1024, c_eps, mul_co, add_co, sub_co, coe_sum, div_1024, EReal.coe_one.symm, EReal.coe_one.symm]
  rfl

theorem v30_eq : (res_main_v30 V : S4096x1.Idx → EReal) = co fun i => rs (out p (x (i 0))) := by
  rw [res_main_v30, v29_eq H]
  refine funext fun (j : S4096x1.Idx) => ?_
  pointwise [co]
  exact rsqrt_ms _

theorem v35_eq : (res_main_v35 V : S4096x1024.Idx → EReal) = co fun i => nrm (out p (x (i 0))) (i 1) := by
  rw [res_main_v35, v21_eq H, v30_eq H]
  refine funext fun (j : S4096x1024.Idx) => ?_
  pointwise [co]
  simp only [c_half, c_neg_half, c_one, c_two, c_1024, c_eps, mul_co, add_co, sub_co, coe_sum, div_1024, EReal.coe_one.symm, EReal.coe_one.symm]
  rfl

theorem v36_eq : (res_main_v36 V : S1x1024.Idx → EReal) = co fun i => p.gq (i 1) := by
  rw [res_main_v36, H.a3]
  refine funext fun (j : S1x1024.Idx) => ?_
  pointwise [co]

theorem v40_eq : (res_main_v40 V : S4096x1024.Idx → EReal) = co fun i => err p (x (i 0)) (tg (i 0)) (i 1) := by
  rw [res_main_v40, v35_eq H, v36_eq H, H.a0, H.a1]
  refine funext fun (j : S4096x1024.Idx) => ?_
  pointwise [co]
  simp only [c_half, c_neg_half, c_one, c_two, c_1024, c_eps, mul_co, add_co, sub_co, coe_sum, div_1024, EReal.coe_one.symm, EReal.coe_one.symm]
  rfl

theorem v54_eq : (res_main_v54 V : S4096x1024.Idx → EReal) = co fun i => dy p (x (i 0)) (tg (i 0)) (i 1) := by
  rw [res_main_v54, v40_eq H]
  refine funext fun (j : S4096x1024.Idx) => ?_
  pointwise [co]
  simp only [c_half, c_neg_half, c_one, c_two, c_1024, c_eps, mul_co, add_co, sub_co, coe_sum, div_1024, EReal.coe_one.symm, EReal.coe_one.symm]
  exact congrArg _ (by unfold dy; ring)

theorem v59_eq : (res_main_v59 V : S4096x1024.Idx → EReal) = co fun i => dn p (x (i 0)) (tg (i 0)) (i 1) := by
  rw [res_main_v59, v54_eq H, v36_eq H]
  refine funext fun (j : S4096x1024.Idx) => ?_
  pointwise [co]
  simp only [c_half, c_neg_half, c_one, c_two, c_1024, c_eps, mul_co, add_co, sub_co, coe_sum, div_1024, EReal.coe_one.symm, EReal.coe_one.symm]
  rfl

theorem v70_eq : (res_main_v70 V : S4096x1024.Idx → EReal)
    = co fun i => (∑ k, (out p (x (i 0))) k * (dn p (x (i 0)) (tg (i 0))) k) * (-(1 / 2) * (rs (out p (x (i 0))) * (1 / ms (out p (x (i 0)))))) * (1 / 1024) := by
  rw [res_main_v70, v21_eq H, v59_eq H, v29_eq H, v30_eq H]
  refine funext fun (j : S4096x1024.Idx) => ?_
  pointwise [co]
  simp only [c_half, c_neg_half, c_one, c_two, c_1024, c_eps, mul_co, add_co, sub_co, coe_sum, div_1024, EReal.coe_one.symm, EReal.coe_one.symm]
  simp only [div_real _ (ms_pos _).ne', mul_co, div_1024, Finset.univ_unique, Finset.sum_singleton]

theorem v74_eq : (res_main_v74 V : S4096x1024.Idx → EReal) = co fun i => dout p (x (i 0)) (tg (i 0)) (i 1) := by
  rw [res_main_v74, v59_eq H, v30_eq H, v21_eq H, v70_eq H]
  refine funext fun (j : S4096x1024.Idx) => ?_
  pointwise [co]
  simp only [c_half, c_neg_half, c_one, c_two, c_1024, c_eps, mul_co, add_co, sub_co, coe_sum, div_1024, EReal.coe_one.symm, EReal.coe_one.symm]
  exact congrArg _ (back_eq _ _ _)

theorem v75_eq : (res_main_v75 V : S4096x2816.Idx → EReal) = co fun i => dact p (x (i 0)) (tg (i 0)) (i 1) := by
  rw [res_main_v75, v74_eq H, H.a6]
  refine funext fun (j : S4096x2816.Idx) => ?_
  pointwise [co]
  simp only [c_half, c_neg_half, c_one, c_two, c_1024, c_eps, mul_co, add_co, sub_co, coe_sum, div_1024, EReal.coe_one.symm, EReal.coe_one.symm]
  rfl

theorem v76_eq : (res_main_v76 V : S4096x2816.Idx → EReal) = co fun i => dup p (x (i 0)) (tg (i 0)) (i 1) := by
  rw [res_main_v76, v75_eq H, v19_0_eq H]
  refine funext fun (j : S4096x2816.Idx) => ?_
  pointwise [co]
  simp only [c_half, c_neg_half, c_one, c_two, c_1024, c_eps, mul_co, add_co, sub_co, coe_sum, div_1024, EReal.coe_one.symm, EReal.coe_one.symm]
  exact congrArg _ (by unfold dup; ring)

theorem v77_eq : (res_main_v77 V : S4096x2816.Idx → EReal) = co fun i => dact p (x (i 0)) (tg (i 0)) (i 1) * up p (x (i 0)) (i 1) := by
  rw [res_main_v77, v75_eq H, v18_eq H]
  refine funext fun (j : S4096x2816.Idx) => ?_
  pointwise [co]
  simp only [c_half, c_neg_half, c_one, c_two, c_1024, c_eps, mul_co, add_co, sub_co, coe_sum, div_1024, EReal.coe_one.symm, EReal.coe_one.symm]

theorem v78_eq : (res_main_v78 V : S4096x2816.Idx → EReal) = co fun i => dgate p (x (i 0)) (tg (i 0)) (i 1) := by
  rw [res_main_v78, v77_eq H, v19_2_eq H, v17_eq H]
  refine funext fun (j : S4096x2816.Idx) => ?_
  pointwise [co]
  simp only [c_half, c_neg_half, c_one, c_two, c_1024, c_eps, mul_co, add_co, sub_co, coe_sum, div_1024, EReal.coe_one.symm, EReal.coe_one.symm]
  exact congrArg _ (by unfold dgate; ring)

theorem v81_eq : (res_main_v81 V : S4096x1024.Idx → EReal) = co fun i => dhid p (x (i 0)) (tg (i 0)) (i 1) := by
  rw [res_main_v81, v76_eq H, v78_eq H, H.a4, H.a5]
  refine funext fun (j : S4096x1024.Idx) => ?_
  pointwise [co]
  simp only [c_half, c_neg_half, c_one, c_two, c_1024, c_eps, mul_co, add_co, sub_co, coe_sum, div_1024, EReal.coe_one.symm, EReal.coe_one.symm]
  exact congrArg _ (add_comm _ _)

theorem v86_eq : (res_main_v86 V : S4096x1024.Idx → EReal) = co fun i => dhid p (x (i 0)) (tg (i 0)) (i 1) * p.gp (i 1) := by
  rw [res_main_v86, v81_eq H, v14_eq H]
  refine funext fun (j : S4096x1024.Idx) => ?_
  pointwise [co]
  simp only [c_half, c_neg_half, c_one, c_two, c_1024, c_eps, mul_co, add_co, sub_co, coe_sum, div_1024, EReal.coe_one.symm, EReal.coe_one.symm]

theorem v97_eq : (res_main_v97 V : S4096x1024.Idx → EReal)
    = co fun i => (∑ k, x (i 0) k * (dhid p (x (i 0)) (tg (i 0)) k * p.gp k)) * (-(1 / 2) * (rs (x (i 0)) * (1 / ms (x (i 0))))) * (1 / 1024) := by
  rw [res_main_v97, v86_eq H, v7_eq H, v8_eq H, H.a0]
  refine funext fun (j : S4096x1024.Idx) => ?_
  pointwise [co]
  simp only [c_half, c_neg_half, c_one, c_two, c_1024, c_eps, mul_co, add_co, sub_co, coe_sum, div_1024, EReal.coe_one.symm, EReal.coe_one.symm]
  simp only [div_real _ (ms_pos _).ne', mul_co, div_1024, Finset.univ_unique, Finset.sum_singleton]

/-- The results' own terms. -/
theorem v102_eq : addf (res_main_v54 V) (addf (addf (mulf (res_main_v86 V) (broadcastInDim S4096x1024 ![0, 1]
      bcast_S4096x1_S4096x1024_0_1 (res_main_v8 V))) (mulf (V (Proc.devRef .tc main_arg0)) (res_main_v97 V)))
      (mulf (res_main_v97 V) (V (Proc.devRef .tc main_arg0))))
    = (co fun i => dx p (x (i 0)) (tg (i 0)) (i 1) : S4096x1024.Idx → EReal) := by
  rw [v54_eq H, v86_eq H, v8_eq H, v97_eq H, H.a0]
  refine funext fun (j : S4096x1024.Idx) => ?_
  pointwise [co]
  simp only [mul_co, add_co]
  exact congrArg _ (congrArg _ (back_eq (x (j 0)) (fun k => dhid p (x (j 0)) (tg (j 0)) k * p.gp k) (j 1)))

theorem v108_eq : broadcastInDim S1x128 ![] bcast_S_S1x128 (mulf (constant S_ .f32 0x3F000000#32) (Host.reduceAdd (Host.divf
      (Host.reduceAdd (mulf (res_main_v40 V) (res_main_v40 V)) (constant S_ .f32 0x00000000#32) reducesTo_S4096x1024_S4096_d1 h_S_)
      (broadcastInDim S4096 ![] bcast_S_S4096 (constant S_ .f32 0x44800000#32))) (constant S_ .f32 0x00000000#32)
      reducesTo_S4096_S_d0 h_S_))
    = ((fun _ => ((1 / 2 * ∑ i, sq p (x i) (tg i) : ℝ) : EReal)) : S1x128.Idx → EReal) := by
  rw [v40_eq H]
  refine funext fun (j : S1x128.Idx) => ?_
  pointwise [co]
  simp only [c_half, c_1024, mul_co, coe_sum, div_1024]
  rfl

theorem v109_eq : broadcastInDim S1x1024 ![1] bcast_S1024_S1x1024_1 (Host.reduceAdd (shapeCast _ (Host.reduceAdd
      (mulf (res_main_v13 V) (res_main_v81 V)) (constant S_ .f32 0x00000000#32) reducesTo_S4096x1024_S1024_d0 h_S_)
      shapeCasts_S1024_S1x1024) (constant S_ .f32 0x00000000#32) reducesTo_S1x1024_S1024_d0 h_S_)
    = (co fun i => ∑ r, dgp p (x r) (tg r) (i 1) : S1x1024.Idx → EReal) := by
  rw [v13_eq H, v81_eq H]
  refine funext fun (j : S1x1024.Idx) => ?_
  pointwise [co]
  simp only [mul_co, coe_sum, Finset.univ_unique, Finset.sum_singleton]
  exact congrArg _ (Finset.sum_congr rfl fun r _ => mul_comm _ _)

theorem v110_eq : broadcastInDim S1x1024 ![1] bcast_S1024_S1x1024_1 (Host.reduceAdd (shapeCast _ (Host.reduceAdd
      (mulf (res_main_v35 V) (res_main_v54 V)) (constant S_ .f32 0x00000000#32) reducesTo_S4096x1024_S1024_d0 h_S_)
      shapeCasts_S1024_S1x1024) (constant S_ .f32 0x00000000#32) reducesTo_S1x1024_S1024_d0 h_S_)
    = (co fun i => ∑ r, dgq p (x r) (tg r) (i 1) : S1x1024.Idx → EReal) := by
  rw [v35_eq H, v54_eq H]
  refine funext fun (j : S1x1024.Idx) => ?_
  pointwise [co]
  simp only [mul_co, coe_sum, Finset.univ_unique, Finset.sum_singleton]
  exact congrArg _ (Finset.sum_congr rfl fun r _ => mul_comm _ _)

end Cert.RefFfnIdeal.Value

end
-- ==== Proof.FfnClaim.lean ====
/-
  The feed-forward call's value claim: on finite arguments kernel and reference return the same nine arrays.
-/
module

public import proofs.«01_k».proof.Defs
public import proofs.«01_k».proof.Proof.Finite
public import proofs.«01_k».proof.Proof.FfnKernel
public import proofs.«01_k».proof.Proof.FfnRef
public import proofs.«01_k».proof.Proof.Gen.KernelFfnIdeal
public import proofs.«01_k».proof.Proof.Gen.RefFfnIdeal
public import proofs.«01_k».proof.Proof.Gen.Pre_finite_ffn
public import Idealize.ShloMosaic.Lib.Claim

@[expose] public section

set_option maxRecDepth 16384

noncomputable section

open Idealize.ShloMosaic Idealize.ShloMosaic.TcCoe Idealize.SL.Sem Cert.Ffn

namespace Cert.Claims

section
open Cert.KernelFfnIdeal Cert.KernelFfnIdeal.Gen Cert.KernelFfnIdeal.Value

variable (m : (ℓ : Loc nD τ sig) → Buf (Elt Ideal) ℓ) (c : Dev nD)

/-- The tokens' rows a chip holds, as reals. -/
def rows : Fin 4096 → Fin 1024 → ℝ := fun r k => ((m ((c : Thread nD τ).loc main_arg0) : S4096x1024.Idx → EReal) (ix2 r k)).toReal

/-- The targets' rows a chip holds, as reals. -/
def goals : Fin 4096 → Fin 1024 → ℝ := fun r k => ((m ((c : Thread nD τ).loc main_arg1) : S4096x1024.Idx → EReal) (ix2 r k)).toReal

/-- The parameters a chip holds, as reals. -/
def pars : Params where
  gp k := ((m ((c : Thread nD τ).loc main_arg2) : S1x1024.Idx → EReal) (ix2 0 k)).toReal
  gq k := ((m ((c : Thread nD τ).loc main_arg3) : S1x1024.Idx → EReal) (ix2 0 k)).toReal
  wg k h := ((m ((c : Thread nD τ).loc main_arg4) : S1024x2816.Idx → EReal) (ix2 k h)).toReal
  wu k h := ((m ((c : Thread nD τ).loc main_arg5) : S1024x2816.Idx → EReal) (ix2 k h)).toReal
  wd h k := ((m ((c : Thread nD τ).loc main_arg6) : S2816x1024.Idx → EReal) (ix2 h k)).toReal

theorem holds (hp : Pre_KernelFfnIdeal_finite_ffn m) : Holds m c (pars m c) (rows m c) (goals m c) := by
  have h := congrFun (hp c) (fun i => i.elim0)
  simp only [Cert.Pre_finite_ffn.fn, Cert.Pre_finite_ffn.fn_part1] at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  have e {a b : ℕ} (f : (⟨2, ![a, b]⟩ : Shape).Idx → EReal) : (co fun i => (f i).toReal) = co fun i => (f (ix2 (i 0) (i 1))).toReal :=
    congrArg co (funext fun i => congrArg (fun k => (f k).toReal) (eq_ix2 i))
  have e1 {b : ℕ} (f : (⟨2, ![1, b]⟩ : Shape).Idx → EReal) : (co fun i => (f i).toReal) = co fun i => (f (ix2 0 (i 1))).toReal :=
    (e f).trans (congrArg co (funext fun i => congrArg (fun k => (f (ix2 k (i 1))).toReal) (Subsingleton.elim (α := Fin 1) (i 0) 0)))
  exact {
    a0 := (Finite.reals _ _ _ _ _ h0).trans (e _)
    a1 := (Finite.reals _ _ _ _ _ h1).trans (e _)
    a2 := (Finite.reals _ _ _ _ _ h2).trans (e1 _)
    a3 := (Finite.reals _ _ _ _ _ h3).trans (e1 _)
    a4 := (Finite.reals _ _ _ _ _ h4).trans (e _)
    a5 := (Finite.reals _ _ _ _ _ h5).trans (e _)
    a6 := (Finite.reals _ _ _ _ _ h6).trans (e _) }

end

/-- The reference's arguments, equal to the kernel's, are the same reals. -/
theorem takes {m : (ℓ : Loc Cert.KernelFfnIdeal.nD Cert.KernelFfnIdeal.τ Cert.KernelFfnIdeal.sig) → Buf (Elt Ideal) ℓ}
    {m' : (ℓ : Loc Cert.RefFfnIdeal.nD Cert.RefFfnIdeal.τ Cert.RefFfnIdeal.sig) → Buf (Elt Ideal) ℓ} {c : Dev Cert.KernelFfnIdeal.nD}
    {p : Params} {x t : Fin 4096 → Fin 1024 → ℝ} (H : Cert.KernelFfnIdeal.Value.Holds m c p x t)
    (h : m' ((c.tc : Thread Cert.RefFfnIdeal.nD Cert.RefFfnIdeal.τ).loc Cert.RefFfnIdeal.main_arg0) = m ((c.tc : Thread Cert.KernelFfnIdeal.nD Cert.KernelFfnIdeal.τ).loc Cert.KernelFfnIdeal.main_arg0)
      ∧ m' ((c.tc : Thread Cert.RefFfnIdeal.nD Cert.RefFfnIdeal.τ).loc Cert.RefFfnIdeal.main_arg1) = m ((c.tc : Thread Cert.KernelFfnIdeal.nD Cert.KernelFfnIdeal.τ).loc Cert.KernelFfnIdeal.main_arg1)
      ∧ m' ((c.tc : Thread Cert.RefFfnIdeal.nD Cert.RefFfnIdeal.τ).loc Cert.RefFfnIdeal.main_arg2) = m ((c.tc : Thread Cert.KernelFfnIdeal.nD Cert.KernelFfnIdeal.τ).loc Cert.KernelFfnIdeal.main_arg2)
      ∧ m' ((c.tc : Thread Cert.RefFfnIdeal.nD Cert.RefFfnIdeal.τ).loc Cert.RefFfnIdeal.main_arg3) = m ((c.tc : Thread Cert.KernelFfnIdeal.nD Cert.KernelFfnIdeal.τ).loc Cert.KernelFfnIdeal.main_arg3)
      ∧ m' ((c.tc : Thread Cert.RefFfnIdeal.nD Cert.RefFfnIdeal.τ).loc Cert.RefFfnIdeal.main_arg4) = m ((c.tc : Thread Cert.KernelFfnIdeal.nD Cert.KernelFfnIdeal.τ).loc Cert.KernelFfnIdeal.main_arg4)
      ∧ m' ((c.tc : Thread Cert.RefFfnIdeal.nD Cert.RefFfnIdeal.τ).loc Cert.RefFfnIdeal.main_arg5) = m ((c.tc : Thread Cert.KernelFfnIdeal.nD Cert.KernelFfnIdeal.τ).loc Cert.KernelFfnIdeal.main_arg5)
      ∧ m' ((c.tc : Thread Cert.RefFfnIdeal.nD Cert.RefFfnIdeal.τ).loc Cert.RefFfnIdeal.main_arg6) = m ((c.tc : Thread Cert.KernelFfnIdeal.nD Cert.KernelFfnIdeal.τ).loc Cert.KernelFfnIdeal.main_arg6)) :
    Cert.RefFfnIdeal.Value.Takes (StableHlo.launchContents m' c) p x t where
  a0 := h.1.trans H.a0
  a1 := h.2.1.trans H.a1
  a2 := h.2.2.1.trans H.a2
  a3 := h.2.2.2.1.trans H.a3
  a4 := h.2.2.2.2.1.trans H.a4
  a5 := h.2.2.2.2.2.1.trans H.a5
  a6 := h.2.2.2.2.2.2.trans H.a6

set_option maxHeartbeats 4000000 in
open Cert.RefFfnIdeal.Value Cert.KernelFfnIdeal.Value in
theorem algebraic_Ffn : Cert.algebraic_KernelFfnIdeal_RefFfnIdeal_pre_finite_ffn := by
  pair_intro
  · run_from Cert.KernelFfnIdeal.Gen.run_main m g
  · run_from Cert.RefFfnIdeal.Value.run m' g'
    · rw [← (hagree c).1]
      exact (v102_eq (takes (holds m c hpre) (hagree c))).trans (final7 (holds m c hpre)).symm
    · exact (v16_eq (takes (holds m c hpre) (hagree c))).trans (final8 (holds m c hpre)).symm
    · exact (v20_eq (takes (holds m c hpre) (hagree c))).trans (final9 (holds m c hpre)).symm
    · exact (v78_eq (takes (holds m c hpre) (hagree c))).trans (final10 (holds m c hpre)).symm
    · exact (v76_eq (takes (holds m c hpre) (hagree c))).trans (final11 (holds m c hpre)).symm
    · exact (v74_eq (takes (holds m c hpre) (hagree c))).trans (final12 (holds m c hpre)).symm
    · exact (v108_eq (takes (holds m c hpre) (hagree c))).trans (final13 (holds m c hpre)).symm
    · exact (v109_eq (takes (holds m c hpre) (hagree c))).trans (final14 (holds m c hpre)).symm
    · exact (v110_eq (takes (holds m c hpre) (hagree c))).trans (final15 (holds m c hpre)).symm

end Cert.Claims

end
-- ==== Proof.FrameIn.lean ====
/-
  The frames of the input weight's gradient: kernel, ideal kernel and reference end without fault, with their arguments unchanged and every
  semaphore counter at zero.
-/
module

public import proofs.«01_k».proof.Defs
public import proofs.«01_k».proof.Proof.Gen.KernelIn
public import proofs.«01_k».proof.Proof.Gen.KernelIn.Frame
public import proofs.«01_k».proof.Proof.Gen.KernelInIdeal
public import proofs.«01_k».proof.Proof.Gen.KernelInIdeal.Frame
public import proofs.«01_k».proof.Proof.Gen.RefInIdeal
public import proofs.«01_k».proof.Proof.Gen.RefInIdeal.Run
public import Idealize.ShloMosaic.Lib.Quiescent

@[expose] public section

set_option maxRecDepth 16384

noncomputable section

open Idealize.ShloMosaic Idealize.SL.Sem

namespace Cert.Claims

theorem frame_KernelIn : Cert.quiescent_KernelIn := fun m ρ _ => Cert.KernelIn.Gen.frame m ρ

theorem frame_KernelInIdeal : Cert.quiescent_KernelInIdeal := fun m ρ _ => Cert.KernelInIdeal.Gen.frame m ρ

theorem frame_RefInIdeal : Cert.quiescent_RefInIdeal := fun m ρ _ =>
  (θ_run Cert.RefInIdeal.defs _ _).mono (fun r h => ⟨fun c => (h c).2, sem_eq_zero_of_no_sems (by decide) r.2⟩)
    (Cert.RefInIdeal.Value.run (F := Ideal) m ρ)

end Cert.Claims

end
-- ==== Proof.Blocks.lean ====
/-
  A sum over all tokens, a block of tokens at a time; stores that cover an index hide the stores before them.
-/
module

public import Idealize.ShloMosaic.PureOps.Ideal
public import Idealize.ShloMosaic.Lib.Pipeline.ValueKit

@[expose] public section

open Idealize.ShloMosaic

namespace Cert.Blocks

/-- Four blocks' sums are the sum over all tokens. -/
theorem four (f : ℕ → EReal) : ∑ s ∈ Finset.range 4, ∑ r : Fin 1024, f (1024 * s + r.val) = ∑ k : Fin 4096, f k.val := by
  have e (s : ℕ) : ∑ r : Fin 1024, f (1024 * s + r.val) = ∑ r ∈ Finset.range 1024, f (1024 * s + r) :=
    Fin.sum_univ_eq_sum_range (fun r => f (1024 * s + r)) 1024
  simp only [e, Finset.sum_range_succ (n := 3), Finset.sum_range_succ (n := 2), Finset.sum_range_succ (n := 1), Finset.sum_range_one]
  rw [Fin.sum_univ_eq_sum_range f 4096, show 4096 = 1024 + 1024 + 1024 + 1024 from rfl, Finset.sum_range_add, Finset.sum_range_add,
    Finset.sum_range_add]
  simp only [Nat.mul_zero, Nat.zero_add]

/-- At an index that one of the last stores covers, the stores before them do not count. -/
theorem canon_last {Val : EltTy → Type} [∀ e, Nonempty (Val e)] {S : Shape} {e : EltTy} (L' : List (View.Piece Val S e)) :
    ∀ (L : List (View.Piece Val S e)) (y : S.Idx), (∃ p ∈ L, y ∈ p.1.set) → View.canon (L ++ L') y = View.canon L y
  | [], _, h => by obtain ⟨p, hp, _⟩ := h; simp at hp
  | p :: L, y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      obtain ⟨q, hq, hy⟩ := h
      refine canon_last L' L y ⟨q, ?_, hy⟩
      rcases List.mem_cons.mp hq with rfl | hq
      · exact absurd hy hm
      · exact hq

end Cert.Blocks

end
-- ==== Proof.InValue.lean ====
/-
  The input weight's gradient: the four blocks of tokens, added one after another, against all tokens at once, and the columns
  each device holds.
-/
module

public import proofs.«01_k».proof.Proof.Gen.KernelInIdeal.Frame
public import proofs.«01_k».proof.Proof.Gen.KernelInIdeal.Value
public import proofs.«01_k».proof.Proof.Gen.RefInIdeal.Run
public import proofs.«01_k».proof.Proof.Blocks
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelInIdeal.Value

open Cert.KernelInIdeal Cert.KernelInIdeal.Gen

variable (m : (ℓ : Loc nD τ sig) → Buf (Elt Ideal) ℓ)

/-- Token `t`'s cotangent at the accumulator's column `j`: scan, gate, the attention's three, the heads' numbers. -/
def col (d₁ : S4096x1536.Idx → EReal) (d₂ d₃ d₄ d₅ : S4096x512.Idx → EReal) (d₆ : S4096x128.Idx → EReal) (j t : ℕ) : EReal :=
  if j < 1536 then d₁ (ix2 ⟨t % 4096, by omega⟩ ⟨j % 1536, by omega⟩)
  else if j < 2048 then d₂ (ix2 ⟨t % 4096, by omega⟩ ⟨(j - 1536) % 512, by omega⟩)
  else if j < 2560 then d₃ (ix2 ⟨t % 4096, by omega⟩ ⟨(j - 2048) % 512, by omega⟩)
  else if j < 3072 then d₄ (ix2 ⟨t % 4096, by omega⟩ ⟨(j - 2560) % 512, by omega⟩)
  else if j < 3584 then d₅ (ix2 ⟨t % 4096, by omega⟩ ⟨(j - 3072) % 512, by omega⟩)
  else d₆ (ix2 ⟨t % 4096, by omega⟩ ⟨(j - 3584) % 128, by omega⟩)

/-- The accumulator's column that holds the weight's column `g`. -/
def place (g : ℕ) : ℕ := if g < 2048 then g else if g < 2056 then g + 1536 else g - 8

/-- Each device's columns of the accumulator. -/
def cut (A : S1024x3712.Idx → EReal) : S8x1024x449.Idx → EReal := fun i =>
  A (ix2 (i 1) ⟨place (449 * (i 0).val + (i 2).val) % 3712, by omega⟩)

/-- The products summed over all tokens. -/
def grad (h : S4096x1024.Idx → EReal) (d₁ : S4096x1536.Idx → EReal) (d₂ d₃ d₄ d₅ : S4096x512.Idx → EReal)
    (d₆ : S4096x128.Idx → EReal) : S1024x3712.Idx → EReal := fun i =>
  ∑ t : Fin 4096, h (ix2 ⟨t.val % 4096, by omega⟩ (i 0)) * col d₁ d₂ d₃ d₄ d₅ d₆ (i 1).val t.val

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![0, 0, 0] ∧ t.val < 4 :=
  (by decide +kernel : ∀ t : Fin grid0.N, _)

variable (c : Dev nD)

abbrev arg0 : S4096x1024.Idx → EReal := m ((c : Thread nD τ).loc main_arg0)
abbrev arg1 : S4096x1536.Idx → EReal := m ((c : Thread nD τ).loc main_arg1)
abbrev arg2 : S4096x512.Idx → EReal := m ((c : Thread nD τ).loc main_arg2)
abbrev arg3 : S4096x512.Idx → EReal := m ((c : Thread nD τ).loc main_arg3)
abbrev arg4 : S4096x512.Idx → EReal := m ((c : Thread nD τ).loc main_arg4)
abbrev arg5 : S4096x512.Idx → EReal := m ((c : Thread nD τ).loc main_arg5)
abbrev arg6 : S4096x128.Idx → EReal := m ((c : Thread nD τ).loc main_arg6)

/-- The cotangent at the launch's own arguments. -/
def cot (j t : ℕ) : EReal := col (arg1 m c) (arg2 m c) (arg3 m c) (arg4 m c) (arg5 m c) (arg6 m c) j t

theorem cot_qkv (j t : ℕ) (h : j < 1536) : cot m c j t = arg1 m c (ix2 ⟨t % 4096, by omega⟩ ⟨j % 1536, by omega⟩) := by
  rw [cot, col, if_pos (show j < 1536 by omega)]

theorem cot_gate (j t : ℕ) (h : 1536 ≤ j) (h' : j < 2048) : cot m c j t = arg2 m c (ix2 ⟨t % 4096, by omega⟩ ⟨(j - 1536) % 512, by omega⟩) := by
  rw [cot, col, if_neg (show ¬ j < 1536 by omega), if_pos (show j < 2048 by omega)]

theorem cot_q (j t : ℕ) (h : 2048 ≤ j) (h' : j < 2560) : cot m c j t = arg3 m c (ix2 ⟨t % 4096, by omega⟩ ⟨(j - 2048) % 512, by omega⟩) := by
  rw [cot, col, if_neg (show ¬ j < 1536 by omega), if_neg (show ¬ j < 2048 by omega), if_pos (show j < 2560 by omega)]

theorem cot_k (j t : ℕ) (h : 2560 ≤ j) (h' : j < 3072) : cot m c j t = arg4 m c (ix2 ⟨t % 4096, by omega⟩ ⟨(j - 2560) % 512, by omega⟩) := by
  rw [cot, col, if_neg (show ¬ j < 1536 by omega), if_neg (show ¬ j < 2048 by omega), if_neg (show ¬ j < 2560 by omega), if_pos (show j < 3072 by omega)]

theorem cot_v (j t : ℕ) (h : 3072 ≤ j) (h' : j < 3584) : cot m c j t = arg5 m c (ix2 ⟨t % 4096, by omega⟩ ⟨(j - 3072) % 512, by omega⟩) := by
  rw [cot, col, if_neg (show ¬ j < 1536 by omega), if_neg (show ¬ j < 2048 by omega), if_neg (show ¬ j < 2560 by omega), if_neg (show ¬ j < 3072 by omega), if_pos (show j < 3584 by omega)]

theorem cot_heads (j t : ℕ) (h : 3584 ≤ j) : cot m c j t = arg6 m c (ix2 ⟨t % 4096, by omega⟩ ⟨(j - 3584) % 128, by omega⟩) := by
  rw [cot, col, if_neg (show ¬ j < 1536 by omega), if_neg (show ¬ j < 2048 by omega), if_neg (show ¬ j < 2560 by omega), if_neg (show ¬ j < 3072 by omega), if_neg (show ¬ j < 3584 by omega)]

/-- A block of tokens' part of the gradient. -/
def part (s j : ℕ) (i : Fin 1024) : EReal :=
  ∑ r : Fin 1024, arg0 m c (ix2 ⟨(1024 * s + r.val) % 4096, by omega⟩ i) * cot m c j (1024 * s + r.val)

theorem sums_first (t : Fin cfg0.N) (h0 : t.val % 4 = 0) : ((outsAt0 m c t.val t.isLt).2 : S1024x3712.Idx → EReal)
    = fun i => part m c 0 (i 1).val (i 0) := by
  rw [outsAt0_A m c t h0 (by omega)]
  frame_out
  simp (disch := decide) only [↓View.readCov_skip, ↓View.readCov_fill]
  funext y
  refine (Cert.Blocks.canon_last [_] [_, _, _, _, _, _] y (View.cover_of_tiledBy _ ![1024, 128] (by sl_kernel_rfl) y)).trans ?_
  canon_tiles x h using View.cover_of_tiledBy _ ![1024, 128] (by sl_kernel_rfl) y
  · pointwise [k0_pay15, k0_pay1, k0_pay2, k0_pay3, k0_pay16, k0_pay17, k0_pay18, k0_pay19, part]
    simp only [cot_heads m c (y 1).val _ (by omega)]
    blk_point [iblk, V, idx t]
  · pointwise [k0_pay15, k0_pay1, k0_pay2, k0_pay3, k0_pay16, k0_pay17, k0_pay18, k0_pay19, part]
    simp only [cot_v m c (y 1).val _ (by omega) (by omega)]
    blk_point [iblk, V, idx t]
  · pointwise [k0_pay15, k0_pay1, k0_pay2, k0_pay3, k0_pay16, k0_pay17, k0_pay18, k0_pay19, part]
    simp only [cot_k m c (y 1).val _ (by omega) (by omega)]
    blk_point [iblk, V, idx t]
  · pointwise [k0_pay15, k0_pay1, k0_pay2, k0_pay3, k0_pay16, k0_pay17, k0_pay18, k0_pay19, part]
    simp only [cot_q m c (y 1).val _ (by omega) (by omega)]
    blk_point [iblk, V, idx t]
  · pointwise [k0_pay15, k0_pay1, k0_pay2, k0_pay3, k0_pay16, k0_pay17, k0_pay18, k0_pay19, part]
    simp only [cot_gate m c (y 1).val _ (by omega) (by omega)]
    blk_point [iblk, V, idx t]
  · pointwise [k0_pay15, k0_pay1, k0_pay2, k0_pay3, k0_pay16, k0_pay17, k0_pay18, k0_pay19, part]
    simp only [cot_qkv m c (y 1).val _ (by omega)]
    blk_point [iblk, V, idx t]

theorem sums_next (t : Fin cfg0.N) (h0 : ¬ t.val % 4 = 0) (Q : S1024x3712.Idx → EReal)
    (hQ : (outsAt0 m c (t.val - 1) (Nat.lt_of_le_of_lt (Nat.sub_le _ _) t.isLt)).2 = Q) : ((outsAt0 m c t.val t.isLt).2 : S1024x3712.Idx → EReal)
    = fun i => Q i + part m c (t.val % 4) (i 1).val (i 0) := by
  by_cases h1 : t.val % 4 = 3
  on_goal 1 => rw [outsAt0_C m c t h0 h1]
  on_goal 2 => rw [outsAt0_B m c t h0 h1]
  all_goals
    frame_out
    simp only [read_unread_whole, hQ]
    funext y
    canon_tiles x h using View.cover_of_tiledBy _ ![1024, 128] (by sl_kernel_rfl) y
    · pointwise [k0_pay1, k0_pay2, k0_pay3, k0_pay16, k0_pay17, k0_pay18, k0_pay19, part]
      simp only [cot_heads m c (y 1).val _ (by omega)]
      blk_point [iblk, V, idx t]
    · pointwise [k0_pay1, k0_pay2, k0_pay3, k0_pay16, k0_pay17, k0_pay18, k0_pay19, part]
      simp only [cot_v m c (y 1).val _ (by omega) (by omega)]
      blk_point [iblk, V, idx t]
    · pointwise [k0_pay1, k0_pay2, k0_pay3, k0_pay16, k0_pay17, k0_pay18, k0_pay19, part]
      simp only [cot_k m c (y 1).val _ (by omega) (by omega)]
      blk_point [iblk, V, idx t]
    · pointwise [k0_pay1, k0_pay2, k0_pay3, k0_pay16, k0_pay17, k0_pay18, k0_pay19, part]
      simp only [cot_q m c (y 1).val _ (by omega) (by omega)]
      blk_point [iblk, V, idx t]
    · pointwise [k0_pay1, k0_pay2, k0_pay3, k0_pay16, k0_pay17, k0_pay18, k0_pay19, part]
      simp only [cot_gate m c (y 1).val _ (by omega) (by omega)]
      blk_point [iblk, V, idx t]
    · pointwise [k0_pay1, k0_pay2, k0_pay3, k0_pay16, k0_pay17, k0_pay18, k0_pay19, part]
      simp only [cot_qkv m c (y 1).val _ (by omega)]
      blk_point [iblk, V, idx t]

end Cert.KernelInIdeal.Value

end
-- ==== Proof.InStored.lean ====
/-
  The input weight's gradient: what the last block of tokens writes, and the whole array.
-/
module

public import proofs.«01_k».proof.Proof.Gen.KernelInIdeal.Frame
public import proofs.«01_k».proof.Proof.Gen.KernelInIdeal.Value
public import proofs.«01_k».proof.Proof.Gen.RefInIdeal.Run
public import proofs.«01_k».proof.Proof.Blocks
public import proofs.«01_k».proof.Proof.InValue
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelInIdeal.Value

open Cert.KernelInIdeal Cert.KernelInIdeal.Gen

variable (m : (ℓ : Loc nD τ sig) → Buf (Elt Ideal) ℓ)

variable (c : Dev nD)

theorem sums : ∀ (n : ℕ) (hn : n < 4) (hq : n < cfg0.N), ((outsAt0 m c n hq).2 : S1024x3712.Idx → EReal)
    = fun i => ∑ s ∈ Finset.range (n + 1), part m c s (i 1).val (i 0)
  | 0, hn, hq => by
    rw [sums_first m c ⟨0, hq⟩ (by simp)]
    funext i
    rw [Finset.sum_range_one]
  | n + 1, hn, hq => by
    rw [sums_next m c ⟨n + 1, hq⟩ (by simp only; omega) _ (sums n (by omega) (by omega))]
    funext i
    rw [Finset.sum_range_succ _ (n + 1), show (n + 1) % 4 = n + 1 from by omega]

/-- An array cut from what a list of stores leaves: it is enough to know the stores' result by a name. -/
theorem cut_of (L : List (View.Piece (Elt Ideal) S8x1024x449 .bf16)) (L' : List (View.Piece (Elt Ideal) S1024x3712 .f32))
    (h : ∀ A : S1024x3712.Idx → EReal, View.canon L' = A → (View.canon L : S8x1024x449.Idx → EReal) = cut A) :
    (View.canon L : S8x1024x449.Idx → EReal) = cut (View.canon L') :=
  h _ rfl

theorem stored (t : Fin cfg0.N) (h0 : ¬ t.val % 4 = 0) (h1 : t.val % 4 = 3) :
    ((outsAt0 m c t.val t.isLt).1 : S8x1024x449.Idx → EReal) = cut (outsAt0 m c t.val t.isLt).2 := by
  rw [outsAt0_C m c t h0 h1]
  frame_out
  refine cut_of _ _ fun A hA => ?_
  simp only [↓View.readCov_eq_canon', ↓hA]
  clear hA
  funext y
  canon_tiles x h using View.cover_of_tiledBy _ ![1, 1024, 1] (by sl_kernel_rfl) y
  all_goals
    pointwise [k0_pay4, k0_pay5, k0_pay6, k0_pay7, k0_pay8, k0_pay9, k0_pay10, k0_pay11, k0_pay12, k0_pay13, k0_pay14, cut]
    refine congrArg A (congrArg₂ ix2 (Fin.ext (by omega)) (Fin.ext ?_))
    simp only [place]
    split_ifs <;> omega

theorem grad_at (t : Fin cfg0.N) (h : t.val = 3) : ((outsAt0 m c t.val t.isLt).2 : S1024x3712.Idx → EReal)
    = grad (arg0 m c) (arg1 m c) (arg2 m c) (arg3 m c) (arg4 m c) (arg5 m c) (arg6 m c) := by
  obtain ⟨n, hn⟩ := t
  obtain rfl : n = 3 := h
  rw [sums m c 3 (by omega) hn]
  funext i
  simp only [part]
  rw [Cert.Blocks.four fun k => arg0 m c (ix2 ⟨k % 4096, by omega⟩ (i 0)) * cot m c (i 1).val k]
  rfl

theorem grad_all : (dats m 0 c).arrAt 7 (cfgs 0).N
    = cut (grad (arg0 m c) (arg1 m c) (arg2 m c) (arg3 m c) (arg4 m c) (arg5 m c) (arg6 m c)) := by
  refine (dats m 0 c).arrAt_eq_of_covers 7 _ (by decide +kernel) fun t hf y => ?_
  have h : t.val = 3 := (by decide +kernel : ∀ t : Fin grid0.N, (cfg0.win 7).flush t = true → t.val = 3) t hf
  blk_simp
  rw [after0_7, stored m c t (by omega) (by omega), grad_at m c t h]
  generalize cut (grad (arg0 m c) (arg1 m c) (arg2 m c) (arg3 m c) (arg4 m c) (arg5 m c) (arg6 m c)) = X
  blk_point [idx t]

end Cert.KernelInIdeal.Value

end
-- ==== Proof.InClaim.lean ====
/-
  The value claim of the input weight's gradient: kernel and reference return the same array.
-/
module

public import proofs.«01_k».proof.Defs
public import proofs.«01_k».proof.Proof.InStored
public import proofs.«01_k».proof.Proof.Gen.KernelInIdeal
public import proofs.«01_k».proof.Proof.Gen.RefInIdeal
public import Idealize.ShloMosaic.Lib.Claim

@[expose] public section

set_option maxRecDepth 16384

noncomputable section

open Idealize.ShloMosaic Idealize.SL.Sem

namespace Cert.Claims

open Cert.KernelInIdeal.Value in
/-- The weight's column `k` of the cotangents side by side is the accumulator's column for it. -/
theorem columns {d₁ a₁ : Cert.KernelInIdeal.S4096x1536.Idx → EReal} {d₂ d₃ d₄ d₅ a₂ a₃ a₄ a₅ : Cert.KernelInIdeal.S4096x512.Idx → EReal}
    {d₆ a₆ : Cert.KernelInIdeal.S4096x128.Idx → EReal} (e₁ : d₁ = a₁) (e₂ : d₂ = a₂) (e₃ : d₃ = a₃) (e₄ : d₄ = a₄) (e₅ : d₅ = a₅)
    (e₆ : d₆ = a₆) (k : ℕ) (hk : k < 3592) (x : Fin 4096) :
    (if h₁ : k < 1536 then d₁ (ix2 x ⟨k, h₁⟩)
      else if h₂ : k - 1536 < 512 then d₂ (ix2 x ⟨k - 1536, h₂⟩)
      else if h₃ : k - 1536 - 512 < 8 then d₆ (ix2 x ⟨k - 1536 - 512, by omega⟩)
      else if h₄ : k - 1536 - 512 - 8 < 512 then d₃ (ix2 x ⟨k - 1536 - 512 - 8, h₄⟩)
      else if h₅ : k - 1536 - 512 - 8 - 512 < 512 then d₄ (ix2 x ⟨k - 1536 - 512 - 8 - 512, h₅⟩)
      else d₅ (ix2 x ⟨k - 1536 - 512 - 8 - 512 - 512, by omega⟩))
    = col a₁ a₂ a₃ a₄ a₅ a₆ (place k) x.val := by
  subst e₁ e₂ e₃ e₄ e₅ e₆
  have hx : x.val % 4096 = x.val := Nat.mod_eq_of_lt x.isLt
  simp only [place, col]
  split_ifs
  all_goals first
    | omega
    | exact congrArg _ (congrArg₂ ix2 (Fin.ext hx.symm) (Fin.ext (by simp only; omega)))

theorem algebraic_In : Cert.algebraic_KernelInIdeal_RefInIdeal := by
  pair_intro
  · run_from Cert.KernelInIdeal.Gen.run_main m g
  · run_from Cert.RefInIdeal.Value.run m' g'
    refine Eq.trans ?_ (Cert.KernelInIdeal.Value.grad_all m c).symm
    funext i
    pointwise [Cert.KernelInIdeal.Value.cut, Cert.KernelInIdeal.Value.grad]
    obtain ⟨e0, e1, e2, e3, e4, e5, e6⟩ := hagree c
    have b0 : (i 0).val < 8 := (i 0).isLt
    have b2 : (i 2).val < 449 := (i 2).isLt
    refine Finset.sum_congr rfl fun x _ => ?_
    rw [mul_comm]
    have hx : x.val % 4096 = x.val := Nat.mod_eq_of_lt x.isLt
    refine congrArg₂ (· * ·) (congrArg _ (congrArg₂ ix2 (Fin.ext hx.symm) rfl)) ?_
    change _ = Cert.KernelInIdeal.Value.cot m c _ _
    have hg : Cert.KernelInIdeal.Value.place (449 * (i 0).val + (i 2).val) % 3712 = Cert.KernelInIdeal.Value.place ((i 0).val * 449 + (i 2).val) := by
      rw [Nat.mul_comm]; simp only [Cert.KernelInIdeal.Value.place]; split_ifs <;> omega
    rw [hg]
    exact columns e1 e2 e3 e4 e5 e6 _ (by omega) x

end Cert.Claims

end
-- ==== Proof.FrameOut.lean ====
/-
  The frames of the output weight's gradient: kernel, ideal kernel and reference end without fault, with their arguments unchanged and every
  semaphore counter at zero.
-/
module

public import proofs.«01_k».proof.Defs
public import proofs.«01_k».proof.Proof.Gen.KernelOut
public import proofs.«01_k».proof.Proof.Gen.KernelOut.Frame
public import proofs.«01_k».proof.Proof.Gen.KernelOutIdeal
public import proofs.«01_k».proof.Proof.Gen.KernelOutIdeal.Frame
public import proofs.«01_k».proof.Proof.Gen.RefOutIdeal
public import proofs.«01_k».proof.Proof.Gen.RefOutIdeal.Run
public import Idealize.ShloMosaic.Lib.Quiescent

@[expose] public section

set_option maxRecDepth 16384

noncomputable section

open Idealize.ShloMosaic Idealize.SL.Sem

namespace Cert.Claims

theorem frame_KernelOut : Cert.quiescent_KernelOut := fun m ρ _ => Cert.KernelOut.Gen.frame m ρ

theorem frame_KernelOutIdeal : Cert.quiescent_KernelOutIdeal := fun m ρ _ => Cert.KernelOutIdeal.Gen.frame m ρ

theorem frame_RefOutIdeal : Cert.quiescent_RefOutIdeal := fun m ρ _ =>
  (θ_run Cert.RefOutIdeal.defs _ _).mono (fun r h => ⟨fun c => (h c).2, sem_eq_zero_of_no_sems (by decide) r.2⟩)
    (Cert.RefOutIdeal.Value.run (F := Ideal) m ρ)

end Cert.Claims

end
-- ==== Proof.OutValue.lean ====
/-
  The gradient of the mixer's output weight: the running sums over four blocks of tokens against the sum over all tokens.
-/
module

public import proofs.«01_k».proof.Proof.Gen.KernelOutIdeal.Frame
public import proofs.«01_k».proof.Proof.Gen.KernelOutIdeal.Value
public import proofs.«01_k».proof.Proof.Gen.RefOutIdeal.Run
public import proofs.«01_k».proof.Proof.Blocks
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelOutIdeal.Value

open Cert.KernelOutIdeal Cert.KernelOutIdeal.Gen

variable (m : (ℓ : Loc nD τ sig) → Buf (Elt Ideal) ℓ)

/-- Token `t`'s lane `k` of the heads of scan and attention, side by side. -/
def lanes (a b : S4096x512.Idx → EReal) (k : Fin 1024) (t : ℕ) : EReal :=
  if k.val < 512 then a (ix2 ⟨t % 4096, by omega⟩ ⟨k.val % 512, by omega⟩) else b (ix2 ⟨t % 4096, by omega⟩ ⟨k.val % 512, by omega⟩)

/-- Token `t`'s entry of a cotangent. -/
def entry (d : S4096x1024.Idx → EReal) (j : ℕ) (t : ℕ) : EReal := d (ix2 ⟨t % 4096, by omega⟩ ⟨j % 1024, by omega⟩)

theorem entry_mod (d : S4096x1024.Idx → EReal) (j t : ℕ) : entry d (j % 1024) t = entry d j t := by
  simp only [entry, Nat.mod_mod]

/-- The weight's gradient. -/
def grad (a b : S4096x512.Idx → EReal) (d : S4096x1024.Idx → EReal) : S1024x1024.Idx → EReal := fun i =>
  ∑ t : Fin 4096, lanes a b (i 0) t.val * entry d (i 1).val t.val

theorem idx : ∀ t : Fin cfg0.N, win0_0.index t = ![t.val % 4, 0] ∧ win0_1.index t = ![t.val % 4, 0]
    ∧ win0_2.index t = ![t.val % 4, t.val / 4] ∧ win0_3.index t = ![0, t.val / 4] ∧ t.val / 4 < 2 :=
  (by decide +kernel : ∀ t : Fin grid0.N, _)

variable (c : Dev nD)

abbrev argA : S4096x512.Idx → EReal := m ((c : Thread nD τ).loc main_arg0)
abbrev argB : S4096x512.Idx → EReal := m ((c : Thread nD τ).loc main_arg1)
abbrev argD : S4096x1024.Idx → EReal := m ((c : Thread nD τ).loc main_arg2)

/-- A block of tokens' part of the gradient. -/
def part (s j : ℕ) (i : Fin 1024) : EReal := ∑ r : Fin 1024, lanes (argA m c) (argB m c) i (1024 * s + r.val) * entry (argD m c) j (1024 * s + r.val)

theorem sums_first (t : Fin cfg0.N) (h0 : t.val % 4 = 0) : ((outsAt0 m c t.val t.isLt).2 : S1024x512.Idx → EReal)
    = fun i => part m c 0 (512 * (t.val / 4) + (i 1).val) (i 0) := by
  rw [outsAt0_A m c t h0 (by omega)]
  frame_out
  funext y
  refine (Cert.Blocks.canon_last [_] [_, _] y (View.cover_of_tiled_head _ _ _ (by rfl) y)).trans ?_
  canon_tiles x h
  · simp (disch := decide) only [View.readCov_skip, View.readCov_fill]
    pointwise [k0_pay1, k0_pay2, k0_pay4, part, lanes, entry]
    simp only [show ¬ (y 0).val < 512 from by omega, if_false]
    blk_point [iblk, V, idx t]
  · simp (disch := decide) only [View.readCov_skip, View.readCov_fill]
    pointwise [k0_pay1, k0_pay2, k0_pay3, part, lanes, entry]
    simp only [show (y 0).val < 512 from by omega, if_true]
    blk_point [iblk, V, idx t]

theorem sums_next (t : Fin cfg0.N) (h0 : ¬ t.val % 4 = 0) (P : S1024x512.Idx → EReal)
    (hP : (outsAt0 m c (t.val - 1) (Nat.lt_of_le_of_lt (Nat.sub_le _ _) t.isLt)).2 = P) : ((outsAt0 m c t.val t.isLt).2 : S1024x512.Idx → EReal)
    = fun i => P i + part m c (t.val % 4) (512 * (t.val / 4) + (i 1).val) (i 0) := by
  by_cases h1 : t.val % 4 = 3
  on_goal 1 => rw [outsAt0_C m c t h0 h1]
  on_goal 2 => rw [outsAt0_B m c t h0 h1]
  all_goals
    frame_out
    funext y
    canon_tiles x h
    · simp only [read_unread_whole, hP]
      pointwise [k0_pay2, k0_pay4, part, lanes, entry]
      simp only [show ¬ (y 0).val < 512 from by omega, if_false]
      blk_point [iblk, V, idx t]
    · simp only [read_unread_whole, hP]
      pointwise [k0_pay2, k0_pay3, part, lanes, entry]
      simp only [show (y 0).val < 512 from by omega, if_true]
      blk_point [iblk, V, idx t]

theorem sums (q : ℕ) : ∀ (n : ℕ) (hn : n < 4) (hq : 4 * q + n < cfg0.N), ((outsAt0 m c (4 * q + n) hq).2 : S1024x512.Idx → EReal)
    = fun i => ∑ s ∈ Finset.range (n + 1), part m c s (512 * q + (i 1).val) (i 0)
  | 0, hn, hq => by
    rw [sums_first m c ⟨4 * q + 0, hq⟩ (by simp)]
    funext i
    rw [Finset.sum_range_one, show (4 * q + 0) / 4 = q from by omega]
  | n + 1, hn, hq => by
    rw [sums_next m c ⟨4 * q + (n + 1), hq⟩ (by simp only; omega) _ (sums q n (by omega) (by omega))]
    funext i
    rw [Finset.sum_range_succ _ (n + 1), show (4 * q + (n + 1)) / 4 = q from by omega, show (4 * q + (n + 1)) % 4 = n + 1 from by omega]

theorem stored (t : Fin cfg0.N) (h0 : ¬ t.val % 4 = 0) (h1 : t.val % 4 = 3) :
    ((outsAt0 m c t.val t.isLt).1 : S1024x512.Idx → EReal) = (outsAt0 m c t.val t.isLt).2 := by
  rw [outsAt0_C m c t h0 h1]
  frame_out
  rw [View.readCov_eq_canon']
  funext y
  pointwise [k0_pay5]

theorem whole (t : Fin cfg0.N) (hf : (cfg0.win 3).flush t = true) : ((outsAt0 m c t.val t.isLt).1 : S1024x512.Idx → EReal)
    = fun i => grad (argA m c) (argB m c) (argD m c) (ix2 (i 0) ⟨(512 * (t.val / 4) + (i 1).val) % 1024, by omega⟩) := by
  have h : t.val % 4 = 3 := (by decide +kernel : ∀ t : Fin grid0.N, (cfg0.win 3).flush t = true → t.val % 4 = 3) t hf
  rw [stored m c t (by omega) h]
  have e : t.val = 4 * (t.val / 4) + 3 := by omega
  have hs := sums m c (t.val / 4) 3 (by omega) (e ▸ t.isLt)
  funext i
  have hi := congrFun hs i
  simp only [← e] at hi
  rw [hi]
  simp only [part]
  rw [Cert.Blocks.four fun k => lanes (argA m c) (argB m c) (i 0) k * entry (argD m c) (512 * (t.val / 4) + (i 1).val) k]
  change _ = ∑ k : Fin 4096, lanes (argA m c) (argB m c) (i 0) k.val * entry (argD m c) ((512 * (t.val / 4) + (i 1).val) % 1024) k.val
  simp only [entry_mod]

theorem grad_all : (dats m 0 c).arrAt 3 (cfgs 0).N = grad (argA m c) (argB m c) (argD m c) := by
  refine (dats m 0 c).arrAt_eq_of_covers 3 _ (by decide +kernel) fun t hf y => ?_
  blk_simp
  rw [after0_3, whole m c t hf]
  generalize grad (argA m c) (argB m c) (argD m c) = X
  blk_point [idx t]

end Cert.KernelOutIdeal.Value

end
-- ==== Proof.OutClaim.lean ====
/-
  The value claim of the output weight's gradient: kernel and reference return the same array.
-/
module

public import proofs.«01_k».proof.Defs
public import proofs.«01_k».proof.Proof.OutValue
public import proofs.«01_k».proof.Proof.Gen.KernelOutIdeal
public import proofs.«01_k».proof.Proof.Gen.RefOutIdeal
public import Idealize.ShloMosaic.Lib.Claim

@[expose] public section

set_option maxRecDepth 16384

noncomputable section

open Idealize.ShloMosaic Idealize.SL.Sem

namespace Cert.Claims

theorem algebraic_Out : Cert.algebraic_KernelOutIdeal_RefOutIdeal := by
  pair_intro
  · run_from Cert.KernelOutIdeal.Gen.run_main m g
  · run_from Cert.RefOutIdeal.Value.run m' g'
    refine Eq.trans ?_ (Cert.KernelOutIdeal.Value.grad_all m c).symm
    funext i
    pointwise [Cert.KernelOutIdeal.Value.grad, Cert.KernelOutIdeal.Value.lanes, Cert.KernelOutIdeal.Value.entry]
    refine Finset.sum_congr rfl fun x _ => ?_
    rw [mul_comm]
    have hx : x.val % 4096 = x.val := Nat.mod_eq_of_lt x.isLt
    have h1 : (i 1).val % 1024 = (i 1).val := Nat.mod_eq_of_lt (i 1).isLt
    have h0 : (i 0).val < 1024 := (i 0).isLt
    refine congrArg₂ (· * ·) ?_ (congrArg _ (congrArg₂ ix2 (Fin.ext hx.symm) (Fin.ext h1.symm)))
    split
    · exact congrArg _ (congrArg₂ ix2 (Fin.ext hx.symm) (Fin.ext (show (i 0).val = (i 0).val % 512 by omega)))
    · exact congrArg _ (congrArg₂ ix2 (Fin.ext hx.symm) (Fin.ext (show (i 0).val - 512 = (i 0).val % 512 by omega)))

end Cert.Claims

end
-- ==== Proof.FrameProj.lean ====
/-
  The frames of the projection: kernel, ideal kernel and reference end without fault, with their arguments unchanged and every
  semaphore counter at zero.
-/
module

public import proofs.«01_k».proof.Defs
public import proofs.«01_k».proof.Proof.Gen.KernelProj
public import proofs.«01_k».proof.Proof.Gen.KernelProj.Frame
public import proofs.«01_k».proof.Proof.Gen.KernelProjIdeal
public import proofs.«01_k».proof.Proof.Gen.KernelProjIdeal.Frame
public import proofs.«01_k».proof.Proof.Gen.RefProjIdeal
public import proofs.«01_k».proof.Proof.Gen.RefProjIdeal.Run
public import Idealize.ShloMosaic.Lib.Quiescent

@[expose] public section

set_option maxRecDepth 16384

noncomputable section

open Idealize.ShloMosaic Idealize.SL.Sem

namespace Cert.Claims

theorem frame_KernelProj : Cert.quiescent_KernelProj := fun m ρ _ => Cert.KernelProj.Gen.frame m ρ

theorem frame_KernelProjIdeal : Cert.quiescent_KernelProjIdeal := fun m ρ _ => Cert.KernelProjIdeal.Gen.frame m ρ

theorem frame_RefProjIdeal : Cert.quiescent_RefProjIdeal := fun m ρ _ =>
  (θ_run Cert.RefProjIdeal.defs _ _).mono (fun r h => ⟨fun c => (h c).2.2, sem_eq_zero_of_no_sems (by decide) r.2⟩)
    (Cert.RefProjIdeal.Value.run (F := Ideal) m ρ)

end Cert.Claims

end
-- ==== Proof.ProjValue.lean ====
/-
  The projection: each block of tokens, normalised, times the weight, against all tokens at once.
-/
module

public import proofs.«01_k».proof.Proof.Gen.KernelProjIdeal.Frame
public import proofs.«01_k».proof.Proof.Gen.KernelProjIdeal.Value
public import proofs.«01_k».proof.Proof.Gen.RefProjIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelProjIdeal.Value

open Cert.KernelProjIdeal Cert.KernelProjIdeal.Gen

variable (m : (ℓ : Loc nD τ sig) → Buf (Elt Ideal) ℓ)

/-- A token's entry, normalised. -/
def normed (x : S4096x1024.Idx → EReal) (g : S1x1024.Idx → EReal) : S4096x1024.Idx → EReal := fun i =>
  x (ix2 (i 0) (i 1)) * Ideal.rsqrt (Ideal.div (∑ k : Fin 1024, x (ix2 (i 0) k) * x (ix2 (i 0) k)) (Ideal.ofBits .f32 0x44800000#32) + Ideal.ofBits .f32 0x358637BD#32)
    * g (ix2 0 (i 1))

/-- A token's projection. -/
def projected (x : S4096x1024.Idx → EReal) (g : S1x1024.Idx → EReal) (w : S1024x3712.Idx → EReal) : S4096x3712.Idx → EReal := fun i =>
  ∑ k : Fin 1024, normed x g (ix2 (i 0) k) * w (ix2 k (i 1))

theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ t.val < 8 :=
  (by decide +kernel : ∀ t : Fin grid0.N, _)

variable (c : Dev nD)

theorem normed_all : (dats m 0 c).arrAt 4 (cfgs 0).N
    = normed (m ((c : Thread nD τ).loc main_arg0)) (m ((c : Thread nD τ).loc main_arg1)) := by
  refine (dats m 0 c).arrAt_eq_of_covers 4 _ (by decide +kernel) fun t hf y => ?_
  blk_simp
  rw [after0_4, outsAt0]
  frame_out
  pointwise [k0_pay1, normed]
  blk_point [iblk, V, idx t]

theorem projected_all : (dats m 0 c).arrAt 3 (cfgs 0).N
    = projected (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, outsAt0]
  frame_out
  pointwise [k0_pay1, k0_pay2, projected, normed]
  blk_point [iblk, V, idx t]

end Cert.KernelProjIdeal.Value

end
-- ==== Proof.ProjClaim.lean ====
/-
  The projection's value claim: kernel and reference return the same arrays.
-/
module

public import proofs.«01_k».proof.Defs
public import proofs.«01_k».proof.Proof.ProjValue
public import proofs.«01_k».proof.Proof.Gen.KernelProjIdeal
public import proofs.«01_k».proof.Proof.Gen.RefProjIdeal
public import Idealize.ShloMosaic.Lib.Claim

@[expose] public section

set_option maxRecDepth 16384

noncomputable section

open Idealize.ShloMosaic Idealize.SL.Sem

namespace Cert.Claims

theorem algebraic_Proj : Cert.algebraic_KernelProjIdeal_RefProjIdeal := by
  pair_intro
  · run_from Cert.KernelProjIdeal.Gen.run_main m g
  · run_from Cert.RefProjIdeal.Value.run m' g'
    · refine Eq.trans ?_ (Cert.KernelProjIdeal.Value.projected_all m c).symm
      funext i
      pointwise [Cert.KernelProjIdeal.Value.projected, Cert.KernelProjIdeal.Value.normed]
    · refine Eq.trans ?_ (Cert.KernelProjIdeal.Value.normed_all m c).symm
      funext i
      pointwise [Cert.KernelProjIdeal.Value.projected, Cert.KernelProjIdeal.Value.normed]

end Cert.Claims

end
-- ==== Proof.FrameMix.lean ====
/-
  The frames of the mixer's output product: kernel, ideal kernel and reference end without fault, with their arguments unchanged and every
  semaphore counter at zero.
-/
module

public import proofs.«01_k».proof.Defs
public import proofs.«01_k».proof.Proof.Gen.KernelMix
public import proofs.«01_k».proof.Proof.Gen.KernelMix.Frame
public import proofs.«01_k».proof.Proof.Gen.KernelMixIdeal
public import proofs.«01_k».proof.Proof.Gen.KernelMixIdeal.Frame
public import proofs.«01_k».proof.Proof.Gen.RefMixIdeal
public import proofs.«01_k».proof.Proof.Gen.RefMixIdeal.Run
public import Idealize.ShloMosaic.Lib.Quiescent

@[expose] public section

set_option maxRecDepth 16384

noncomputable section

open Idealize.ShloMosaic Idealize.SL.Sem

namespace Cert.Claims

theorem frame_KernelMix : Cert.quiescent_KernelMix := fun m ρ _ => Cert.KernelMix.Gen.frame m ρ

theorem frame_KernelMixIdeal : Cert.quiescent_KernelMixIdeal := fun m ρ _ => Cert.KernelMixIdeal.Gen.frame m ρ

theorem frame_RefMixIdeal : Cert.quiescent_RefMixIdeal := fun m ρ _ =>
  (θ_run Cert.RefMixIdeal.defs _ _).mono (fun r h => ⟨fun c => (h c).2.2, sem_eq_zero_of_no_sems (by decide) r.2⟩)
    (Cert.RefMixIdeal.Value.run (F := Ideal) m ρ)

end Cert.Claims

end
-- ==== Proof.MixValue.lean ====
/-
  The mixer's output product, normalised and added: each block of tokens against all tokens at once.
-/
module

public import proofs.«01_k».proof.Proof.Gen.KernelMixIdeal.Frame
public import proofs.«01_k».proof.Proof.Gen.KernelMixIdeal.Value
public import proofs.«01_k».proof.Proof.Gen.RefMixIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelMixIdeal.Value

open Cert.KernelMixIdeal Cert.KernelMixIdeal.Gen

variable (m : (ℓ : Loc nD τ sig) → Buf (Elt Ideal) ℓ)

/-- The heads of scan and attention side by side, times the weight. -/
def mixed (a b : S4096x512.Idx → EReal) (w : S1024x1024.Idx → EReal) : S4096x1024.Idx → EReal := fun i =>
  ∑ k : Fin 512, a (ix2 (i 0) k) * w (ix2 ⟨k.val, by omega⟩ (i 1)) + ∑ k : Fin 512, b (ix2 (i 0) k) * w (ix2 ⟨512 + k.val, by omega⟩ (i 1))

/-- The product normalised and added to the tokens. -/
def added (p : S4096x1024.Idx → EReal) (x : S4096x1024.Idx → EReal) (g : S1x1024.Idx → EReal) : S4096x1024.Idx → EReal := fun i =>
  x (ix2 (i 0) (i 1)) + p (ix2 (i 0) (i 1))
    * Ideal.rsqrt (Ideal.div (∑ k : Fin 1024, p (ix2 (i 0) k) * p (ix2 (i 0) k)) (Ideal.ofBits .f32 0x44800000#32) + Ideal.ofBits .f32 0x358637BD#32)
    * g (ix2 0 (i 1))

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![t.val, 0] ∧ t.val < 4 :=
  (by decide +kernel : ∀ t : Fin grid0.N, _)

variable (c : Dev nD)

theorem mixed_all : (dats m 0 c).arrAt 5 (cfgs 0).N
    = mixed (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  frame_out
  pointwise [k0_pay1, mixed]
  blk_point [iblk, V, idx t]

theorem added_all : (dats m 0 c).arrAt 6 (cfgs 0).N
    = added (mixed (m ((c : Thread nD τ).loc main_arg0)) (m ((c : Thread nD τ).loc main_arg1)) (m ((c : Thread nD τ).loc main_arg2)))
      (m ((c : Thread nD τ).loc main_arg3)) (m ((c : Thread nD τ).loc main_arg4)) := by
  refine (dats m 0 c).arrAt_eq_of_covers 6 _ (by decide +kernel) fun t hf y => ?_
  blk_simp
  rw [after0_6]
  frame_out
  pointwise [k0_pay1, k0_pay2, mixed, added]
  blk_point [iblk, V, idx t]

end Cert.KernelMixIdeal.Value

end
-- ==== Proof.MixClaim.lean ====
/-
  The mixer's output product's value claim: kernel and reference return the same arrays.
-/
module

public import proofs.«01_k».proof.Defs
public import proofs.«01_k».proof.Proof.MixValue
public import proofs.«01_k».proof.Proof.Gen.KernelMixIdeal
public import proofs.«01_k».proof.Proof.Gen.RefMixIdeal
public import Idealize.ShloMosaic.Lib.Claim

@[expose] public section

set_option maxRecDepth 16384

noncomputable section

open Idealize.ShloMosaic Idealize.SL.Sem

namespace Cert.Claims

theorem algebraic_Mix : Cert.algebraic_KernelMixIdeal_RefMixIdeal := by
  pair_intro
  · run_from Cert.KernelMixIdeal.Gen.run_main m g
  · run_from Cert.RefMixIdeal.Value.run m' g'
    · refine Eq.trans ?_ (Cert.KernelMixIdeal.Value.mixed_all m c).symm
      funext i
      pointwise [Cert.KernelMixIdeal.Value.mixed, Cert.KernelMixIdeal.Value.added]
    · refine Eq.trans ?_ (Cert.KernelMixIdeal.Value.added_all m c).symm
      funext i
      pointwise [Cert.KernelMixIdeal.Value.mixed, Cert.KernelMixIdeal.Value.added]

end Cert.Claims

end
-- ==== Proof.FrameProjB.lean ====
/-
  The frames of the projection's backward call: kernel, ideal kernel and reference end without fault, with their arguments unchanged and every
  semaphore counter at zero.
-/
module

public import proofs.«01_k».proof.Defs
public import proofs.«01_k».proof.Proof.Gen.KernelProjB
public import proofs.«01_k».proof.Proof.Gen.KernelProjB.Frame
public import proofs.«01_k».proof.Proof.Gen.KernelProjBIdeal
public import proofs.«01_k».proof.Proof.Gen.KernelProjBIdeal.Frame
public import proofs.«01_k».proof.Proof.Gen.RefProjBIdeal
public import proofs.«01_k».proof.Proof.Gen.RefProjBIdeal.Run
public import Idealize.ShloMosaic.Lib.Quiescent

@[expose] public section

set_option maxRecDepth 16384

noncomputable section

open Idealize.ShloMosaic Idealize.SL.Sem

namespace Cert.Claims

theorem frame_KernelProjB : Cert.quiescent_KernelProjB := fun m ρ _ => Cert.KernelProjB.Gen.frame m ρ

theorem frame_KernelProjBIdeal : Cert.quiescent_KernelProjBIdeal := fun m ρ _ => Cert.KernelProjBIdeal.Gen.frame m ρ

theorem frame_RefProjBIdeal : Cert.quiescent_RefProjBIdeal := fun m ρ _ =>
  (θ_run Cert.RefProjBIdeal.defs _ _).mono (fun r h => ⟨fun c => (h c).2.2, sem_eq_zero_of_no_sems (by decide) r.2⟩)
    (Cert.RefProjBIdeal.Value.run (F := Ideal) m ρ)

end Cert.Claims

end
-- ==== Proof.NormBack.lean ====
/-
  The gradient through a row's division by its root mean square, over the extended reals: the kernel's form and the form
  that differentiation of the product gives agree on every row, finite or not.
-/
module

public import proofs.«01_k».proof.Proof.FfnReal

@[expose] public section

noncomputable section

open Idealize.ShloMosaic Cert.Ffn

namespace Cert.Norm

variable (x d : Fin 1024 → EReal) (j : Fin 1024)

/-- The mean square of a row, with the constant; one over its root; the row divided by the root. -/
def mean : EReal := Ideal.div (∑ k, x k * x k) (Ideal.ofBits .f32 0x44800000#32) + Ideal.ofBits .f32 0x358637BD#32
def root : EReal := Ideal.rsqrt (mean x)
def unit : EReal := x j * root x

/-- The gradient through that division, as the kernel has it. -/
def back : EReal := root x * (d j - unit x j * Ideal.div (∑ k, d k * unit x k) (Ideal.ofBits .f32 0x44800000#32))

/-- What differentiation of the mean gives every entry of the row. -/
def pull : EReal :=
  Ideal.div ((∑ k, x k * d k) * (Ideal.ofBits .f32 0xBF000000#32 * Ideal.div (root x) (mean x))) (Ideal.ofBits .f32 0x44800000#32)

/-- A real factor that is not negative distributes over a sum. -/
theorem mul_sum {ι : Type} (s : Finset ι) {a : ℝ} (ha : 0 ≤ a) (f : ι → EReal) : (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (EReal.coe_nonneg.2 ha) (EReal.coe_ne_top a) _ _

theorem double (b : ℝ) (t : EReal) : (b : EReal) * t + (b : EReal) * t = ((2 * b : ℝ) : EReal) * t := by
  have h (y : EReal) : y + y = ((2 : ℝ) : EReal) * y := by
    induction y with
    | bot => rw [EReal.coe_mul_bot_of_pos two_pos]; rfl
    | top => rw [EReal.coe_mul_top_of_pos two_pos]; rfl
    | coe r => rw [← EReal.coe_mul, ← EReal.coe_add, two_mul]
  rw [h, EReal.coe_mul, mul_assoc]

/-- A row with an infinite entry has root zero. -/
theorem root_zero (h : ∃ k, x k = ⊤ ∨ x k = ⊥) : mean x = ⊤ ∧ root x = 0 := by
  obtain ⟨k, hk⟩ := h
  have hn (i : Fin 1024) : 0 ≤ x i * x i := by
    induction x i with
    | bot => simp
    | top => simp
    | coe r => exact mul_co r r ▸ EReal.coe_nonneg.2 (mul_self_nonneg r)
  have hs : ∑ i, x i * x i = ⊤ := by
    refine top_le_iff.1 (le_trans ?_ (Finset.single_le_sum (fun i _ => hn i) (Finset.mem_univ k)))
    rcases hk with e | e <;> simp [e]
  have hm : mean x = ⊤ := by
    rw [mean, hs, c_1024, c_eps, Ideal.div_coe (by norm_num), EReal.top_mul_coe_of_pos (by norm_num), EReal.top_add_coe]
  exact ⟨hm, by rw [root, hm, Ideal.rsqrt_top]⟩

theorem back_eq : d j * root x + x j * pull x d + pull x d * x j = back x d j := by
  by_cases hx : ∃ k, x k = ⊤ ∨ x k = ⊥
  · obtain ⟨hm, hr⟩ := root_zero x hx
    have hp : pull x d = 0 := by
      rw [pull, hm, hr, c_1024, Ideal.div_coe (by norm_num)]
      simp [Ideal.div]
    rw [back, hp, hr]
    simp
  · have hx (k : Fin 1024) : x k = ((x k).toReal : EReal) :=
      (EReal.coe_toReal (fun e => hx ⟨k, .inl e⟩) fun e => hx ⟨k, .inr e⟩).symm
    generalize hX : (fun k => (x k).toReal) = X at *
    obtain rfl : x = fun k => (X k : EReal) := funext fun k => by rw [← hX]; exact hx k
    have hm : mean (fun k => (X k : EReal)) = ((ms X : ℝ) : EReal) := by
      rw [mean, c_1024, c_eps]
      simp only [mul_co, coe_sum, div_1024, add_co]
      rfl
    have hr : root (fun k => (X k : EReal)) = ((rs X : ℝ) : EReal) := by rw [root, hm, rsqrt_ms]
    have h0 : 0 ≤ rs X := inv_nonneg.2 (Real.sqrt_nonneg _)
    have hq : 1 / ms X = rs X * rs X := by
      rw [rs, ← mul_inv, Real.mul_self_sqrt (ms_pos X).le, one_div]
    have ht : ∑ k, d k * unit (fun k => (X k : EReal)) k = (rs X : EReal) * ∑ k, (X k : EReal) * d k := by
      rw [mul_sum _ h0]
      exact Finset.sum_congr rfl fun k _ => by rw [unit, hr, ← mul_assoc, mul_comm (d k), mul_comm]
    rw [back, pull, ht, unit, hr, hm, c_1024, c_neg_half, div_real _ (ms_pos X).ne', Ideal.div_coe (by norm_num), Ideal.div_coe (by norm_num), hq]
    generalize (∑ k, (X k : EReal) * d k) = t
    have e1 : (X j : EReal) * (t * (((-(1 / 2) : ℝ) : EReal) * ((rs X * (rs X * rs X) : ℝ) : EReal)) * ((1 / 1024 : ℝ) : EReal))
        = ((X j * (-(1 / 2) * (rs X * (rs X * rs X))) * (1 / 1024) : ℝ) : EReal) * t := by
      push_cast
      ac_rfl
    have e2 : (rs X : EReal) * (d j - (X j : EReal) * (rs X : EReal) * ((rs X : EReal) * t * ((1 / 1024 : ℝ) : EReal)))
        = d j * (rs X : EReal) + ((2 * (X j * (-(1 / 2) * (rs X * (rs X * rs X))) * (1 / 1024)) : ℝ) : EReal) * t := by
      rw [sub_eq_add_neg, EReal.left_distrib_of_nonneg_of_ne_top (EReal.coe_nonneg.2 h0) (EReal.coe_ne_top _), mul_comm]
      congr 1
      have : 2 * (X j * (-(1 / 2) * (rs X * (rs X * rs X))) * (1 / 1024)) = -(rs X * (X j * rs X * (rs X * (1 / 1024)))) := by ring
      rw [this, EReal.coe_neg, EReal.neg_mul, mul_neg]
      push_cast
      congr 1
      ac_rfl
    rw [mul_comm (t * _ * _) (X j : EReal), e1, e2, add_assoc, double]

end Cert.Norm

end
-- ==== Proof.ProjBToken.lean ====
/-
  The gradient through the projection and the norm before it, one token at a time over the extended reals.
-/
module

public import proofs.«01_k».proof.Proof.NormBack

@[expose] public section

noncomputable section

open Idealize.ShloMosaic

namespace Cert.ProjB

/-- A token's cotangent of the projection: the scan's q, k, v; its gate; the attention's q; k; v; the heads' numbers. -/
structure Cot where
  u : Fin 1536 → EReal
  g : Fin 512 → EReal
  q : Fin 512 → EReal
  k : Fin 512 → EReal
  v : Fin 512 → EReal
  n : Fin 128 → EReal

variable (w : Fin 1024 → Fin 3712 → EReal) (d : Cot) (x g : Fin 1024 → EReal) (j : Fin 1024)

/-- The gradient of the normalised token. -/
def dh : EReal :=
  (∑ i : Fin 1536, d.u i * w j ⟨i.val, by omega⟩) + (∑ i : Fin 512, d.g i * w j ⟨1536 + i.val, by omega⟩)
    + (∑ i : Fin 512, d.q i * w j ⟨2048 + i.val, by omega⟩) + (∑ i : Fin 512, d.k i * w j ⟨2560 + i.val, by omega⟩)
    + (∑ i : Fin 512, d.v i * w j ⟨3072 + i.val, by omega⟩) + ∑ i : Fin 128, d.n i * w j ⟨3584 + i.val, by omega⟩

/-- The six pieces side by side. -/
def cat (i : Fin 3712) : EReal :=
  if h : i.val < 1536 then d.u ⟨i.val, h⟩
  else if h : i.val - 1536 < 512 then d.g ⟨i.val - 1536, h⟩
  else if h : i.val - 1536 - 512 < 512 then d.q ⟨i.val - 1536 - 512, h⟩
  else if h : i.val - 1536 - 512 - 512 < 512 then d.k ⟨i.val - 1536 - 512 - 512, h⟩
  else if h : i.val - 1536 - 512 - 512 - 512 < 512 then d.v ⟨i.val - 1536 - 512 - 512 - 512, h⟩
  else d.n ⟨i.val - 1536 - 512 - 512 - 512 - 512, by omega⟩

/-- A sum over all columns, piece by piece. -/
theorem sum_pieces (f : Fin 3712 → EReal) : ∑ i, f i =
    (∑ i : Fin 1536, f ⟨i.val, by omega⟩) + (∑ i : Fin 512, f ⟨1536 + i.val, by omega⟩) + (∑ i : Fin 512, f ⟨2048 + i.val, by omega⟩)
      + (∑ i : Fin 512, f ⟨2560 + i.val, by omega⟩) + (∑ i : Fin 512, f ⟨3072 + i.val, by omega⟩)
      + ∑ i : Fin 128, f ⟨3584 + i.val, by omega⟩ := by
  refine (Fin.sum_univ_add (a := 3584) (b := 128) f).trans (congrArg₂ _ ?_ rfl)
  refine (Fin.sum_univ_add (a := 3072) (b := 512) fun i => f ⟨i.val, by omega⟩).trans (congrArg₂ _ ?_ rfl)
  refine (Fin.sum_univ_add (a := 2560) (b := 512) fun i => f ⟨i.val, by omega⟩).trans (congrArg₂ _ ?_ rfl)
  refine (Fin.sum_univ_add (a := 2048) (b := 512) fun i => f ⟨i.val, by omega⟩).trans (congrArg₂ _ ?_ rfl)
  exact Fin.sum_univ_add (a := 1536) (b := 512) fun i => f ⟨i.val, by omega⟩

theorem sum_cat : ∑ i, cat d i * w j i = dh w d j := by
  rw [sum_pieces, dh]
  refine congrArg₂ _ (congrArg₂ _ (congrArg₂ _ (congrArg₂ _ (congrArg₂ _ ?_ ?_) ?_) ?_) ?_) ?_
  all_goals
    refine Finset.sum_congr rfl fun i _ => congrArg (· * _) ?_
    unfold cat
    simp (disch := omega) only [dif_pos, dif_neg]
    try exact congrArg _ (Fin.ext (by dsimp only; omega))

/-- The gradient of the token itself. -/
def dx : EReal := Norm.back x (fun k => dh w d k * g k) j

/-- A token's part of the gain's gradient. -/
def dg : EReal := dh w d j * Norm.unit x j

end Cert.ProjB

end
-- ==== Proof.ProjBValue.lean ====
/-
  The projection's backward kernel: what each grid point leaves in its blocks, and the two results.
-/
module

public import proofs.«01_k».proof.Proof.Gen.KernelProjBIdeal.Frame
public import proofs.«01_k».proof.Proof.Gen.KernelProjBIdeal.Value
public import proofs.«01_k».proof.Proof.ProjBToken
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelProjBIdeal.Value

open Cert.KernelProjBIdeal Cert.KernelProjBIdeal.Gen Cert.ProjB

section
variable (w : Fin 1024 → Fin 3712 → EReal) (g : Fin 1024 → EReal) (D : Fin 512 → Cot) (X : Fin 512 → Fin 1024 → EReal)

/-- 512 tokens' rows; a number each; one row; columns of the weight. -/
def mat {n : ℕ} (f : Fin 512 → Fin n → EReal) : (⟨2, ![512, n]⟩ : Shape).Idx → EReal := fun i => f (i 0) (i 1)
def col (f : Fin 512 → EReal) : S512x1.Idx → EReal := fun i => f (i 0)
def row (f : Fin 1024 → EReal) : S1x1024.Idx → EReal := fun i => f (i 1)
def cols {n : ℕ} (f : Fin 1024 → Fin n → EReal) : (⟨2, ![1024, n]⟩ : Shape).Idx → EReal := fun i => f (i 0) (i 1)

/-- The first four pieces' part of the normalised tokens' gradient. -/
def four (d : Cot) (j : Fin 1024) : EReal :=
  (∑ i : Fin 1536, d.u i * w j ⟨i.val, by omega⟩) + (∑ i : Fin 512, d.g i * w j ⟨1536 + i.val, by omega⟩)
    + (∑ i : Fin 512, d.q i * w j ⟨2048 + i.val, by omega⟩) + ∑ i : Fin 512, d.k i * w j ⟨2560 + i.val, by omega⟩

abbrev w₁ : S1024x1536.Idx → EReal := cols fun j (i : Fin 1536) => w j ⟨i.val, by omega⟩
abbrev w₂ : S1024x512.Idx → EReal := cols fun j (i : Fin 512) => w j ⟨1536 + i.val, by omega⟩
abbrev w₃ : S1024x512.Idx → EReal := cols fun j (i : Fin 512) => w j ⟨2048 + i.val, by omega⟩
abbrev w₄ : S1024x512.Idx → EReal := cols fun j (i : Fin 512) => w j ⟨2560 + i.val, by omega⟩
abbrev w₅ : S1024x512.Idx → EReal := cols fun j (i : Fin 512) => w j ⟨3072 + i.val, by omega⟩
abbrev w₆ : S1024x128.Idx → EReal := cols fun j (i : Fin 128) => w j ⟨3584 + i.val, by omega⟩

theorem pay3_eq : k0_pay3 (F := Ideal) (mat fun r => (D r).u) (w₁ w) (mat fun r => (D r).g) (w₂ w) (mat fun r => (D r).q) (w₃ w)
      (mat fun r => (D r).k) (w₄ w)
    = mat fun r => four w (D r) := by
  funext j
  pointwise [k0_pay3, mat, cols]
  rfl

theorem pay4_eq : k0_pay4 (F := Ideal) (mat fun r => (D r).v) = mat fun r => (D r).v := by
  funext j
  pointwise [k0_pay4]

theorem pay5_eq : k0_pay5 (F := Ideal) (mat fun r => four w (D r)) (mat fun r => (D r).v) (w₅ w) (mat fun r => (D r).n) (w₆ w)
    = mat fun r => dh w (D r) := by
  funext j
  pointwise [k0_pay5, mat, cols]
  rfl

theorem pay6_eq : k0_pay6 (F := Ideal) (mat X) = col fun r => Norm.root (X r) := by
  funext j
  pointwise [k0_pay6, mat, col]
  rfl

theorem pay7_eq : k0_pay7 (F := Ideal) (mat X) = mat fun r => Norm.unit (X r) := by
  rw [k0_pay7, pay6_eq X]
  funext j
  pointwise [mat, col]
  rfl

theorem pay8_eq (a : Fin 1024 → EReal) : k0_pay8 (F := Ideal) (mat fun r => four w (D r)) (mat fun r => (D r).v) (w₅ w)
      (mat fun r => (D r).n) (w₆ w) (mat X) (row a)
    = row fun k => a k + ∑ r, dg w (D r) (X r) k := by
  rw [k0_pay8, pay5_eq w D, pay7_eq X]
  funext j
  pointwise [mat, row]
  rfl

theorem pay9_eq : k0_pay9 (F := Ideal) (mat fun r => four w (D r)) (mat fun r => (D r).v) (w₅ w) (mat fun r => (D r).n) (w₆ w) (row g)
    = mat fun r k => dh w (D r) k * g k := by
  rw [k0_pay9, pay5_eq w D]
  funext j
  pointwise [mat, row]

theorem pay10_eq : k0_pay10 (F := Ideal) (mat fun r => four w (D r)) (mat fun r => (D r).v) (w₅ w) (mat fun r => (D r).n) (w₆ w)
      (mat X) (row g)
    = mat fun r _ => Ideal.div (∑ k, dh w (D r) k * g k * Norm.unit (X r) k) (Ideal.ofBits .f32 0x44800000#32) := by
  rw [k0_pay10, pay9_eq w g D, pay7_eq X]
  funext j
  pointwise [mat]

theorem pay1_eq (Y : S512x1024.Idx → EReal) : k0_pay1 (F := Ideal) (col fun r => Norm.root (X r)) (mat fun r => Norm.unit (X r))
      (mat fun r k => dh w (D r) k * g k) Y (mat fun r _ => Ideal.div (∑ k, dh w (D r) k * g k * Norm.unit (X r) k) (Ideal.ofBits .f32 0x44800000#32))
    = fun i : S512x1024.Idx => Y i + ProjB.dx w (D (i 0)) (X (i 0)) g (i 1) := by
  funext j
  pointwise [k0_pay1, mat, col]
  rfl

theorem pay2_eq : k0_pay2 (F := Ideal) = row fun _ => 0 := by
  funext j
  pointwise [k0_pay2, row]

end

variable (m : (ℓ : Loc nD τ sig) → Buf (Elt Ideal) ℓ)

/-- The arguments a chip holds: the tokens, the gain, the weight, and the cotangents token by token. -/
def tokens (c : Dev nD) (r : Fin 4096) (k : Fin 1024) : EReal := (m ((c : Thread nD τ).loc main_arg0) : S4096x1024.Idx → EReal) (ix2 r k)
def gain (c : Dev nD) (k : Fin 1024) : EReal := (m ((c : Thread nD τ).loc main_arg2) : S1x1024.Idx → EReal) (ix2 0 k)
def weights (c : Dev nD) (k : Fin 1024) (i : Fin 3712) : EReal := (m ((c : Thread nD τ).loc main_arg3) : S1024x3712.Idx → EReal) (ix2 k i)
def cots (c : Dev nD) (r : Fin 4096) : Cot where
  u i := (m ((c : Thread nD τ).loc main_arg4) : S4096x1536.Idx → EReal) (ix2 r i)
  g i := (m ((c : Thread nD τ).loc main_arg5) : S4096x512.Idx → EReal) (ix2 r i)
  q i := (m ((c : Thread nD τ).loc main_arg6) : S4096x512.Idx → EReal) (ix2 r i)
  k i := (m ((c : Thread nD τ).loc main_arg7) : S4096x512.Idx → EReal) (ix2 r i)
  v i := (m ((c : Thread nD τ).loc main_arg8) : S4096x512.Idx → EReal) (ix2 r i)
  n i := (m ((c : Thread nD τ).loc main_arg9) : S4096x128.Idx → EReal) (ix2 r i)

/-- Token `r` of grid point `n`. -/
def at_ {α : Type} (f : Fin 4096 → α) (n : ℕ) (r : Fin 512) : α := f ⟨(512 * n + r.val) % 4096, by omega⟩

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![0, 0] ∧ t.val < 8 :=
  (by decide +kernel : ∀ t : Fin grid0.N, _)

/-- Every token's gradient, added to `y`. -/
def added (y : S4096x1024.Idx → EReal) (w : Fin 1024 → Fin 3712 → EReal) (D : Fin 4096 → Cot) (x : Fin 4096 → Fin 1024 → EReal) (g : Fin 1024 → EReal) :
    S4096x1024.Idx → EReal := fun i => y (ix2 (i 0) (i 1)) + ProjB.dx w (D (i 0)) (x (i 0)) g (i 1)

/-- A block's rows of the gradient that is added. -/
def rest (c : Dev nD) (n : ℕ) : S512x1024.Idx → EReal := fun i =>
  (m ((c : Thread nD τ).loc main_arg1) : S4096x1024.Idx → EReal) (ix2 ⟨(512 * n + (i 0).val) % 4096, by omega⟩ (i 1))

variable (c : Dev nD) (t : Fin cfg0.N)

theorem in1 : iblk m c 1 t = rest m c t.val := by
  funext j
  have h := (idx t).2.2.2.2.2.2.2.2.2.2.2.2
  have h0 : (j 0).val < 512 := (j 0).isLt
  have e : (512 * t.val + (j 0).val) % 4096 = 512 * t.val + (j 0).val := Nat.mod_eq_of_lt (by omega)
  simp only [rest, e]
  blk_point [iblk, V, idx t]

theorem in2 : iblk m c 2 t = row (gain m c) := by
  funext j
  refine Eq.trans (b := (m ((c : Thread nD τ).loc main_arg2) : S1x1024.Idx → EReal) (ix2 0 (j 1))) ?_ rfl
  blk_point [iblk, V, idx t]

theorem in0 : iblk m c 0 t = mat (at_ (tokens m c) t.val) := by
  funext j
  have h := (idx t).2.2.2.2.2.2.2.2.2.2.2.2
  refine Eq.trans (b := (m ((c : Thread nD τ).loc main_arg0) : S4096x1024.Idx → EReal)
    (ix2 ⟨(512 * t.val + (j 0).val) % 4096, by omega⟩ (j 1))) ?_ rfl
  have h0 : (j 0).val < 512 := (j 0).isLt
  have e : (512 * t.val + (j 0).val) % 4096 = 512 * t.val + (j 0).val := Nat.mod_eq_of_lt (by omega)
  simp only [e]
  blk_point [iblk, V, idx t]

theorem in4 : iblk m c 4 t = mat (fun r => (at_ (cots m c) t.val r).u) := by
  funext j
  have h := (idx t).2.2.2.2.2.2.2.2.2.2.2.2
  refine Eq.trans (b := (m ((c : Thread nD τ).loc main_arg4) : S4096x1536.Idx → EReal)
    (ix2 ⟨(512 * t.val + (j 0).val) % 4096, by omega⟩ (j 1))) ?_ rfl
  have h0 : (j 0).val < 512 := (j 0).isLt
  have e : (512 * t.val + (j 0).val) % 4096 = 512 * t.val + (j 0).val := Nat.mod_eq_of_lt (by omega)
  simp only [e]
  blk_point [iblk, V, idx t]

theorem in5 : iblk m c 5 t = mat (fun r => (at_ (cots m c) t.val r).g) := by
  funext j
  have h := (idx t).2.2.2.2.2.2.2.2.2.2.2.2
  refine Eq.trans (b := (m ((c : Thread nD τ).loc main_arg5) : S4096x512.Idx → EReal)
    (ix2 ⟨(512 * t.val + (j 0).val) % 4096, by omega⟩ (j 1))) ?_ rfl
  have h0 : (j 0).val < 512 := (j 0).isLt
  have e : (512 * t.val + (j 0).val) % 4096 = 512 * t.val + (j 0).val := Nat.mod_eq_of_lt (by omega)
  simp only [e]
  blk_point [iblk, V, idx t]

theorem in6 : iblk m c 6 t = mat (fun r => (at_ (cots m c) t.val r).q) := by
  funext j
  have h := (idx t).2.2.2.2.2.2.2.2.2.2.2.2
  refine Eq.trans (b := (m ((c : Thread nD τ).loc main_arg6) : S4096x512.Idx → EReal)
    (ix2 ⟨(512 * t.val + (j 0).val) % 4096, by omega⟩ (j 1))) ?_ rfl
  have h0 : (j 0).val < 512 := (j 0).isLt
  have e : (512 * t.val + (j 0).val) % 4096 = 512 * t.val + (j 0).val := Nat.mod_eq_of_lt (by omega)
  simp only [e]
  blk_point [iblk, V, idx t]

theorem in7 : iblk m c 7 t = mat (fun r => (at_ (cots m c) t.val r).k) := by
  funext j
  have h := (idx t).2.2.2.2.2.2.2.2.2.2.2.2
  refine Eq.trans (b := (m ((c : Thread nD τ).loc main_arg7) : S4096x512.Idx → EReal)
    (ix2 ⟨(512 * t.val + (j 0).val) % 4096, by omega⟩ (j 1))) ?_ rfl
  have h0 : (j 0).val < 512 := (j 0).isLt
  have e : (512 * t.val + (j 0).val) % 4096 = 512 * t.val + (j 0).val := Nat.mod_eq_of_lt (by omega)
  simp only [e]
  blk_point [iblk, V, idx t]

theorem in8 : iblk m c 8 t = mat (fun r => (at_ (cots m c) t.val r).v) := by
  funext j
  have h := (idx t).2.2.2.2.2.2.2.2.2.2.2.2
  refine Eq.trans (b := (m ((c : Thread nD τ).loc main_arg8) : S4096x512.Idx → EReal)
    (ix2 ⟨(512 * t.val + (j 0).val) % 4096, by omega⟩ (j 1))) ?_ rfl
  have h0 : (j 0).val < 512 := (j 0).isLt
  have e : (512 * t.val + (j 0).val) % 4096 = 512 * t.val + (j 0).val := Nat.mod_eq_of_lt (by omega)
  simp only [e]
  blk_point [iblk, V, idx t]

theorem in9 : iblk m c 9 t = mat (fun r => (at_ (cots m c) t.val r).n) := by
  funext j
  have h := (idx t).2.2.2.2.2.2.2.2.2.2.2.2
  refine Eq.trans (b := (m ((c : Thread nD τ).loc main_arg9) : S4096x128.Idx → EReal)
    (ix2 ⟨(512 * t.val + (j 0).val) % 4096, by omega⟩ (j 1))) ?_ rfl
  have h0 : (j 0).val < 512 := (j 0).isLt
  have e : (512 * t.val + (j 0).val) % 4096 = 512 * t.val + (j 0).val := Nat.mod_eq_of_lt (by omega)
  simp only [e]
  blk_point [iblk, V, idx t]

theorem in3₁ : @View.ld (Elt Ideal) S1024x3712 .bf16 (iblk m c 3 t) (Rect.unit ![0, 0] ![1024, 1536] inb_S1024x3712_S1024x1536_0_0) = w₁ (weights m c) := by
  funext j
  refine Eq.trans (b := (m ((c : Thread nD τ).loc main_arg3) : S1024x3712.Idx → EReal) (ix2 (j 0) ⟨(j 1).val, by have : (j 1).val < 1536 := (j 1).isLt; omega⟩)) ?_
    rfl
  pointwise [iblk, V]
  blk_point [iblk, V, idx t]

theorem in3₂ : @View.ld (Elt Ideal) S1024x3712 .bf16 (iblk m c 3 t) (Rect.unit ![0, 1536] ![1024, 512] inb_S1024x3712_S1024x512_0_1536) = w₂ (weights m c) := by
  funext j
  refine Eq.trans (b := (m ((c : Thread nD τ).loc main_arg3) : S1024x3712.Idx → EReal) (ix2 (j 0) ⟨1536 + (j 1).val, by have : (j 1).val < 512 := (j 1).isLt; omega⟩)) ?_
    rfl
  pointwise [iblk, V]
  blk_point [iblk, V, idx t]

theorem in3₃ : @View.ld (Elt Ideal) S1024x3712 .bf16 (iblk m c 3 t) (Rect.unit ![0, 2048] ![1024, 512] inb_S1024x3712_S1024x512_0_2048) = w₃ (weights m c) := by
  funext j
  refine Eq.trans (b := (m ((c : Thread nD τ).loc main_arg3) : S1024x3712.Idx → EReal) (ix2 (j 0) ⟨2048 + (j 1).val, by have : (j 1).val < 512 := (j 1).isLt; omega⟩)) ?_
    rfl
  pointwise [iblk, V]
  blk_point [iblk, V, idx t]

theorem in3₄ : @View.ld (Elt Ideal) S1024x3712 .bf16 (iblk m c 3 t) (Rect.unit ![0, 2560] ![1024, 512] inb_S1024x3712_S1024x512_0_2560) = w₄ (weights m c) := by
  funext j
  refine Eq.trans (b := (m ((c : Thread nD τ).loc main_arg3) : S1024x3712.Idx → EReal) (ix2 (j 0) ⟨2560 + (j 1).val, by have : (j 1).val < 512 := (j 1).isLt; omega⟩)) ?_
    rfl
  pointwise [iblk, V]
  blk_point [iblk, V, idx t]

theorem in3₅ : @View.ld (Elt Ideal) S1024x3712 .bf16 (iblk m c 3 t) (Rect.unit ![0, 3072] ![1024, 512] inb_S1024x3712_S1024x512_0_3072) = w₅ (weights m c) := by
  funext j
  refine Eq.trans (b := (m ((c : Thread nD τ).loc main_arg3) : S1024x3712.Idx → EReal) (ix2 (j 0) ⟨3072 + (j 1).val, by have : (j 1).val < 512 := (j 1).isLt; omega⟩)) ?_
    rfl
  pointwise [iblk, V]
  blk_point [iblk, V, idx t]

theorem in3₆ : @View.ld (Elt Ideal) S1024x3712 .bf16 (iblk m c 3 t) (Rect.unit ![0, 3584] ![1024, 128] inb_S1024x3712_S1024x128_0_3584) = w₆ (weights m c) := by
  funext j
  refine Eq.trans (b := (m ((c : Thread nD τ).loc main_arg3) : S1024x3712.Idx → EReal) (ix2 (j 0) ⟨3584 + (j 1).val, by have : (j 1).val < 128 := (j 1).isLt; omega⟩)) ?_
    rfl
  pointwise [iblk, V]
  blk_point [iblk, V, idx t]

/-- What a point leaves in its block of rows. -/
theorem block : (outsAt0 m c t.val t.isLt).1
    = fun i : S512x1024.Idx => rest m c t.val i + ProjB.dx (weights m c) (at_ (cots m c) t.val (i 0)) (at_ (tokens m c) t.val (i 0)) (gain m c) (i 1) := by
  by_cases h0 : t.val % 8 = 0
  on_goal 1 => rw [outsAt0_A m c t h0]
  on_goal 2 => rw [outsAt0_B m c t h0]
  all_goals
    frame_out
    try simp (disch := decide) only [↓ View.readCov_skip, ↓ View.readCov_cons_toLoadRect]
    simp only [in0 m c t, in1 m c t, in2 m c t, in3₁ m c t, in3₂ m c t, in3₃ m c t, in3₄ m c t, in3₅ m c t, in3₆ m c t, in4 m c t, in5 m c t, in6 m c t, in7 m c t,
      in8 m c t, in9 m c t]
    simp only [pay3_eq (weights m c) (at_ (cots m c) t.val), pay4_eq (at_ (cots m c) t.val), pay6_eq (at_ (tokens m c) t.val), pay7_eq (at_ (tokens m c) t.val),
      pay9_eq (weights m c) (gain m c) (at_ (cots m c) t.val), pay10_eq (weights m c) (gain m c) (at_ (cots m c) t.val) (at_ (tokens m c) t.val), pay1_eq (weights m c) (gain m c) (at_ (cots m c) t.val) (at_ (tokens m c) t.val)]

/-- The first point starts the gain's gradient; -/
theorem sums_first (h0 : t.val % 8 = 0) :
    (outsAt0 m c t.val t.isLt).2 = row (fun k => 0 + ∑ r, dg (weights m c) (at_ (cots m c) t.val r) (at_ (tokens m c) t.val r) k) := by
  rw [outsAt0_A m c t h0]
  frame_out
  try simp (disch := decide) only [↓ View.readCov_skip, ↓ View.readCov_cons_toLoadRect]
  simp only [in0 m c t, in3₁ m c t, in3₂ m c t, in3₃ m c t, in3₄ m c t, in3₅ m c t, in3₆ m c t, in4 m c t, in5 m c t, in6 m c t, in7 m c t, in8 m c t, in9 m c t]
  simp only [pay2_eq, pay3_eq (weights m c) (at_ (cots m c) t.val), pay4_eq (at_ (cots m c) t.val), pay8_eq (weights m c) (at_ (cots m c) t.val) (at_ (tokens m c) t.val)]

/-- each later one adds its tokens. -/
theorem sums_next (h0 : ¬ t.val % 8 = 0) (a : Fin 1024 → EReal)
    (ea : (outsAt0 m c (t.val - 1) (Nat.lt_of_le_of_lt (Nat.sub_le _ _) t.isLt)).2 = row a) :
    (outsAt0 m c t.val t.isLt).2 = row (fun k => a k + ∑ r, dg (weights m c) (at_ (cots m c) t.val r) (at_ (tokens m c) t.val r) k) := by
  rw [outsAt0_B m c t h0]
  frame_out
  try simp (disch := decide) only [↓ View.readCov_skip, ↓ View.readCov_cons_toLoadRect]
  simp only [ea, in0 m c t, in3₁ m c t, in3₂ m c t, in3₃ m c t, in3₄ m c t, in3₅ m c t, in3₆ m c t, in4 m c t, in5 m c t, in6 m c t, in7 m c t, in8 m c t, in9 m c t]
  simp only [pay3_eq (weights m c) (at_ (cots m c) t.val), pay4_eq (at_ (cots m c) t.val), pay8_eq (weights m c) (at_ (cots m c) t.val) (at_ (tokens m c) t.val)]

/-- The gain's gradient after point `n`. -/
theorem sums (n : ℕ) (hn : n < cfg0.N) :
    (outsAt0 m c n hn).2 = row (fun k => ∑ s ∈ Finset.range (n + 1), ∑ r, dg (weights m c) (at_ (cots m c) s r) (at_ (tokens m c) s r) k) := by
  induction n with
  | zero => simpa only [zero_add, Finset.sum_range_one] using sums_first m c ⟨0, hn⟩ rfl
  | succ n ih =>
    have h8 : n + 1 < 8 := (idx ⟨n + 1, hn⟩).2.2.2.2.2.2.2.2.2.2.2.2
    simpa only [Finset.sum_range_succ _ (n + 1)] using sums_next m c ⟨n + 1, hn⟩ (by dsimp only; omega) _ (ih (by omega))

/-- A sum over the points and each point's tokens is the sum over all tokens. -/
theorem sum_points (f : Fin 4096 → EReal) : ∑ s ∈ Finset.range 8, ∑ r : Fin 512, at_ f s r = ∑ i, f i := by
  rw [Finset.sum_range, ← Fintype.sum_prod_type' (f := fun (s : Fin 8) (r : Fin 512) => at_ f s.val r)]
  refine Fintype.sum_equiv (finProdFinEquiv (m := 8) (n := 512)) _ _ fun q => congrArg f (Fin.ext ?_)
  have h0 := q.1.isLt
  have h1 := q.2.isLt
  show (512 * q.1.val + q.2.val) % 4096 = q.2.val + 512 * q.1.val
  omega

/-- The gradient of the gain, over all tokens. -/
def summed (w : Fin 1024 → Fin 3712 → EReal) (D : Fin 4096 → Cot) (x : Fin 4096 → Fin 1024 → EReal) : S1x1024.Idx → EReal :=
  row fun k => ∑ r, dg w (D r) (x r) k

theorem tokens_all : (dats m 0 c).arrAt 10 (cfgs 0).N = added (m ((c : Thread nD τ).loc main_arg1)) (weights m c) (cots m c) (tokens m c) (gain m c) := by
  refine (dats m 0 c).arrAt_eq_of_covers 10 _ (by decide +kernel) fun t hf y => ?_
  blk_simp
  rw [after0_10, block m c t]
  have h := (idx t).2.2.2.2.2.2.2.2.2.2.2.2
  have hy : (y 0).val < 512 := (y 0).isLt
  have e : (512 * t.val + (y 0).val) % 4096 = 512 * t.val + (y 0).val := Nat.mod_eq_of_lt (by omega)
  generalize hX : added (m ((c : Thread nD τ).loc main_arg1)) (weights m c) (cots m c) (tokens m c) (gain m c) = X
  refine Eq.trans (b := X (ix2 ⟨(512 * t.val + (y 0).val) % 4096, by omega⟩ (y 1))) (by rw [← hX]; rfl) ?_
  simp only [e]
  blk_point [idx t]

theorem gain_all : (dats m 0 c).arrAt 11 (cfgs 0).N = summed (weights m c) (cots m c) (tokens m c) := by
  refine (dats m 0 c).arrAt_eq_of_covers 11 _ (by decide +kernel) fun t hf y => ?_
  have h : t.val = 7 := by have := (flush0_11 t).mp hf; have := (idx t).2.2.2.2.2.2.2.2.2.2.2.2; omega
  blk_simp
  rw [after0_11, sums m c t.val t.isLt]
  generalize hX : summed (weights m c) (cots m c) (tokens m c) = X
  refine Eq.trans (b := X (ix2 0 (y 1))) ?_ ?_
  · rw [← hX, h]
    exact (sum_points fun i => dg (weights m c) (cots m c i) (tokens m c i) (y 1))
  · blk_point [idx t]

end Cert.KernelProjBIdeal.Value

end
-- ==== Proof.ProjBRef.lean ====
/-
  The projection's backward reference: every token's gradient, and the gain's.
-/
module

public import proofs.«01_k».proof.Proof.Gen.RefProjBIdeal.Run
public import proofs.«01_k».proof.Proof.ProjBToken
public import Idealize.ShloMosaic.Lib.Pointwise

@[expose] public section

set_option maxRecDepth 16384

noncomputable section

open Idealize.ShloMosaic Idealize.ShloMosaic.TcCoe Idealize.SL.Sem

namespace Cert.RefProjBIdeal.Value

open Cert.RefProjBIdeal Cert.RefProjBIdeal.Gen Cert.ProjB

variable (w : Fin 1024 → Fin 3712 → EReal) (D : Fin 4096 → Cot) (x : Fin 4096 → Fin 1024 → EReal) (g : Fin 1024 → EReal)

/-- Rows, a column and a row as the reference's arrays. -/
def mat {n : ℕ} (f : Fin 4096 → Fin n → EReal) : FVec Ideal ⟨2, ![4096, n]⟩ .f32 := fun i => f (i 0) (i 1)
def col (f : Fin 4096 → EReal) : FVec Ideal S4096x1 .f32 := fun i => f (i 0)
def row (f : Fin 1024 → EReal) : FVec Ideal S1x1024 .f32 := fun i => f (i 1)
def weight : FVec Ideal S1024x3712 .f32 := fun i => w (i 0) (i 1)

theorem mean_eq : addf (Host.divf (broadcastInDim S4096x1 ![0] bcast_S4096_S4096x1_0 (Host.reduceAdd (mulf (mat x) (mat x))
      (constant (F := Ideal) S_ .f32 0x00000000#32) reducesTo_S4096x1024_S4096_d1 h_S_))
      (broadcastInDim S4096x1 ![] bcast_S_S4096x1 (constant S_ .f32 0x44800000#32)))
      (broadcastInDim S4096x1 ![] bcast_S_S4096x1 (constant S_ .f32 0x358637BD#32))
    = col fun r => Norm.mean (x r) := by
  refine funext fun (j : S4096x1.Idx) => ?_
  pointwise [mat, col]
  rfl

theorem root_eq : Host.rsqrt (col fun r => Norm.mean (x r)) = col fun r => Norm.root (x r) := by
  refine funext fun (j : S4096x1.Idx) => ?_
  pointwise [col]
  rfl

theorem dot_eq : Host.dotGeneral dot_S4096x3712_S1024x3712_S4096x1024_1_1_0_0_n_n none (concatenate S4096x3712 1
      [⟨S4096x1536, mat fun r => (D r).u⟩, ⟨S4096x512, mat fun r => (D r).g⟩, ⟨S4096x512, mat fun r => (D r).q⟩,
        ⟨S4096x512, mat fun r => (D r).k⟩, ⟨S4096x512, mat fun r => (D r).v⟩, ⟨S4096x128, mat fun r => (D r).n⟩]
      concatenates_S4096x1536_S4096x512_S4096x512_S4096x512_S4096x512_S4096x128_S4096x3712_d1) (weight w)
    = (mat fun r => dh w (D r) : FVec Ideal S4096x1024 .f32) := by
  refine funext fun (j : S4096x1024.Idx) => ?_
  pointwise [mat, weight]
  exact sum_cat w (D (j 0)) (j 1)

theorem gained_eq : mulf (mat fun r => dh w (D r) : FVec Ideal S4096x1024 .f32) (broadcastInDim S4096x1024 ![0, 1] bcast_S1x1024_S4096x1024_0_1
      (broadcastInDim S1x1024 ![1] bcast_S1024_S1x1024_1 (shapeCast _ (row g) shapeCasts_S1x1024_S1024)))
    = (mat fun r k => dh w (D r) k * g k : FVec Ideal S4096x1024 .f32) := by
  refine funext fun (j : S4096x1024.Idx) => ?_
  pointwise [mat, row]

theorem share_eq (d : Fin 4096 → Fin 1024 → EReal) : broadcastInDim S4096x1024 ![0] bcast_S4096_S4096x1024_0 (Host.reduceAdd (Host.divf
      (mulf (shapeCast _ (Host.reduceAdd (mulf (mat x) (mat d)) (constant (F := Ideal) S_ .f32 0x00000000#32) reducesTo_S4096x1024_S4096_d1 h_S_)
        shapeCasts_S4096_S4096x1) (mulf (broadcastInDim S4096x1 ![] bcast_S_S4096x1 (constant S_ .f32 0xBF000000#32))
        (Host.divf (col fun r => Norm.root (x r)) (col fun r => Norm.mean (x r)))))
      (broadcastInDim S4096x1 ![] bcast_S_S4096x1 (constant S_ .f32 0x44800000#32))) (constant S_ .f32 0x00000000#32)
      reducesTo_S4096x1_S4096_d1 h_S_)
    = (mat fun r _ => Norm.pull (x r) (d r) : FVec Ideal S4096x1024 .f32) := by
  refine funext fun (j : S4096x1024.Idx) => ?_
  pointwise [mat, col]
  simp only [Finset.univ_unique, Finset.sum_singleton]
  rfl

theorem normed_eq : mulf (mat x) (broadcastInDim S4096x1024 ![0, 1] bcast_S4096x1_S4096x1024_0_1 (col fun r => Norm.root (x r)))
    = (mat fun r => Norm.unit (x r) : FVec Ideal S4096x1024 .f32) := by
  refine funext fun (j : S4096x1024.Idx) => ?_
  pointwise [mat, col]
  rfl

/-- The arguments in a chip's buffers are these arrays. -/
structure Takes (m : (ℓ : Loc nD τ sig) → Buf (Elt Ideal) ℓ) (c : Dev nD) (y : S4096x1024.Idx → EReal) : Prop where
  a0 : (m ((c.tc : Thread nD τ).loc main_arg0) : FVec Ideal S4096x1024 .f32) = mat x
  a1 : (m ((c.tc : Thread nD τ).loc main_arg1) : FVec Ideal S4096x1024 .f32) = y
  a2 : (m ((c.tc : Thread nD τ).loc main_arg2) : FVec Ideal S1x1024 .f32) = row g
  a3 : (m ((c.tc : Thread nD τ).loc main_arg3) : FVec Ideal S1024x3712 .f32) = weight w
  a4 : (m ((c.tc : Thread nD τ).loc main_arg4) : FVec Ideal S4096x1536 .f32) = mat fun r => (D r).u
  a5 : (m ((c.tc : Thread nD τ).loc main_arg5) : FVec Ideal S4096x512 .f32) = mat fun r => (D r).g
  a6 : (m ((c.tc : Thread nD τ).loc main_arg6) : FVec Ideal S4096x512 .f32) = mat fun r => (D r).q
  a7 : (m ((c.tc : Thread nD τ).loc main_arg7) : FVec Ideal S4096x512 .f32) = mat fun r => (D r).k
  a8 : (m ((c.tc : Thread nD τ).loc main_arg8) : FVec Ideal S4096x512 .f32) = mat fun r => (D r).v
  a9 : (m ((c.tc : Thread nD τ).loc main_arg9) : FVec Ideal S4096x128 .f32) = mat fun r => (D r).n

variable {w D x g}
variable {m : (ℓ : Loc nD τ sig) → Buf (Elt Ideal) ℓ} {c : Dev nD}
  {y : S4096x1024.Idx → EReal} (H : Takes w D x g m c y)
include H

theorem tokens_eq : (res_main_v40 m c : S4096x1024.Idx → EReal) = fun i => y i + ProjB.dx w (D (i 0)) (x (i 0)) g (i 1) := by
  rw [res_main_v40, H.a0, H.a1, H.a2, H.a3, H.a4, H.a5, H.a6, H.a7, H.a8, H.a9, mean_eq, root_eq, dot_eq, gained_eq, share_eq]
  refine funext fun (j : S4096x1024.Idx) => ?_
  pointwise [mat, col]
  exact congrArg _ (Norm.back_eq (x (j 0)) (fun k => dh w (D (j 0)) k * g k) (j 1))

omit H in
theorem gain_eq : broadcastInDim S1x1024 ![1] bcast_S1024_S1x1024_1 (Host.reduceAdd (shapeCast _ (Host.reduceAdd
      (mulf (mat fun r => Norm.unit (x r) : FVec Ideal S4096x1024 .f32) (mat fun r => dh w (D r))) (constant (F := Ideal) S_ .f32 0x00000000#32)
      reducesTo_S4096x1024_S1024_d0 h_S_) shapeCasts_S1024_S1x1024) (constant S_ .f32 0x00000000#32) reducesTo_S1x1024_S1024_d0 h_S_)
    = row fun k => ∑ r, dg w (D r) (x r) k := by
  refine funext fun (j : S1x1024.Idx) => ?_
  pointwise [mat, row]
  simp only [Finset.univ_unique, Finset.sum_singleton]
  exact Finset.sum_congr rfl fun r _ => mul_comm _ _

end Cert.RefProjBIdeal.Value

end
-- ==== Proof.ProjBClaim.lean ====
/-
  The value claim of the projection's backward call: kernel and reference return the same gradients.
-/
module

public import proofs.«01_k».proof.Defs
public import proofs.«01_k».proof.Proof.ProjBValue
public import proofs.«01_k».proof.Proof.ProjBRef
public import proofs.«01_k».proof.Proof.Gen.KernelProjBIdeal
public import proofs.«01_k».proof.Proof.Gen.RefProjBIdeal
public import Idealize.ShloMosaic.Lib.Claim

@[expose] public section

set_option maxRecDepth 16384

noncomputable section

open Idealize.ShloMosaic Idealize.ShloMosaic.TcCoe Idealize.SL.Sem Cert.ProjB

namespace Cert.Claims

open Cert.KernelProjBIdeal.Value in
/-- The reference's arguments, equal to the kernel's, are the same arrays. -/
theorem takes_projb {m : (ℓ : Loc Cert.KernelProjBIdeal.nD Cert.KernelProjBIdeal.τ Cert.KernelProjBIdeal.sig) → Buf (Elt Ideal) ℓ}
    {m' : (ℓ : Loc Cert.RefProjBIdeal.nD Cert.RefProjBIdeal.τ Cert.RefProjBIdeal.sig) → Buf (Elt Ideal) ℓ} {c : Dev Cert.KernelProjBIdeal.nD}
    (h : m' ((c.tc : Thread Cert.RefProjBIdeal.nD Cert.RefProjBIdeal.τ).loc Cert.RefProjBIdeal.main_arg0) = m ((c.tc : Thread Cert.KernelProjBIdeal.nD Cert.KernelProjBIdeal.τ).loc Cert.KernelProjBIdeal.main_arg0)
      ∧ m' ((c.tc : Thread Cert.RefProjBIdeal.nD Cert.RefProjBIdeal.τ).loc Cert.RefProjBIdeal.main_arg1) = m ((c.tc : Thread Cert.KernelProjBIdeal.nD Cert.KernelProjBIdeal.τ).loc Cert.KernelProjBIdeal.main_arg1)
      ∧ m' ((c.tc : Thread Cert.RefProjBIdeal.nD Cert.RefProjBIdeal.τ).loc Cert.RefProjBIdeal.main_arg2) = m ((c.tc : Thread Cert.KernelProjBIdeal.nD Cert.KernelProjBIdeal.τ).loc Cert.KernelProjBIdeal.main_arg2)
      ∧ m' ((c.tc : Thread Cert.RefProjBIdeal.nD Cert.RefProjBIdeal.τ).loc Cert.RefProjBIdeal.main_arg3) = m ((c.tc : Thread Cert.KernelProjBIdeal.nD Cert.KernelProjBIdeal.τ).loc Cert.KernelProjBIdeal.main_arg3)
      ∧ m' ((c.tc : Thread Cert.RefProjBIdeal.nD Cert.RefProjBIdeal.τ).loc Cert.RefProjBIdeal.main_arg4) = m ((c.tc : Thread Cert.KernelProjBIdeal.nD Cert.KernelProjBIdeal.τ).loc Cert.KernelProjBIdeal.main_arg4)
      ∧ m' ((c.tc : Thread Cert.RefProjBIdeal.nD Cert.RefProjBIdeal.τ).loc Cert.RefProjBIdeal.main_arg5) = m ((c.tc : Thread Cert.KernelProjBIdeal.nD Cert.KernelProjBIdeal.τ).loc Cert.KernelProjBIdeal.main_arg5)
      ∧ m' ((c.tc : Thread Cert.RefProjBIdeal.nD Cert.RefProjBIdeal.τ).loc Cert.RefProjBIdeal.main_arg6) = m ((c.tc : Thread Cert.KernelProjBIdeal.nD Cert.KernelProjBIdeal.τ).loc Cert.KernelProjBIdeal.main_arg6)
      ∧ m' ((c.tc : Thread Cert.RefProjBIdeal.nD Cert.RefProjBIdeal.τ).loc Cert.RefProjBIdeal.main_arg7) = m ((c.tc : Thread Cert.KernelProjBIdeal.nD Cert.KernelProjBIdeal.τ).loc Cert.KernelProjBIdeal.main_arg7)
      ∧ m' ((c.tc : Thread Cert.RefProjBIdeal.nD Cert.RefProjBIdeal.τ).loc Cert.RefProjBIdeal.main_arg8) = m ((c.tc : Thread Cert.KernelProjBIdeal.nD Cert.KernelProjBIdeal.τ).loc Cert.KernelProjBIdeal.main_arg8)
      ∧ m' ((c.tc : Thread Cert.RefProjBIdeal.nD Cert.RefProjBIdeal.τ).loc Cert.RefProjBIdeal.main_arg9) = m ((c.tc : Thread Cert.KernelProjBIdeal.nD Cert.KernelProjBIdeal.τ).loc Cert.KernelProjBIdeal.main_arg9)
      ∧ m' ((c.tc : Thread Cert.RefProjBIdeal.nD Cert.RefProjBIdeal.τ).loc Cert.RefProjBIdeal.main_arg10) = m ((c.tc : Thread Cert.KernelProjBIdeal.nD Cert.KernelProjBIdeal.τ).loc Cert.KernelProjBIdeal.main_arg10)) :
    Cert.RefProjBIdeal.Value.Takes (weights m c) (cots m c) (tokens m c) (gain m c) m' c (m ((c.tc : Thread Cert.KernelProjBIdeal.nD Cert.KernelProjBIdeal.τ).loc Cert.KernelProjBIdeal.main_arg1)) where
  a0 := h.1.trans (funext fun i => congrArg _ (eq_ix2 i))
  a1 := h.2.1
  a2 := h.2.2.1.trans (funext fun i => congrArg _ ((eq_ix2 i).trans (congrArg (fun k => ix2 k (i 1)) (Subsingleton.elim (α := Fin 1) (i 0) 0))))
  a3 := h.2.2.2.1.trans (funext fun i => congrArg _ (eq_ix2 i))
  a4 := h.2.2.2.2.1.trans (funext fun i => congrArg _ (eq_ix2 i))
  a5 := h.2.2.2.2.2.1.trans (funext fun i => congrArg _ (eq_ix2 i))
  a6 := h.2.2.2.2.2.2.1.trans (funext fun i => congrArg _ (eq_ix2 i))
  a7 := h.2.2.2.2.2.2.2.1.trans (funext fun i => congrArg _ (eq_ix2 i))
  a8 := h.2.2.2.2.2.2.2.2.1.trans (funext fun i => congrArg _ (eq_ix2 i))
  a9 := h.2.2.2.2.2.2.2.2.2.1.trans (funext fun i => congrArg _ (eq_ix2 i))

set_option maxHeartbeats 4000000 in
open Cert.RefProjBIdeal.Value Cert.KernelProjBIdeal.Value in
theorem algebraic_ProjB : Cert.algebraic_KernelProjBIdeal_RefProjBIdeal := by
  pair_intro
  · run_from Cert.KernelProjBIdeal.Gen.run_main m g
  · run_from Cert.RefProjBIdeal.Value.run m' g'
    · refine (tokens_eq (takes_projb (hagree c))).trans (Eq.trans ?_ (tokens_all m c).symm)
      exact funext fun i => congrArg (· + _) (congrArg _ (eq_ix2 i))
    · have T := takes_projb (hagree c)
      refine Eq.trans ?_ (gain_all m c).symm
      rw [← (hagree c).1, ← (hagree c).2.2.2.1, T.a0, T.a3, T.a4, T.a5, T.a6, T.a7, T.a8, T.a9, mean_eq, root_eq, normed_eq, dot_eq]
      exact gain_eq

end Cert.Claims

end
-- ==== Proof.FrameMixB.lean ====
/-
  The frames of the mixer's backward call: kernel, ideal kernel and reference end without fault, with their arguments unchanged and every
  semaphore counter at zero.
-/
module

public import proofs.«01_k».proof.Defs
public import proofs.«01_k».proof.Proof.Gen.KernelMixB
public import proofs.«01_k».proof.Proof.Gen.KernelMixB.Frame
public import proofs.«01_k».proof.Proof.Gen.KernelMixBIdeal
public import proofs.«01_k».proof.Proof.Gen.KernelMixBIdeal.Frame
public import proofs.«01_k».proof.Proof.Gen.RefMixBIdeal
public import proofs.«01_k».proof.Proof.Gen.RefMixBIdeal.Run
public import Idealize.ShloMosaic.Lib.Quiescent

@[expose] public section

set_option maxRecDepth 16384

noncomputable section

open Idealize.ShloMosaic Idealize.SL.Sem

namespace Cert.Claims

theorem frame_KernelMixB : Cert.quiescent_KernelMixB := fun m ρ _ => Cert.KernelMixB.Gen.frame m ρ

theorem frame_KernelMixBIdeal : Cert.quiescent_KernelMixBIdeal := fun m ρ _ => Cert.KernelMixBIdeal.Gen.frame m ρ

theorem frame_RefMixBIdeal : Cert.quiescent_RefMixBIdeal := fun m ρ _ =>
  (θ_run Cert.RefMixBIdeal.defs _ _).mono (fun r h => ⟨fun c => (h c).2.2.2, sem_eq_zero_of_no_sems (by decide) r.2⟩)
    (Cert.RefMixBIdeal.Value.run (F := Ideal) m ρ)

end Cert.Claims

end
-- ==== Proof.MixBToken.lean ====
/-
  The gradient through the mixer's output, its norm and the product before it, one token at a time over the extended reals.
-/
module

public import proofs.«01_k».proof.Proof.NormBack

@[expose] public section

noncomputable section

open Idealize.ShloMosaic

namespace Cert.MixB

variable (x d g : Fin 1024 → EReal) (w : Fin 1024 → Fin 1024 → EReal) (j : Fin 1024)

/-- The gradient of the token's product; of its heads; the token's part of the gain's gradient. -/
def dm : EReal := Norm.back x (fun k => d k * g k) j
def dh : EReal := ∑ k, dm x d g k * w j k
def dg : EReal := d j * Norm.unit x j

/-- The same over all tokens. -/
def products (X D : Fin 4096 → Fin 1024 → EReal) : (⟨2, ![4096, 1024]⟩ : Shape).Idx → EReal := fun i => dm (X (i 0)) (D (i 0)) g (i 1)
def heads (X D : Fin 4096 → Fin 1024 → EReal) : (⟨2, ![4096, 1024]⟩ : Shape).Idx → EReal := fun i => dh (X (i 0)) (D (i 0)) g w (i 1)
def summed (X D : Fin 4096 → Fin 1024 → EReal) : (⟨2, ![1, 1024]⟩ : Shape).Idx → EReal := fun i => ∑ r, dg (X r) (D r) (i 1)

end Cert.MixB

end
-- ==== Proof.MixBValue.lean ====
/-
  The mixer's backward kernel: what each grid point leaves in its blocks, and three of its results.
-/
module

public import proofs.«01_k».proof.Proof.Gen.KernelMixBIdeal.Frame
public import proofs.«01_k».proof.Proof.Gen.KernelMixBIdeal.Value
public import proofs.«01_k».proof.Proof.MixBToken
public import proofs.«01_k».proof.Proof.ProjBValue
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelMixBIdeal.Value

open Cert.KernelMixBIdeal Cert.KernelMixBIdeal.Gen Cert.MixB
open Cert.KernelProjBIdeal.Value (mat col row at_ sum_points)

section
variable (w : Fin 1024 → Fin 1024 → EReal) (g : Fin 1024 → EReal) (D X : Fin 512 → Fin 1024 → EReal)

/-- The weight as the kernel's array. -/
def weight : S1024x1024.Idx → EReal := fun i => w (i 0) (i 1)

theorem pay4_eq : k0_pay4 (F := Ideal) (mat X) = col fun r => Norm.root (X r) := by
  funext j
  pointwise [k0_pay4, mat, col]
  rfl

theorem pay5_eq : k0_pay5 (F := Ideal) (mat X) = mat fun r => Norm.unit (X r) := by
  rw [k0_pay5, pay4_eq X]
  funext j
  pointwise [mat, col]
  rfl

theorem pay6_eq (a : Fin 1024 → EReal) : k0_pay6 (F := Ideal) (mat X) (mat D) (row a) = row fun k => a k + ∑ r, dg (X r) (D r) k := by
  rw [k0_pay6, pay5_eq X]
  funext j
  pointwise [mat, row]
  rfl

theorem pay7_eq : k0_pay7 (F := Ideal) (mat X) (mat D) (row g) = mat fun r => dm (X r) (D r) g := by
  rw [k0_pay7, pay4_eq X, pay5_eq X]
  funext j
  pointwise [mat, row, col]
  rfl

theorem pay1_eq : k0_pay1 (F := Ideal) (mat fun r => dm (X r) (D r) g) (weight w) = mat fun r => dh (X r) (D r) g w := by
  funext j
  pointwise [k0_pay1, mat, weight]
  rfl

theorem pay3_eq : k0_pay3 (F := Ideal) = row fun _ => 0 := by
  funext j
  pointwise [k0_pay3, row]

end

variable (m : (ℓ : Loc nD τ sig) → Buf (Elt Ideal) ℓ)

/-- The arguments a chip holds: the gradient after the norm, the products, the gain and the weight. -/
def cots (c : Dev nD) (r : Fin 4096) (k : Fin 1024) : EReal := (m ((c : Thread nD τ).loc main_arg0) : S4096x1024.Idx → EReal) (ix2 r k)
def mixes (c : Dev nD) (r : Fin 4096) (k : Fin 1024) : EReal := (m ((c : Thread nD τ).loc main_arg1) : S4096x1024.Idx → EReal) (ix2 r k)
def gain (c : Dev nD) (k : Fin 1024) : EReal := (m ((c : Thread nD τ).loc main_arg2) : S1x1024.Idx → EReal) (ix2 0 k)
def weights (c : Dev nD) (k i : Fin 1024) : EReal := (m ((c : Thread nD τ).loc main_arg3) : S1024x1024.Idx → EReal) (ix2 k i)

theorem idx : ∀ t : Fin cfg0.N, win0_0.index t = ![t.val, 0] ∧ win0_1.index t = ![t.val, 0] ∧ win0_2.index t = ![0, 0]
    ∧ win0_3.index t = ![0, 0] ∧ win0_5.index t = ![t.val, 0] ∧ win0_6.index t = ![t.val, 0] ∧ win0_7.index t = ![0, 0] ∧ t.val < 8 :=
  (by decide +kernel : ∀ t : Fin grid0.N, _)

variable (c : Dev nD) (t : Fin cfg0.N)

theorem in0 : iblk m c 0 t = mat (at_ (cots m c) t.val) := by
  funext j
  have h := (idx t).2.2.2.2.2.2.2
  refine Eq.trans (b := (m ((c : Thread nD τ).loc main_arg0) : S4096x1024.Idx → EReal)
    (ix2 ⟨(512 * t.val + (j 0).val) % 4096, by omega⟩ (j 1))) ?_ rfl
  have h0 : (j 0).val < 512 := (j 0).isLt
  have e : (512 * t.val + (j 0).val) % 4096 = 512 * t.val + (j 0).val := Nat.mod_eq_of_lt (by omega)
  simp only [e]
  blk_point [iblk, V, idx t]

theorem in1 : iblk m c 1 t = mat (at_ (mixes m c) t.val) := by
  funext j
  have h := (idx t).2.2.2.2.2.2.2
  refine Eq.trans (b := (m ((c : Thread nD τ).loc main_arg1) : S4096x1024.Idx → EReal)
    (ix2 ⟨(512 * t.val + (j 0).val) % 4096, by omega⟩ (j 1))) ?_ rfl
  have h0 : (j 0).val < 512 := (j 0).isLt
  have e : (512 * t.val + (j 0).val) % 4096 = 512 * t.val + (j 0).val := Nat.mod_eq_of_lt (by omega)
  simp only [e]
  blk_point [iblk, V, idx t]

theorem in2 : iblk m c 2 t = row (gain m c) := by
  funext j
  refine Eq.trans (b := (m ((c : Thread nD τ).loc main_arg2) : S1x1024.Idx → EReal) (ix2 0 (j 1))) ?_ rfl
  blk_point [iblk, V, idx t]

theorem in3 : iblk m c 3 t = weight (weights m c) := by
  funext j
  refine Eq.trans (b := (m ((c : Thread nD τ).loc main_arg3) : S1024x1024.Idx → EReal) (ix2 (j 0) (j 1))) ?_ rfl
  pointwise [iblk, V]
  blk_point [iblk, V, idx t]

/-- What a point leaves in its two blocks of rows. -/
theorem block : (outsAt0 m c t.val t.isLt).1 = mat (fun r => dm (at_ (mixes m c) t.val r) (at_ (cots m c) t.val r) (gain m c))
    ∧ (outsAt0 m c t.val t.isLt).2.1 = mat (fun r => dh (at_ (mixes m c) t.val r) (at_ (cots m c) t.val r) (gain m c) (weights m c)) := by
  by_cases h0 : t.val % 8 = 0
  on_goal 1 => rw [outsAt0_A m c t h0]
  on_goal 2 => rw [outsAt0_B m c t h0]
  all_goals
    constructor
    all_goals
      frame_out
      try simp (disch := decide) only [↓ View.readCov_skip, ↓ View.readCov_cons_toLoadRect]
      simp only [in0 m c t, in1 m c t, in2 m c t, in3 m c t]
      simp only [pay7_eq (gain m c) (at_ (cots m c) t.val) (at_ (mixes m c) t.val),
        pay1_eq (weights m c) (gain m c) (at_ (cots m c) t.val) (at_ (mixes m c) t.val)]

/-- The first point starts the gain's gradient; -/
theorem sums_first (h0 : t.val % 8 = 0) :
    (outsAt0 m c t.val t.isLt).2.2.1 = row (fun k => 0 + ∑ r, dg (at_ (mixes m c) t.val r) (at_ (cots m c) t.val r) k) := by
  rw [outsAt0_A m c t h0]
  frame_out
  try simp (disch := decide) only [↓ View.readCov_skip, ↓ View.readCov_cons_toLoadRect]
  simp only [in0 m c t, in1 m c t, pay3_eq, pay6_eq (at_ (cots m c) t.val) (at_ (mixes m c) t.val)]

/-- each later one adds its tokens. -/
theorem sums_next (h0 : ¬ t.val % 8 = 0) (a : Fin 1024 → EReal)
    (ea : (outsAt0 m c (t.val - 1) (Nat.lt_of_le_of_lt (Nat.sub_le _ _) t.isLt)).2.2.1 = row a) :
    (outsAt0 m c t.val t.isLt).2.2.1 = row (fun k => a k + ∑ r, dg (at_ (mixes m c) t.val r) (at_ (cots m c) t.val r) k) := by
  rw [outsAt0_B m c t h0]
  frame_out
  try simp (disch := decide) only [↓ View.readCov_skip, ↓ View.readCov_cons_toLoadRect]
  simp only [ea, in0 m c t, in1 m c t, pay6_eq (at_ (cots m c) t.val) (at_ (mixes m c) t.val)]

/-- The gain's gradient after point `n`. -/
theorem sums (n : ℕ) (hn : n < cfg0.N) :
    (outsAt0 m c n hn).2.2.1 = row (fun k => ∑ s ∈ Finset.range (n + 1), ∑ r, dg (at_ (mixes m c) s r) (at_ (cots m c) s r) k) := by
  induction n with
  | zero => simpa only [zero_add, Finset.sum_range_one] using sums_first m c ⟨0, hn⟩ rfl
  | succ n ih =>
    have h8 : n + 1 < 8 := (idx ⟨n + 1, hn⟩).2.2.2.2.2.2.2
    simpa only [Finset.sum_range_succ _ (n + 1)] using sums_next m c ⟨n + 1, hn⟩ (by dsimp only; omega) _ (ih (by omega))

theorem products_all : (dats m 0 c).arrAt 5 (cfgs 0).N = products (gain m c) (mixes m c) (cots m c) := by
  refine (dats m 0 c).arrAt_eq_of_covers 5 _ (by decide +kernel) fun t hf y => ?_
  blk_simp
  rw [after0_5, (block m c t).1]
  have h := (idx t).2.2.2.2.2.2.2
  have hy : (y 0).val < 512 := (y 0).isLt
  have e : (512 * t.val + (y 0).val) % 4096 = 512 * t.val + (y 0).val := Nat.mod_eq_of_lt (by omega)
  generalize hX : products (gain m c) (mixes m c) (cots m c) = X
  refine Eq.trans (b := X (ix2 ⟨(512 * t.val + (y 0).val) % 4096, by omega⟩ (y 1))) (by rw [← hX]; rfl) ?_
  simp only [e]
  blk_point [idx t]

theorem heads_all : (dats m 0 c).arrAt 6 (cfgs 0).N = heads (gain m c) (weights m c) (mixes m c) (cots m c) := by
  refine (dats m 0 c).arrAt_eq_of_covers 6 _ (by decide +kernel) fun t hf y => ?_
  blk_simp
  rw [after0_6, (block m c t).2]
  have h := (idx t).2.2.2.2.2.2.2
  have hy : (y 0).val < 512 := (y 0).isLt
  have e : (512 * t.val + (y 0).val) % 4096 = 512 * t.val + (y 0).val := Nat.mod_eq_of_lt (by omega)
  generalize hX : heads (gain m c) (weights m c) (mixes m c) (cots m c) = X
  refine Eq.trans (b := X (ix2 ⟨(512 * t.val + (y 0).val) % 4096, by omega⟩ (y 1))) (by rw [← hX]; rfl) ?_
  simp only [e]
  blk_point [idx t]

theorem gain_all : (dats m 0 c).arrAt 7 (cfgs 0).N = summed (mixes m c) (cots m c) := by
  refine (dats m 0 c).arrAt_eq_of_covers 7 _ (by decide +kernel) fun t hf y => ?_
  have h : t.val = 7 := by have := (flush0_7 t).mp hf; have := (idx t).2.2.2.2.2.2.2; omega
  blk_simp
  rw [after0_7, sums m c t.val t.isLt]
  generalize hX : summed (mixes m c) (cots m c) = X
  refine Eq.trans (b := X (ix2 0 (y 1))) ?_ ?_
  · rw [← hX, h]
    exact sum_points fun i => dg (mixes m c i) (cots m c i) (y 1)
  · blk_point [idx t]

end Cert.KernelMixBIdeal.Value

end
-- ==== Proof.MixBRef.lean ====
/-
  The mixer's backward reference: the gradients of every token's product and heads, and the gain's.
-/
module

public import proofs.«01_k».proof.Proof.Gen.RefMixBIdeal.Run
public import proofs.«01_k».proof.Proof.MixBToken
public import proofs.«01_k».proof.Proof.ProjBRef
public import Idealize.ShloMosaic.Lib.Pointwise

@[expose] public section

set_option maxRecDepth 16384

noncomputable section

open Idealize.ShloMosaic Idealize.ShloMosaic.TcCoe Idealize.SL.Sem

namespace Cert.RefMixBIdeal.Value

open Cert.RefMixBIdeal Cert.RefMixBIdeal.Gen Cert.MixB
open Cert.RefProjBIdeal.Value (mat col row mean_eq root_eq share_eq normed_eq)

variable (w : Fin 1024 → Fin 1024 → EReal) (D x : Fin 4096 → Fin 1024 → EReal) (g : Fin 1024 → EReal)

/-- The weight as the reference's array. -/
def weight : FVec Ideal S1024x1024 .f32 := fun i => w (i 0) (i 1)

theorem gained_eq : mulf (mat D) (broadcastInDim S4096x1024 ![0, 1] bcast_S1x1024_S4096x1024_0_1
      (broadcastInDim S1x1024 ![1] bcast_S1024_S1x1024_1 (shapeCast _ (row g) shapeCasts_S1x1024_S1024)))
    = (mat fun r k => D r k * g k : FVec Ideal S4096x1024 .f32) := by
  refine funext fun (j : S4096x1024.Idx) => ?_
  pointwise [mat, row]

theorem back_eq : addf (addf (mulf (mat fun r k => D r k * g k) (broadcastInDim S4096x1024 ![0, 1] bcast_S4096x1_S4096x1024_0_1 (col fun r => Norm.root (x r))))
      (mulf (mat x) (mat fun r _ => Norm.pull (x r) fun k => D r k * g k))) (mulf (mat fun r _ => Norm.pull (x r) fun k => D r k * g k) (mat x))
    = (mat fun r => dm (x r) (D r) g : FVec Ideal S4096x1024 .f32) := by
  refine funext fun (j : S4096x1024.Idx) => ?_
  pointwise [mat, col]
  exact Norm.back_eq (x (j 0)) (fun k => D (j 0) k * g k) (j 1)

/-- The arguments in a chip's buffers are these arrays. -/
structure Takes (m : (ℓ : Loc nD τ sig) → Buf (Elt Ideal) ℓ) (c : Dev nD) : Prop where
  a0 : (m ((c.tc : Thread nD τ).loc main_arg0) : FVec Ideal S4096x1024 .f32) = mat D
  a1 : (m ((c.tc : Thread nD τ).loc main_arg1) : FVec Ideal S4096x1024 .f32) = mat x
  a2 : (m ((c.tc : Thread nD τ).loc main_arg2) : FVec Ideal S1x1024 .f32) = row g
  a3 : (m ((c.tc : Thread nD τ).loc main_arg3) : FVec Ideal S1024x1024 .f32) = weight w

variable {w D x g}
variable {m : (ℓ : Loc nD τ sig) → Buf (Elt Ideal) ℓ} {c : Dev nD} (H : Takes w D x g m c)
include H

theorem products_eq : (res_main_v40 m c : S4096x1024.Idx → EReal) = products g x D := by
  rw [res_main_v40, H.a0, H.a1, H.a2, mean_eq, root_eq, gained_eq, share_eq, back_eq]
  refine funext fun (j : S4096x1024.Idx) => ?_
  pointwise [mat]
  rfl

theorem heads_eq : (res_main_v39 m c : S4096x1024.Idx → EReal) = heads g w x D := by
  rw [res_main_v39, H.a0, H.a1, H.a2, H.a3, mean_eq, root_eq, gained_eq, share_eq, back_eq]
  refine funext fun (j : S4096x1024.Idx) => ?_
  pointwise [mat, weight]
  rfl

omit H in
theorem gain_eq : broadcastInDim S1x1024 ![1] bcast_S1024_S1x1024_1 (Host.reduceAdd (shapeCast _ (Host.reduceAdd
      (mulf (mat fun r => Norm.unit (x r) : FVec Ideal S4096x1024 .f32) (mat D)) (constant (F := Ideal) S_ .f32 0x00000000#32)
      reducesTo_S4096x1024_S1024_d0 h_S_) shapeCasts_S1024_S1x1024) (constant S_ .f32 0x00000000#32) reducesTo_S1x1024_S1024_d0 h_S_)
    = summed x D := by
  refine funext fun (j : S1x1024.Idx) => ?_
  pointwise [mat]
  simp only [Finset.univ_unique, Finset.sum_singleton]
  exact Finset.sum_congr rfl fun r _ => mul_comm _ _

end Cert.RefMixBIdeal.Value

end
-- ==== Proof.MixBClaim.lean ====
/-
  The value claim of the mixer's backward call: kernel and reference return the same gradients.
-/
module

public import proofs.«01_k».proof.Defs
public import proofs.«01_k».proof.Proof.MixBValue
public import proofs.«01_k».proof.Proof.MixBRef
public import proofs.«01_k».proof.Proof.Gen.KernelMixBIdeal
public import proofs.«01_k».proof.Proof.Gen.RefMixBIdeal
public import Idealize.ShloMosaic.Lib.Claim

@[expose] public section

set_option maxRecDepth 16384

noncomputable section

open Idealize.ShloMosaic Idealize.ShloMosaic.TcCoe Idealize.SL.Sem Cert.MixB

namespace Cert.Claims

open Cert.KernelMixBIdeal.Value in
/-- The reference's arguments, equal to the kernel's, are the same arrays. -/
theorem takes_mixb {m : (ℓ : Loc Cert.KernelMixBIdeal.nD Cert.KernelMixBIdeal.τ Cert.KernelMixBIdeal.sig) → Buf (Elt Ideal) ℓ}
    {m' : (ℓ : Loc Cert.RefMixBIdeal.nD Cert.RefMixBIdeal.τ Cert.RefMixBIdeal.sig) → Buf (Elt Ideal) ℓ} {c : Dev Cert.KernelMixBIdeal.nD}
    (h : m' ((c.tc : Thread Cert.RefMixBIdeal.nD Cert.RefMixBIdeal.τ).loc Cert.RefMixBIdeal.main_arg0) = m ((c.tc : Thread Cert.KernelMixBIdeal.nD Cert.KernelMixBIdeal.τ).loc Cert.KernelMixBIdeal.main_arg0)
      ∧ m' ((c.tc : Thread Cert.RefMixBIdeal.nD Cert.RefMixBIdeal.τ).loc Cert.RefMixBIdeal.main_arg1) = m ((c.tc : Thread Cert.KernelMixBIdeal.nD Cert.KernelMixBIdeal.τ).loc Cert.KernelMixBIdeal.main_arg1)
      ∧ m' ((c.tc : Thread Cert.RefMixBIdeal.nD Cert.RefMixBIdeal.τ).loc Cert.RefMixBIdeal.main_arg2) = m ((c.tc : Thread Cert.KernelMixBIdeal.nD Cert.KernelMixBIdeal.τ).loc Cert.KernelMixBIdeal.main_arg2)
      ∧ m' ((c.tc : Thread Cert.RefMixBIdeal.nD Cert.RefMixBIdeal.τ).loc Cert.RefMixBIdeal.main_arg3) = m ((c.tc : Thread Cert.KernelMixBIdeal.nD Cert.KernelMixBIdeal.τ).loc Cert.KernelMixBIdeal.main_arg3)
      ∧ m' ((c.tc : Thread Cert.RefMixBIdeal.nD Cert.RefMixBIdeal.τ).loc Cert.RefMixBIdeal.main_arg4) = m ((c.tc : Thread Cert.KernelMixBIdeal.nD Cert.KernelMixBIdeal.τ).loc Cert.KernelMixBIdeal.main_arg4)) :
    Cert.RefMixBIdeal.Value.Takes (weights m c) (cots m c) (mixes m c) (gain m c) m' c where
  a0 := h.1.trans (funext fun i => congrArg _ (eq_ix2 i))
  a1 := h.2.1.trans (funext fun i => congrArg _ (eq_ix2 i))
  a2 := h.2.2.1.trans (funext fun i => congrArg _ ((eq_ix2 i).trans (congrArg (fun k => ix2 k (i 1)) (Subsingleton.elim (α := Fin 1) (i 0) 0))))
  a3 := h.2.2.2.1.trans (funext fun i => congrArg _ (eq_ix2 i))

set_option maxHeartbeats 4000000 in
open Cert.RefMixBIdeal.Value Cert.KernelMixBIdeal.Value in
open Cert.RefProjBIdeal.Value (mean_eq root_eq normed_eq) in
theorem algebraic_MixB : Cert.algebraic_KernelMixBIdeal_RefMixBIdeal := by
  pair_intro
  · run_from Cert.KernelMixBIdeal.Gen.run_main m g
  · run_from Cert.RefMixBIdeal.Value.run m' g'
    · exact (products_eq (takes_mixb (hagree c))).trans (products_all m c).symm
    · exact (heads_eq (takes_mixb (hagree c))).trans (heads_all m c).symm
    · have T := takes_mixb (hagree c)
      refine Eq.trans ?_ (gain_all m c).symm
      rw [← (hagree c).1, ← (hagree c).2.1, T.a0, T.a1, mean_eq, root_eq, normed_eq]
      exact gain_eq

end Cert.Claims

end
-- ==== Proof.lean ====
/-
  The certificate: the claims' proofs from the modules prove.
   Its author proves each claim OR witnesses that one is false. If a `holds`, `bitexact`, or `algebraic` claim
   fails at some input, do not weaken the claim until it holds: in `test_<name>.py` state
   `proofs.disproves(claim, *arrays)` in its place, with that input as `arrays`; run
   `python test_<name>.py regen`; and prove the disproof here (this file is not rewritten, and the claim to
   prove changes: a disproof adds no frame). A `frame`, `conforms` or `preserves` claim has no disproof.
   idealize/tests/proofs/README.md, "A value claim that is FALSE", says how; 02_vector_ops
   `Proof/Disproof.lean` and 10_ideal_fields `Proof/Widths.lean` are worked examples. -/
module

public import proofs.«01_k».proof.Defs
public import proofs.«01_k».proof.Proof.Gen.KernelF
public import proofs.«01_k».proof.Proof.Gen.KernelF.Skeleton
public import proofs.«01_k».proof.Proof.Gen.KernelF.Launch
public import proofs.«01_k».proof.Proof.Gen.KernelF.Points
public import proofs.«01_k».proof.Proof.Gen.KernelF.Frame
public import proofs.«01_k».proof.Proof.Gen.KernelFIdeal
public import proofs.«01_k».proof.Proof.Gen.KernelFIdeal.Skeleton
public import proofs.«01_k».proof.Proof.Gen.KernelFIdeal.Launch
public import proofs.«01_k».proof.Proof.Gen.KernelFIdeal.Points
public import proofs.«01_k».proof.Proof.Gen.KernelFIdeal.Frame
public import proofs.«01_k».proof.Proof.Gen.RefFIdeal
public import proofs.«01_k».proof.Proof.Gen.KernelB
public import proofs.«01_k».proof.Proof.Gen.KernelB.Skeleton
public import proofs.«01_k».proof.Proof.Gen.KernelB.Launch
public import proofs.«01_k».proof.Proof.Gen.KernelB.Points
public import proofs.«01_k».proof.Proof.Gen.KernelB.Frame
public import proofs.«01_k».proof.Proof.Gen.KernelBIdeal
public import proofs.«01_k».proof.Proof.Gen.KernelBIdeal.Skeleton
public import proofs.«01_k».proof.Proof.Gen.KernelBIdeal.Launch
public import proofs.«01_k».proof.Proof.Gen.KernelBIdeal.Points
public import proofs.«01_k».proof.Proof.Gen.KernelBIdeal.Frame
public import proofs.«01_k».proof.Proof.Gen.RefBIdeal
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.RefFfnIdeal
public import proofs.«01_k».proof.Proof.Gen.KernelW
public import proofs.«01_k».proof.Proof.Gen.KernelW.Skeleton
public import proofs.«01_k».proof.Proof.Gen.KernelW.Launch
public import proofs.«01_k».proof.Proof.Gen.KernelW.Points
public import proofs.«01_k».proof.Proof.Gen.KernelW.Frame
public import proofs.«01_k».proof.Proof.Gen.KernelWIdeal
public import proofs.«01_k».proof.Proof.Gen.KernelWIdeal.Skeleton
public import proofs.«01_k».proof.Proof.Gen.KernelWIdeal.Launch
public import proofs.«01_k».proof.Proof.Gen.KernelWIdeal.Points
public import proofs.«01_k».proof.Proof.Gen.KernelWIdeal.Frame
public import proofs.«01_k».proof.Proof.Gen.RefWIdeal
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.RefInIdeal
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.RefOutIdeal
public import proofs.«01_k».proof.Proof.Gen.KernelProj
public import proofs.«01_k».proof.Proof.Gen.KernelProj.Skeleton
public import proofs.«01_k».proof.Proof.Gen.KernelProj.Launch
public import proofs.«01_k».proof.Proof.Gen.KernelProj.Points
public import proofs.«01_k».proof.Proof.Gen.KernelProj.Frame
public import proofs.«01_k».proof.Proof.Gen.KernelProjIdeal
public import proofs.«01_k».proof.Proof.Gen.KernelProjIdeal.Skeleton
public import proofs.«01_k».proof.Proof.Gen.KernelProjIdeal.Launch
public import proofs.«01_k».proof.Proof.Gen.KernelProjIdeal.Points
public import proofs.«01_k».proof.Proof.Gen.KernelProjIdeal.Frame
public import proofs.«01_k».proof.Proof.Gen.RefProjIdeal
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.RefMixIdeal
public import proofs.«01_k».proof.Proof.Gen.KernelProjB
public import proofs.«01_k».proof.Proof.Gen.KernelProjB.Skeleton
public import proofs.«01_k».proof.Proof.Gen.KernelProjB.Launch
public import proofs.«01_k».proof.Proof.Gen.KernelProjB.Points
public import proofs.«01_k».proof.Proof.Gen.KernelProjB.Frame
public import proofs.«01_k».proof.Proof.Gen.KernelProjBIdeal
public import proofs.«01_k».proof.Proof.Gen.KernelProjBIdeal.Skeleton
public import proofs.«01_k».proof.Proof.Gen.KernelProjBIdeal.Launch
public import proofs.«01_k».proof.Proof.Gen.KernelProjBIdeal.Points
public import proofs.«01_k».proof.Proof.Gen.KernelProjBIdeal.Frame
public import proofs.«01_k».proof.Proof.Gen.RefProjBIdeal
public import proofs.«01_k».proof.Proof.Gen.KernelMixB
public import proofs.«01_k».proof.Proof.Gen.KernelMixB.Skeleton
public import proofs.«01_k».proof.Proof.Gen.KernelMixB.Launch
public import proofs.«01_k».proof.Proof.Gen.KernelMixB.Points
public import proofs.«01_k».proof.Proof.Gen.KernelMixB.Frame
public import proofs.«01_k».proof.Proof.Gen.KernelMixBIdeal
public import proofs.«01_k».proof.Proof.Gen.KernelMixBIdeal.Skeleton
public import proofs.«01_k».proof.Proof.Gen.KernelMixBIdeal.Launch
public import proofs.«01_k».proof.Proof.Gen.KernelMixBIdeal.Points
public import proofs.«01_k».proof.Proof.Gen.KernelMixBIdeal.Frame
public import proofs.«01_k».proof.Proof.Gen.RefMixBIdeal
public import proofs.«01_k».proof.Proof.Gen.Pre_finite_ffn
public import proofs.«01_k».proof.Proof.FrameF
public import proofs.«01_k».proof.Proof.FrameB
public import proofs.«01_k».proof.Proof.FrameFfn
public import proofs.«01_k».proof.Proof.FrameW
public import proofs.«01_k».proof.Proof.ScanClaim
public import proofs.«01_k».proof.Proof.WgradClaim
public import proofs.«01_k».proof.Proof.FfnClaim
public import proofs.«01_k».proof.Proof.FrameIn
public import proofs.«01_k».proof.Proof.InClaim
public import proofs.«01_k».proof.Proof.FrameOut
public import proofs.«01_k».proof.Proof.OutClaim
public import proofs.«01_k».proof.Proof.FrameProj
public import proofs.«01_k».proof.Proof.ProjClaim
public import proofs.«01_k».proof.Proof.FrameMix
public import proofs.«01_k».proof.Proof.MixClaim
public import proofs.«01_k».proof.Proof.FrameProjB
public import proofs.«01_k».proof.Proof.ProjBClaim
public import proofs.«01_k».proof.Proof.FrameMixB
public import proofs.«01_k».proof.Proof.MixBClaim
public import Idealize.ShloMosaic.Adequacy
public import Idealize.ShloMosaic.Init

@[expose] public section

noncomputable section

namespace Cert.Proof

open Idealize.ShloMosaic Idealize.SL.Sem Cert.KernelF

theorem claim : Cert.Claim := ⟨Cert.KernelF.Gen.facts, Cert.KernelFIdeal.Gen.facts, Cert.RefFIdeal.Gen.facts, Cert.KernelB.Gen.facts, Cert.KernelBIdeal.Gen.facts, Cert.RefBIdeal.Gen.facts, Cert.KernelFfn.Gen.facts, Cert.KernelFfnIdeal.Gen.facts, Cert.RefFfnIdeal.Gen.facts, Cert.KernelW.Gen.facts, Cert.KernelWIdeal.Gen.facts, Cert.RefWIdeal.Gen.facts, Cert.KernelIn.Gen.facts, Cert.KernelInIdeal.Gen.facts, Cert.RefInIdeal.Gen.facts, Cert.KernelOut.Gen.facts, Cert.KernelOutIdeal.Gen.facts, Cert.RefOutIdeal.Gen.facts, Cert.KernelProj.Gen.facts, Cert.KernelProjIdeal.Gen.facts, Cert.RefProjIdeal.Gen.facts, Cert.KernelMix.Gen.facts, Cert.KernelMixIdeal.Gen.facts, Cert.RefMixIdeal.Gen.facts, Cert.KernelProjB.Gen.facts, Cert.KernelProjBIdeal.Gen.facts, Cert.RefProjBIdeal.Gen.facts, Cert.KernelMixB.Gen.facts, Cert.KernelMixBIdeal.Gen.facts, Cert.RefMixBIdeal.Gen.facts, Cert.Pre_finite_ffn.Gen.facts, Cert.Claims.frame_KernelF, Cert.Claims.frame_KernelFIdeal, Cert.Claims.frame_RefFIdeal, Cert.Claims.frame_KernelB, Cert.Claims.frame_KernelBIdeal, Cert.Claims.frame_RefBIdeal, Cert.Claims.frame_KernelFfn, Cert.Claims.frame_KernelFfnIdeal, Cert.Claims.frame_KernelFfnIdeal_pre, Cert.Claims.frame_RefFfnIdeal, Cert.Claims.frame_RefFfnIdeal_pre, Cert.Claims.frame_KernelW, Cert.Claims.frame_KernelWIdeal, Cert.Claims.frame_RefWIdeal, Cert.Claims.frame_KernelIn, Cert.Claims.frame_KernelInIdeal, Cert.Claims.frame_RefInIdeal, Cert.Claims.frame_KernelOut, Cert.Claims.frame_KernelOutIdeal, Cert.Claims.frame_RefOutIdeal, Cert.Claims.frame_KernelProj, Cert.Claims.frame_KernelProjIdeal, Cert.Claims.frame_RefProjIdeal, Cert.Claims.frame_KernelMix, Cert.Claims.frame_KernelMixIdeal, Cert.Claims.frame_RefMixIdeal, Cert.Claims.frame_KernelProjB, Cert.Claims.frame_KernelProjBIdeal, Cert.Claims.frame_RefProjBIdeal, Cert.Claims.frame_KernelMixB, Cert.Claims.frame_KernelMixBIdeal, Cert.Claims.frame_RefMixBIdeal, trivial, Cert.Claims.algebraic_F, trivial, trivial, Cert.Claims.algebraic_Ffn, trivial, Cert.Claims.algebraic_W, trivial, Cert.Claims.algebraic_In, trivial, Cert.Claims.algebraic_Out, trivial, Cert.Claims.algebraic_Proj, trivial, Cert.Claims.algebraic_Mix, trivial, Cert.Claims.algebraic_ProjB, trivial, Cert.Claims.algebraic_MixB⟩

end Cert.Proof

end
